-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelTail (m : (ℓ : Loc Cert.KernelTail.nD Cert.KernelTail.τ Cert.KernelTail.sig) → Buf (Elt Bits) ℓ) : Prop :=
  True

def Pre_KernelTailIdeal (m : (ℓ : Loc Cert.KernelTailIdeal.nD Cert.KernelTailIdeal.τ Cert.KernelTailIdeal.sig) → Buf (Elt Ideal) ℓ) : Prop :=
  True

def Pre_KernelTailIdeal_finite_rows [hPre_finite_rows : Cert.Pre_finite_rows.Facts] (m : (ℓ : Loc Cert.KernelTailIdeal.nD Cert.KernelTailIdeal.τ Cert.KernelTailIdeal.sig) → Buf (Elt Ideal) ℓ) : Prop :=
  ∀ c : Dev Cert.KernelTailIdeal.nD,
    (Cert.Pre_finite_rows.fn (F := Ideal) (m ((c.tc : Thread Cert.KernelTailIdeal.nD Cert.KernelTailIdeal.τ).loc Cert.KernelTailIdeal.main_arg0)) (m ((c.tc : Thread Cert.KernelTailIdeal.nD Cert.KernelTailIdeal.τ).loc Cert.KernelTailIdeal.main_arg1)) (m ((c.tc : Thread Cert.KernelTailIdeal.nD Cert.KernelTailIdeal.τ).loc Cert.KernelTailIdeal.main_arg2)) (m ((c.tc : Thread Cert.KernelTailIdeal.nD Cert.KernelTailIdeal.τ).loc Cert.KernelTailIdeal.main_arg3)) (m ((c.tc : Thread Cert.KernelTailIdeal.nD Cert.KernelTailIdeal.τ).loc Cert.KernelTailIdeal.main_arg4)) (m ((c.tc : Thread Cert.KernelTailIdeal.nD Cert.KernelTailIdeal.τ).loc Cert.KernelTailIdeal.main_arg5)) (m ((c.tc : Thread Cert.KernelTailIdeal.nD Cert.KernelTailIdeal.τ).loc Cert.KernelTailIdeal.main_arg6)) (m ((c.tc : Thread Cert.KernelTailIdeal.nD Cert.KernelTailIdeal.τ).loc Cert.KernelTailIdeal.main_arg7)) (m ((c.tc : Thread Cert.KernelTailIdeal.nD Cert.KernelTailIdeal.τ).loc Cert.KernelTailIdeal.main_arg8)) (m ((c.tc : Thread Cert.KernelTailIdeal.nD Cert.KernelTailIdeal.τ).loc Cert.KernelTailIdeal.main_arg9)) (m ((c.tc : Thread Cert.KernelTailIdeal.nD Cert.KernelTailIdeal.τ).loc Cert.KernelTailIdeal.main_arg10)) (m ((c.tc : Thread Cert.KernelTailIdeal.nD Cert.KernelTailIdeal.τ).loc Cert.KernelTailIdeal.main_arg11))).1 = (fun _ => 1#1)
    ∧ (Cert.Pre_finite_rows.fn (F := Ideal) (m ((c.tc : Thread Cert.KernelTailIdeal.nD Cert.KernelTailIdeal.τ).loc Cert.KernelTailIdeal.main_arg0)) (m ((c.tc : Thread Cert.KernelTailIdeal.nD Cert.KernelTailIdeal.τ).loc Cert.KernelTailIdeal.main_arg1)) (m ((c.tc : Thread Cert.KernelTailIdeal.nD Cert.KernelTailIdeal.τ).loc Cert.KernelTailIdeal.main_arg2)) (m ((c.tc : Thread Cert.KernelTailIdeal.nD Cert.KernelTailIdeal.τ).loc Cert.KernelTailIdeal.main_arg3)) (m ((c.tc : Thread Cert.KernelTailIdeal.nD Cert.KernelTailIdeal.τ).loc Cert.KernelTailIdeal.main_arg4)) (m ((c.tc : Thread Cert.KernelTailIdeal.nD Cert.KernelTailIdeal.τ).loc Cert.KernelTailIdeal.main_arg5)) (m ((c.tc : Thread Cert.KernelTailIdeal.nD Cert.KernelTailIdeal.τ).loc Cert.KernelTailIdeal.main_arg6)) (m ((c.tc : Thread Cert.KernelTailIdeal.nD Cert.KernelTailIdeal.τ).loc Cert.KernelTailIdeal.main_arg7)) (m ((c.tc : Thread Cert.KernelTailIdeal.nD Cert.KernelTailIdeal.τ).loc Cert.KernelTailIdeal.main_arg8)) (m ((c.tc : Thread Cert.KernelTailIdeal.nD Cert.KernelTailIdeal.τ).loc Cert.KernelTailIdeal.main_arg9)) (m ((c.tc : Thread Cert.KernelTailIdeal.nD Cert.KernelTailIdeal.τ).loc Cert.KernelTailIdeal.main_arg10)) (m ((c.tc : Thread Cert.KernelTailIdeal.nD Cert.KernelTailIdeal.τ).loc Cert.KernelTailIdeal.main_arg11))).2.1 = (fun _ => 1#1)
    ∧ (Cert.Pre_finite_rows.fn (F := Ideal) (m ((c.tc : Thread Cert.KernelTailIdeal.nD Cert.KernelTailIdeal.τ).loc Cert.KernelTailIdeal.main_arg0)) (m ((c.tc : Thread Cert.KernelTailIdeal.nD Cert.KernelTailIdeal.τ).loc Cert.KernelTailIdeal.main_arg1)) (m ((c.tc : Thread Cert.KernelTailIdeal.nD Cert.KernelTailIdeal.τ).loc Cert.KernelTailIdeal.main_arg2)) (m ((c.tc : Thread Cert.KernelTailIdeal.nD Cert.KernelTailIdeal.τ).loc Cert.KernelTailIdeal.main_arg3)) (m ((c.tc : Thread Cert.KernelTailIdeal.nD Cert.KernelTailIdeal.τ).loc Cert.KernelTailIdeal.main_arg4)) (m ((c.tc : Thread Cert.KernelTailIdeal.nD Cert.KernelTailIdeal.τ).loc Cert.KernelTailIdeal.main_arg5)) (m ((c.tc : Thread Cert.KernelTailIdeal.nD Cert.KernelTailIdeal.τ).loc Cert.KernelTailIdeal.main_arg6)) (m ((c.tc : Thread Cert.KernelTailIdeal.nD Cert.KernelTailIdeal.τ).loc Cert.KernelTailIdeal.main_arg7)) (m ((c.tc : Thread Cert.KernelTailIdeal.nD Cert.KernelTailIdeal.τ).loc Cert.KernelTailIdeal.main_arg8)) (m ((c.tc : Thread Cert.KernelTailIdeal.nD Cert.KernelTailIdeal.τ).loc Cert.KernelTailIdeal.main_arg9)) (m ((c.tc : Thread Cert.KernelTailIdeal.nD Cert.KernelTailIdeal.τ).loc Cert.KernelTailIdeal.main_arg10)) (m ((c.tc : Thread Cert.KernelTailIdeal.nD Cert.KernelTailIdeal.τ).loc Cert.KernelTailIdeal.main_arg11))).2.2 = (fun _ => 1#1)

def Pre_ReferenceTailIdeal (m : (ℓ : Loc Cert.ReferenceTailIdeal.nD Cert.ReferenceTailIdeal.τ Cert.ReferenceTailIdeal.sig) → Buf (Elt Ideal) ℓ) : Prop :=
  True

def Pre_ReferenceTailIdeal_finite_rows [hPre_finite_rows : Cert.Pre_finite_rows.Facts] (m : (ℓ : Loc Cert.ReferenceTailIdeal.nD Cert.ReferenceTailIdeal.τ Cert.ReferenceTailIdeal.sig) → Buf (Elt Ideal) ℓ) : Prop :=
  ∀ c : Dev Cert.ReferenceTailIdeal.nD,
    (Cert.Pre_finite_rows.fn (F := Ideal) (m ((c.tc : Thread Cert.ReferenceTailIdeal.nD Cert.ReferenceTailIdeal.τ).loc Cert.ReferenceTailIdeal.main_arg0)) (m ((c.tc : Thread Cert.ReferenceTailIdeal.nD Cert.ReferenceTailIdeal.τ).loc Cert.ReferenceTailIdeal.main_arg1)) (m ((c.tc : Thread Cert.ReferenceTailIdeal.nD Cert.ReferenceTailIdeal.τ).loc Cert.ReferenceTailIdeal.main_arg2)) (m ((c.tc : Thread Cert.ReferenceTailIdeal.nD Cert.ReferenceTailIdeal.τ).loc Cert.ReferenceTailIdeal.main_arg3)) (m ((c.tc : Thread Cert.ReferenceTailIdeal.nD Cert.ReferenceTailIdeal.τ).loc Cert.ReferenceTailIdeal.main_arg4)) (m ((c.tc : Thread Cert.ReferenceTailIdeal.nD Cert.ReferenceTailIdeal.τ).loc Cert.ReferenceTailIdeal.main_arg5)) (m ((c.tc : Thread Cert.ReferenceTailIdeal.nD Cert.ReferenceTailIdeal.τ).loc Cert.ReferenceTailIdeal.main_arg6)) (m ((c.tc : Thread Cert.ReferenceTailIdeal.nD Cert.ReferenceTailIdeal.τ).loc Cert.ReferenceTailIdeal.main_arg7)) (m ((c.tc : Thread Cert.ReferenceTailIdeal.nD Cert.ReferenceTailIdeal.τ).loc Cert.ReferenceTailIdeal.main_arg8)) (m ((c.tc : Thread Cert.ReferenceTailIdeal.nD Cert.ReferenceTailIdeal.τ).loc Cert.ReferenceTailIdeal.main_arg9)) (m ((c.tc : Thread Cert.ReferenceTailIdeal.nD Cert.ReferenceTailIdeal.τ).loc Cert.ReferenceTailIdeal.main_arg10)) (m ((c.tc : Thread Cert.ReferenceTailIdeal.nD Cert.ReferenceTailIdeal.τ).loc Cert.ReferenceTailIdeal.main_arg11))).1 = (fun _ => 1#1)
    ∧ (Cert.Pre_finite_rows.fn (F := Ideal) (m ((c.tc : Thread Cert.ReferenceTailIdeal.nD Cert.ReferenceTailIdeal.τ).loc Cert.ReferenceTailIdeal.main_arg0)) (m ((c.tc : Thread Cert.ReferenceTailIdeal.nD Cert.ReferenceTailIdeal.τ).loc Cert.ReferenceTailIdeal.main_arg1)) (m ((c.tc : Thread Cert.ReferenceTailIdeal.nD Cert.ReferenceTailIdeal.τ).loc Cert.ReferenceTailIdeal.main_arg2)) (m ((c.tc : Thread Cert.ReferenceTailIdeal.nD Cert.ReferenceTailIdeal.τ).loc Cert.ReferenceTailIdeal.main_arg3)) (m ((c.tc : Thread Cert.ReferenceTailIdeal.nD Cert.ReferenceTailIdeal.τ).loc Cert.ReferenceTailIdeal.main_arg4)) (m ((c.tc : Thread Cert.ReferenceTailIdeal.nD Cert.ReferenceTailIdeal.τ).loc Cert.ReferenceTailIdeal.main_arg5)) (m ((c.tc : Thread Cert.ReferenceTailIdeal.nD Cert.ReferenceTailIdeal.τ).loc Cert.ReferenceTailIdeal.main_arg6)) (m ((c.tc : Thread Cert.ReferenceTailIdeal.nD Cert.ReferenceTailIdeal.τ).loc Cert.ReferenceTailIdeal.main_arg7)) (m ((c.tc : Thread Cert.ReferenceTailIdeal.nD Cert.ReferenceTailIdeal.τ).loc Cert.ReferenceTailIdeal.main_arg8)) (m ((c.tc : Thread Cert.ReferenceTailIdeal.nD Cert.ReferenceTailIdeal.τ).loc Cert.ReferenceTailIdeal.main_arg9)) (m ((c.tc : Thread Cert.ReferenceTailIdeal.nD Cert.ReferenceTailIdeal.τ).loc Cert.ReferenceTailIdeal.main_arg10)) (m ((c.tc : Thread Cert.ReferenceTailIdeal.nD Cert.ReferenceTailIdeal.τ).loc Cert.ReferenceTailIdeal.main_arg11))).2.1 = (fun _ => 1#1)
    ∧ (Cert.Pre_finite_rows.fn (F := Ideal) (m ((c.tc : Thread Cert.ReferenceTailIdeal.nD Cert.ReferenceTailIdeal.τ).loc Cert.ReferenceTailIdeal.main_arg0)) (m ((c.tc : Thread Cert.ReferenceTailIdeal.nD Cert.ReferenceTailIdeal.τ).loc Cert.ReferenceTailIdeal.main_arg1)) (m ((c.tc : Thread Cert.ReferenceTailIdeal.nD Cert.ReferenceTailIdeal.τ).loc Cert.ReferenceTailIdeal.main_arg2)) (m ((c.tc : Thread Cert.ReferenceTailIdeal.nD Cert.ReferenceTailIdeal.τ).loc Cert.ReferenceTailIdeal.main_arg3)) (m ((c.tc : Thread Cert.ReferenceTailIdeal.nD Cert.ReferenceTailIdeal.τ).loc Cert.ReferenceTailIdeal.main_arg4)) (m ((c.tc : Thread Cert.ReferenceTailIdeal.nD Cert.ReferenceTailIdeal.τ).loc Cert.ReferenceTailIdeal.main_arg5)) (m ((c.tc : Thread Cert.ReferenceTailIdeal.nD Cert.ReferenceTailIdeal.τ).loc Cert.ReferenceTailIdeal.main_arg6)) (m ((c.tc : Thread Cert.ReferenceTailIdeal.nD Cert.ReferenceTailIdeal.τ).loc Cert.ReferenceTailIdeal.main_arg7)) (m ((c.tc : Thread Cert.ReferenceTailIdeal.nD Cert.ReferenceTailIdeal.τ).loc Cert.ReferenceTailIdeal.main_arg8)) (m ((c.tc : Thread Cert.ReferenceTailIdeal.nD Cert.ReferenceTailIdeal.τ).loc Cert.ReferenceTailIdeal.main_arg9)) (m ((c.tc : Thread Cert.ReferenceTailIdeal.nD Cert.ReferenceTailIdeal.τ).loc Cert.ReferenceTailIdeal.main_arg10)) (m ((c.tc : Thread Cert.ReferenceTailIdeal.nD Cert.ReferenceTailIdeal.τ).loc Cert.ReferenceTailIdeal.main_arg11))).2.2 = (fun _ => 1#1)

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelTail [hKernelTail : Cert.KernelTail.Facts] : Prop :=
  ∀ (m : (ℓ : Loc Cert.KernelTail.nD Cert.KernelTail.τ Cert.KernelTail.sig) → Buf (Elt Bits) ℓ) (g : Dev Cert.KernelTail.nD → PrngReg), Pre_KernelTail m →
    θ_run (Cert.KernelTail.defs (F := Bits)) (onTc (τ := Cert.KernelTail.τ) (Cert.KernelTail.main (F := Bits))) ⟨m, fun _ => 0, g⟩ (fun r => (∀ c : Dev Cert.KernelTail.nD,
      r.2.mem ((c.tc : Thread Cert.KernelTail.nD Cert.KernelTail.τ).loc Cert.KernelTail.main_arg0) = m ((c.tc : Thread Cert.KernelTail.nD Cert.KernelTail.τ).loc Cert.KernelTail.main_arg0)
      ∧ r.2.mem ((c.tc : Thread Cert.KernelTail.nD Cert.KernelTail.τ).loc Cert.KernelTail.main_arg1) = m ((c.tc : Thread Cert.KernelTail.nD Cert.KernelTail.τ).loc Cert.KernelTail.main_arg1)
      ∧ r.2.mem ((c.tc : Thread Cert.KernelTail.nD Cert.KernelTail.τ).loc Cert.KernelTail.main_arg2) = m ((c.tc : Thread Cert.KernelTail.nD Cert.KernelTail.τ).loc Cert.KernelTail.main_arg2)
      ∧ r.2.mem ((c.tc : Thread Cert.KernelTail.nD Cert.KernelTail.τ).loc Cert.KernelTail.main_arg3) = m ((c.tc : Thread Cert.KernelTail.nD Cert.KernelTail.τ).loc Cert.KernelTail.main_arg3)
      ∧ r.2.mem ((c.tc : Thread Cert.KernelTail.nD Cert.KernelTail.τ).loc Cert.KernelTail.main_arg4) = m ((c.tc : Thread Cert.KernelTail.nD Cert.KernelTail.τ).loc Cert.KernelTail.main_arg4)
      ∧ r.2.mem ((c.tc : Thread Cert.KernelTail.nD Cert.KernelTail.τ).loc Cert.KernelTail.main_arg5) = m ((c.tc : Thread Cert.KernelTail.nD Cert.KernelTail.τ).loc Cert.KernelTail.main_arg5)
      ∧ r.2.mem ((c.tc : Thread Cert.KernelTail.nD Cert.KernelTail.τ).loc Cert.KernelTail.main_arg6) = m ((c.tc : Thread Cert.KernelTail.nD Cert.KernelTail.τ).loc Cert.KernelTail.main_arg6)
      ∧ r.2.mem ((c.tc : Thread Cert.KernelTail.nD Cert.KernelTail.τ).loc Cert.KernelTail.main_arg7) = m ((c.tc : Thread Cert.KernelTail.nD Cert.KernelTail.τ).loc Cert.KernelTail.main_arg7)
      ∧ r.2.mem ((c.tc : Thread Cert.KernelTail.nD Cert.KernelTail.τ).loc Cert.KernelTail.main_arg8) = m ((c.tc : Thread Cert.KernelTail.nD Cert.KernelTail.τ).loc Cert.KernelTail.main_arg8)
      ∧ r.2.mem ((c.tc : Thread Cert.KernelTail.nD Cert.KernelTail.τ).loc Cert.KernelTail.main_arg9) = m ((c.tc : Thread Cert.KernelTail.nD Cert.KernelTail.τ).loc Cert.KernelTail.main_arg9)
      ∧ r.2.mem ((c.tc : Thread Cert.KernelTail.nD Cert.KernelTail.τ).loc Cert.KernelTail.main_arg10) = m ((c.tc : Thread Cert.KernelTail.nD Cert.KernelTail.τ).loc Cert.KernelTail.main_arg10)
      ∧ r.2.mem ((c.tc : Thread Cert.KernelTail.nD Cert.KernelTail.τ).loc Cert.KernelTail.main_arg11) = m ((c.tc : Thread Cert.KernelTail.nD Cert.KernelTail.τ).loc Cert.KernelTail.main_arg11))
      ∧ r.2.sem = fun _ => 0)

def quiescent_KernelTailIdeal [hKernelTailIdeal : Cert.KernelTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg), Pre_KernelTailIdeal m →
    θ_run (Cert.KernelTailIdeal.defs (F := Ideal)) (onTc (τ := Cert.KernelTailIdeal.τ) (Cert.KernelTailIdeal.main (F := Ideal))) ⟨m, fun _ => 0, g⟩ (fun r => (∀ c : Dev Cert.KernelTailIdeal.nD,
      r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
      ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
      ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
      ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
      ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
      ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
      ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
      ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
      ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
      ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9)
      ∧ r.2.mem ((c.tc : Thread Cert.KernelTailIdeal.nD Cert.KernelTailIdeal.τ).loc Cert.KernelTailIdeal.main_arg10) = m ((c.tc : Thread Cert.KernelTailIdeal.nD Cert.KernelTailIdeal.τ).loc Cert.KernelTailIdeal.main_arg10)
      ∧ r.2.mem ((c.tc : Thread Cert.KernelTailIdeal.nD Cert.KernelTailIdeal.τ).loc Cert.KernelTailIdeal.main_arg11) = m ((c.tc : Thread Cert.KernelTailIdeal.nD Cert.KernelTailIdeal.τ).loc Cert.KernelTailIdeal.main_arg11))
      ∧ r.2.sem = fun _ => 0)

def quiescent_KernelTailIdeal_pre_finite_rows [hKernelTailIdeal : Cert.KernelTailIdeal.Facts] [hPre_finite_rows : Cert.Pre_finite_rows.Facts] : Prop :=
  ∀ (m : (ℓ : Loc Cert.KernelTailIdeal.nD Cert.KernelTailIdeal.τ Cert.KernelTailIdeal.sig) → Buf (Elt Ideal) ℓ) (g : Dev Cert.KernelTailIdeal.nD → PrngReg), Pre_KernelTailIdeal_finite_rows m →
    θ_run (Cert.KernelTailIdeal.defs (F := Ideal)) (onTc (τ := Cert.KernelTailIdeal.τ) (Cert.KernelTailIdeal.main (F := Ideal))) ⟨m, fun _ => 0, g⟩ (fun r => (∀ c : Dev Cert.KernelTailIdeal.nD,
      r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
      ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
      ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
      ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
      ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
      ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
      ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
      ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
      ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
      ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9)
      ∧ r.2.mem ((c.tc : Thread Cert.KernelTailIdeal.nD Cert.KernelTailIdeal.τ).loc Cert.KernelTailIdeal.main_arg10) = m ((c.tc : Thread Cert.KernelTailIdeal.nD Cert.KernelTailIdeal.τ).loc Cert.KernelTailIdeal.main_arg10)
      ∧ r.2.mem ((c.tc : Thread Cert.KernelTailIdeal.nD Cert.KernelTailIdeal.τ).loc Cert.KernelTailIdeal.main_arg11) = m ((c.tc : Thread Cert.KernelTailIdeal.nD Cert.KernelTailIdeal.τ).loc Cert.KernelTailIdeal.main_arg11))
      ∧ r.2.sem = fun _ => 0)

def quiescent_ReferenceTailIdeal [hReferenceTailIdeal : Cert.ReferenceTailIdeal.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1)
      ∧ r.2.mem ((c.tc : Thread Cert.ReferenceTailIdeal.nD Cert.ReferenceTailIdeal.τ).loc Cert.ReferenceTailIdeal.main_arg2) = m ((c.tc : Thread Cert.ReferenceTailIdeal.nD Cert.ReferenceTailIdeal.τ).loc Cert.ReferenceTailIdeal.main_arg2)
      ∧ r.2.mem ((c.tc : Thread Cert.ReferenceTailIdeal.nD Cert.ReferenceTailIdeal.τ).loc Cert.ReferenceTailIdeal.main_arg3) = m ((c.tc : Thread Cert.ReferenceTailIdeal.nD Cert.ReferenceTailIdeal.τ).loc Cert.ReferenceTailIdeal.main_arg3)
      ∧ r.2.mem ((c.tc : Thread Cert.ReferenceTailIdeal.nD Cert.ReferenceTailIdeal.τ).loc Cert.ReferenceTailIdeal.main_arg4) = m ((c.tc : Thread Cert.ReferenceTailIdeal.nD Cert.ReferenceTailIdeal.τ).loc Cert.ReferenceTailIdeal.main_arg4)
      ∧ r.2.mem ((c.tc : Thread Cert.ReferenceTailIdeal.nD Cert.ReferenceTailIdeal.τ).loc Cert.ReferenceTailIdeal.main_arg5) = m ((c.tc : Thread Cert.ReferenceTailIdeal.nD Cert.ReferenceTailIdeal.τ).loc Cert.ReferenceTailIdeal.main_arg5)
      ∧ r.2.mem ((c.tc : Thread Cert.ReferenceTailIdeal.nD Cert.ReferenceTailIdeal.τ).loc Cert.ReferenceTailIdeal.main_arg6) = m ((c.tc : Thread Cert.ReferenceTailIdeal.nD Cert.ReferenceTailIdeal.τ).loc Cert.ReferenceTailIdeal.main_arg6)
      ∧ r.2.mem ((c.tc : Thread Cert.ReferenceTailIdeal.nD Cert.ReferenceTailIdeal.τ).loc Cert.ReferenceTailIdeal.main_arg7) = m ((c.tc : Thread Cert.ReferenceTailIdeal.nD Cert.ReferenceTailIdeal.τ).loc Cert.ReferenceTailIdeal.main_arg7)
      ∧ r.2.mem ((c.tc : Thread Cert.ReferenceTailIdeal.nD Cert.ReferenceTailIdeal.τ).loc Cert.ReferenceTailIdeal.main_arg8) = m ((c.tc : Thread Cert.ReferenceTailIdeal.nD Cert.ReferenceTailIdeal.τ).loc Cert.ReferenceTailIdeal.main_arg8)
      ∧ r.2.mem ((c.tc : Thread Cert.ReferenceTailIdeal.nD Cert.ReferenceTailIdeal.τ).loc Cert.ReferenceTailIdeal.main_arg9) = m ((c.tc : Thread Cert.ReferenceTailIdeal.nD Cert.ReferenceTailIdeal.τ).loc Cert.ReferenceTailIdeal.main_arg9)
      ∧ r.2.mem ((c.tc : Thread Cert.ReferenceTailIdeal.nD Cert.ReferenceTailIdeal.τ).loc Cert.ReferenceTailIdeal.main_arg10) = m ((c.tc : Thread Cert.ReferenceTailIdeal.nD Cert.ReferenceTailIdeal.τ).loc Cert.ReferenceTailIdeal.main_arg10)
      ∧ r.2.mem ((c.tc : Thread Cert.ReferenceTailIdeal.nD Cert.ReferenceTailIdeal.τ).loc Cert.ReferenceTailIdeal.main_arg11) = m ((c.tc : Thread Cert.ReferenceTailIdeal.nD Cert.ReferenceTailIdeal.τ).loc Cert.ReferenceTailIdeal.main_arg11))
      ∧ r.2.sem = fun _ => 0)

def quiescent_ReferenceTailIdeal_pre_finite_rows [hReferenceTailIdeal : Cert.ReferenceTailIdeal.Facts] [hPre_finite_rows : Cert.Pre_finite_rows.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal_finite_rows m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1)
      ∧ r.2.mem ((c.tc : Thread Cert.ReferenceTailIdeal.nD Cert.ReferenceTailIdeal.τ).loc Cert.ReferenceTailIdeal.main_arg2) = m ((c.tc : Thread Cert.ReferenceTailIdeal.nD Cert.ReferenceTailIdeal.τ).loc Cert.ReferenceTailIdeal.main_arg2)
      ∧ r.2.mem ((c.tc : Thread Cert.ReferenceTailIdeal.nD Cert.ReferenceTailIdeal.τ).loc Cert.ReferenceTailIdeal.main_arg3) = m ((c.tc : Thread Cert.ReferenceTailIdeal.nD Cert.ReferenceTailIdeal.τ).loc Cert.ReferenceTailIdeal.main_arg3)
      ∧ r.2.mem ((c.tc : Thread Cert.ReferenceTailIdeal.nD Cert.ReferenceTailIdeal.τ).loc Cert.ReferenceTailIdeal.main_arg4) = m ((c.tc : Thread Cert.ReferenceTailIdeal.nD Cert.ReferenceTailIdeal.τ).loc Cert.ReferenceTailIdeal.main_arg4)
      ∧ r.2.mem ((c.tc : Thread Cert.ReferenceTailIdeal.nD Cert.ReferenceTailIdeal.τ).loc Cert.ReferenceTailIdeal.main_arg5) = m ((c.tc : Thread Cert.ReferenceTailIdeal.nD Cert.ReferenceTailIdeal.τ).loc Cert.ReferenceTailIdeal.main_arg5)
      ∧ r.2.mem ((c.tc : Thread Cert.ReferenceTailIdeal.nD Cert.ReferenceTailIdeal.τ).loc Cert.ReferenceTailIdeal.main_arg6) = m ((c.tc : Thread Cert.ReferenceTailIdeal.nD Cert.ReferenceTailIdeal.τ).loc Cert.ReferenceTailIdeal.main_arg6)
      ∧ r.2.mem ((c.tc : Thread Cert.ReferenceTailIdeal.nD Cert.ReferenceTailIdeal.τ).loc Cert.ReferenceTailIdeal.main_arg7) = m ((c.tc : Thread Cert.ReferenceTailIdeal.nD Cert.ReferenceTailIdeal.τ).loc Cert.ReferenceTailIdeal.main_arg7)
      ∧ r.2.mem ((c.tc : Thread Cert.ReferenceTailIdeal.nD Cert.ReferenceTailIdeal.τ).loc Cert.ReferenceTailIdeal.main_arg8) = m ((c.tc : Thread Cert.ReferenceTailIdeal.nD Cert.ReferenceTailIdeal.τ).loc Cert.ReferenceTailIdeal.main_arg8)
      ∧ r.2.mem ((c.tc : Thread Cert.ReferenceTailIdeal.nD Cert.ReferenceTailIdeal.τ).loc Cert.ReferenceTailIdeal.main_arg9) = m ((c.tc : Thread Cert.ReferenceTailIdeal.nD Cert.ReferenceTailIdeal.τ).loc Cert.ReferenceTailIdeal.main_arg9)
      ∧ r.2.mem ((c.tc : Thread Cert.ReferenceTailIdeal.nD Cert.ReferenceTailIdeal.τ).loc Cert.ReferenceTailIdeal.main_arg10) = m ((c.tc : Thread Cert.ReferenceTailIdeal.nD Cert.ReferenceTailIdeal.τ).loc Cert.ReferenceTailIdeal.main_arg10)
      ∧ r.2.mem ((c.tc : Thread Cert.ReferenceTailIdeal.nD Cert.ReferenceTailIdeal.τ).loc Cert.ReferenceTailIdeal.main_arg11) = m ((c.tc : Thread Cert.ReferenceTailIdeal.nD Cert.ReferenceTailIdeal.τ).loc Cert.ReferenceTailIdeal.main_arg11))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "clamp" .f32 0x42200000#32 ⊤
  ∧ IdealRules.named_const.Statement Cert.KernelIdeal.κ "gone" .f32 0x42B00000#32 ⊤

def preserves_KernelTail_KernelTailIdeal : Prop :=
  True

def algebraic_KernelTailIdeal_ReferenceTailIdeal_pre_finite_rows [hKernelTailIdeal : Cert.KernelTailIdeal.Facts] [hReferenceTailIdeal : Cert.ReferenceTailIdeal.Facts] [hPre_finite_rows : Cert.Pre_finite_rows.Facts] : Prop :=
  ∀ (m : (ℓ : Loc Cert.KernelTailIdeal.nD Cert.KernelTailIdeal.τ Cert.KernelTailIdeal.sig) → Buf (Elt Ideal) ℓ) (g : Dev Cert.KernelTailIdeal.nD → PrngReg)
    (m' : (ℓ : Loc Cert.ReferenceTailIdeal.nD Cert.ReferenceTailIdeal.τ Cert.ReferenceTailIdeal.sig) → Buf (Elt Ideal) ℓ) (g' : Dev Cert.ReferenceTailIdeal.nD → PrngReg), Pre_KernelTailIdeal_finite_rows m →
    (∀ c : Dev Cert.KernelTailIdeal.nD,
      m' ((c.tc : Thread Cert.ReferenceTailIdeal.nD Cert.ReferenceTailIdeal.τ).loc Cert.ReferenceTailIdeal.main_arg0) = m ((c.tc : Thread Cert.KernelTailIdeal.nD Cert.KernelTailIdeal.τ).loc Cert.KernelTailIdeal.main_arg0)
      ∧ m' ((c.tc : Thread Cert.ReferenceTailIdeal.nD Cert.ReferenceTailIdeal.τ).loc Cert.ReferenceTailIdeal.main_arg1) = m ((c.tc : Thread Cert.KernelTailIdeal.nD Cert.KernelTailIdeal.τ).loc Cert.KernelTailIdeal.main_arg1)
      ∧ m' ((c.tc : Thread Cert.ReferenceTailIdeal.nD Cert.ReferenceTailIdeal.τ).loc Cert.ReferenceTailIdeal.main_arg2) = m ((c.tc : Thread Cert.KernelTailIdeal.nD Cert.KernelTailIdeal.τ).loc Cert.KernelTailIdeal.main_arg2)
      ∧ m' ((c.tc : Thread Cert.ReferenceTailIdeal.nD Cert.ReferenceTailIdeal.τ).loc Cert.ReferenceTailIdeal.main_arg3) = m ((c.tc : Thread Cert.KernelTailIdeal.nD Cert.KernelTailIdeal.τ).loc Cert.KernelTailIdeal.main_arg3)
      ∧ m' ((c.tc : Thread Cert.ReferenceTailIdeal.nD Cert.ReferenceTailIdeal.τ).loc Cert.ReferenceTailIdeal.main_arg4) = m ((c.tc : Thread Cert.KernelTailIdeal.nD Cert.KernelTailIdeal.τ).loc Cert.KernelTailIdeal.main_arg4)
      ∧ m' ((c.tc : Thread Cert.ReferenceTailIdeal.nD Cert.ReferenceTailIdeal.τ).loc Cert.ReferenceTailIdeal.main_arg5) = m ((c.tc : Thread Cert.KernelTailIdeal.nD Cert.KernelTailIdeal.τ).loc Cert.KernelTailIdeal.main_arg5)
      ∧ m' ((c.tc : Thread Cert.ReferenceTailIdeal.nD Cert.ReferenceTailIdeal.τ).loc Cert.ReferenceTailIdeal.main_arg6) = m ((c.tc : Thread Cert.KernelTailIdeal.nD Cert.KernelTailIdeal.τ).loc Cert.KernelTailIdeal.main_arg6)
      ∧ m' ((c.tc : Thread Cert.ReferenceTailIdeal.nD Cert.ReferenceTailIdeal.τ).loc Cert.ReferenceTailIdeal.main_arg7) = m ((c.tc : Thread Cert.KernelTailIdeal.nD Cert.KernelTailIdeal.τ).loc Cert.KernelTailIdeal.main_arg7)
      ∧ m' ((c.tc : Thread Cert.ReferenceTailIdeal.nD Cert.ReferenceTailIdeal.τ).loc Cert.ReferenceTailIdeal.main_arg8) = m ((c.tc : Thread Cert.KernelTailIdeal.nD Cert.KernelTailIdeal.τ).loc Cert.KernelTailIdeal.main_arg8)
      ∧ m' ((c.tc : Thread Cert.ReferenceTailIdeal.nD Cert.ReferenceTailIdeal.τ).loc Cert.ReferenceTailIdeal.main_arg9) = m ((c.tc : Thread Cert.KernelTailIdeal.nD Cert.KernelTailIdeal.τ).loc Cert.KernelTailIdeal.main_arg9)
      ∧ m' ((c.tc : Thread Cert.ReferenceTailIdeal.nD Cert.ReferenceTailIdeal.τ).loc Cert.ReferenceTailIdeal.main_arg10) = m ((c.tc : Thread Cert.KernelTailIdeal.nD Cert.KernelTailIdeal.τ).loc Cert.KernelTailIdeal.main_arg10)
      ∧ m' ((c.tc : Thread Cert.ReferenceTailIdeal.nD Cert.ReferenceTailIdeal.τ).loc Cert.ReferenceTailIdeal.main_arg11) = m ((c.tc : Thread Cert.KernelTailIdeal.nD Cert.KernelTailIdeal.τ).loc Cert.KernelTailIdeal.main_arg11)) →
    ∃ (v0 : (c : Dev Cert.KernelTailIdeal.nD) → Buf (Elt Ideal) ((c.tc : Thread Cert.KernelTailIdeal.nD Cert.KernelTailIdeal.τ).loc Cert.KernelTailIdeal.main_v29)),
      θ_run (Cert.KernelTailIdeal.defs (F := Ideal)) (onTc (τ := Cert.KernelTailIdeal.τ) (Cert.KernelTailIdeal.main (F := Ideal))) ⟨m, fun _ => 0, g⟩ (fun r => ∀ c : Dev Cert.KernelTailIdeal.nD,
          r.2.mem ((c.tc : Thread Cert.KernelTailIdeal.nD Cert.KernelTailIdeal.τ).loc Cert.KernelTailIdeal.main_v29) = v0 c
          ∧ r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
          ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
          ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
          ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
          ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
          ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
          ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
          ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
          ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
          ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9)
          ∧ r.2.mem ((c.tc : Thread Cert.KernelTailIdeal.nD Cert.KernelTailIdeal.τ).loc Cert.KernelTailIdeal.main_arg10) = m ((c.tc : Thread Cert.KernelTailIdeal.nD Cert.KernelTailIdeal.τ).loc Cert.KernelTailIdeal.main_arg10)
          ∧ r.2.mem ((c.tc : Thread Cert.KernelTailIdeal.nD Cert.KernelTailIdeal.τ).loc Cert.KernelTailIdeal.main_arg11) = m ((c.tc : Thread Cert.KernelTailIdeal.nD Cert.KernelTailIdeal.τ).loc Cert.KernelTailIdeal.main_arg11))
      ∧ θ_run (Cert.ReferenceTailIdeal.defs (F := Ideal)) (onTc (τ := Cert.ReferenceTailIdeal.τ) (Cert.ReferenceTailIdeal.main (F := Ideal))) ⟨m', fun _ => 0, g'⟩ (fun r => ∀ c : Dev Cert.ReferenceTailIdeal.nD,
          r.2.mem ((c.tc : Thread Cert.ReferenceTailIdeal.nD Cert.ReferenceTailIdeal.τ).loc Cert.ReferenceTailIdeal.main_v129) = v0 c
          ∧ r.2.mem ((c.tc : Thread Cert.ReferenceTailIdeal.nD Cert.ReferenceTailIdeal.τ).loc Cert.ReferenceTailIdeal.main_arg0) = m' ((c.tc : Thread Cert.ReferenceTailIdeal.nD Cert.ReferenceTailIdeal.τ).loc Cert.ReferenceTailIdeal.main_arg0)
          ∧ r.2.mem ((c.tc : Thread Cert.ReferenceTailIdeal.nD Cert.ReferenceTailIdeal.τ).loc Cert.ReferenceTailIdeal.main_arg1) = m' ((c.tc : Thread Cert.ReferenceTailIdeal.nD Cert.ReferenceTailIdeal.τ).loc Cert.ReferenceTailIdeal.main_arg1)
          ∧ r.2.mem ((c.tc : Thread Cert.ReferenceTailIdeal.nD Cert.ReferenceTailIdeal.τ).loc Cert.ReferenceTailIdeal.main_arg2) = m' ((c.tc : Thread Cert.ReferenceTailIdeal.nD Cert.ReferenceTailIdeal.τ).loc Cert.ReferenceTailIdeal.main_arg2)
          ∧ r.2.mem ((c.tc : Thread Cert.ReferenceTailIdeal.nD Cert.ReferenceTailIdeal.τ).loc Cert.ReferenceTailIdeal.main_arg3) = m' ((c.tc : Thread Cert.ReferenceTailIdeal.nD Cert.ReferenceTailIdeal.τ).loc Cert.ReferenceTailIdeal.main_arg3)
          ∧ r.2.mem ((c.tc : Thread Cert.ReferenceTailIdeal.nD Cert.ReferenceTailIdeal.τ).loc Cert.ReferenceTailIdeal.main_arg4) = m' ((c.tc : Thread Cert.ReferenceTailIdeal.nD Cert.ReferenceTailIdeal.τ).loc Cert.ReferenceTailIdeal.main_arg4)
          ∧ r.2.mem ((c.tc : Thread Cert.ReferenceTailIdeal.nD Cert.ReferenceTailIdeal.τ).loc Cert.ReferenceTailIdeal.main_arg5) = m' ((c.tc : Thread Cert.ReferenceTailIdeal.nD Cert.ReferenceTailIdeal.τ).loc Cert.ReferenceTailIdeal.main_arg5)
          ∧ r.2.mem ((c.tc : Thread Cert.ReferenceTailIdeal.nD Cert.ReferenceTailIdeal.τ).loc Cert.ReferenceTailIdeal.main_arg6) = m' ((c.tc : Thread Cert.ReferenceTailIdeal.nD Cert.ReferenceTailIdeal.τ).loc Cert.ReferenceTailIdeal.main_arg6)
          ∧ r.2.mem ((c.tc : Thread Cert.ReferenceTailIdeal.nD Cert.ReferenceTailIdeal.τ).loc Cert.ReferenceTailIdeal.main_arg7) = m' ((c.tc : Thread Cert.ReferenceTailIdeal.nD Cert.ReferenceTailIdeal.τ).loc Cert.ReferenceTailIdeal.main_arg7)
          ∧ r.2.mem ((c.tc : Thread Cert.ReferenceTailIdeal.nD Cert.ReferenceTailIdeal.τ).loc Cert.ReferenceTailIdeal.main_arg8) = m' ((c.tc : Thread Cert.ReferenceTailIdeal.nD Cert.ReferenceTailIdeal.τ).loc Cert.ReferenceTailIdeal.main_arg8)
          ∧ r.2.mem ((c.tc : Thread Cert.ReferenceTailIdeal.nD Cert.ReferenceTailIdeal.τ).loc Cert.ReferenceTailIdeal.main_arg9) = m' ((c.tc : Thread Cert.ReferenceTailIdeal.nD Cert.ReferenceTailIdeal.τ).loc Cert.ReferenceTailIdeal.main_arg9)
          ∧ r.2.mem ((c.tc : Thread Cert.ReferenceTailIdeal.nD Cert.ReferenceTailIdeal.τ).loc Cert.ReferenceTailIdeal.main_arg10) = m' ((c.tc : Thread Cert.ReferenceTailIdeal.nD Cert.ReferenceTailIdeal.τ).loc Cert.ReferenceTailIdeal.main_arg10)
          ∧ r.2.mem ((c.tc : Thread Cert.ReferenceTailIdeal.nD Cert.ReferenceTailIdeal.τ).loc Cert.ReferenceTailIdeal.main_arg11) = m' ((c.tc : Thread Cert.ReferenceTailIdeal.nD Cert.ReferenceTailIdeal.τ).loc Cert.ReferenceTailIdeal.main_arg11))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)) →
    ∃ (v0 : (c : Dev Cert.KernelQkvIdeal.nD) → Buf (Elt Ideal) ((c.tc : Thread Cert.KernelQkvIdeal.nD Cert.KernelQkvIdeal.τ).loc Cert.KernelQkvIdeal.main_v2_0)) (v1 : (c : Dev Cert.KernelQkvIdeal.nD) → Buf (Elt Ideal) ((c.tc : Thread Cert.KernelQkvIdeal.nD Cert.KernelQkvIdeal.τ).loc Cert.KernelQkvIdeal.main_v2_1)) (v2 : (c : Dev Cert.KernelQkvIdeal.nD) → Buf (Elt Ideal) ((c.tc : Thread Cert.KernelQkvIdeal.nD Cert.KernelQkvIdeal.τ).loc Cert.KernelQkvIdeal.main_v2_2)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v2_0) = v0 c
          ∧ r.2.mem ((c.tc : Thread Cert.KernelQkvIdeal.nD Cert.KernelQkvIdeal.τ).loc Cert.KernelQkvIdeal.main_v2_1) = v1 c
          ∧ r.2.mem ((c.tc : Thread Cert.KernelQkvIdeal.nD Cert.KernelQkvIdeal.τ).loc Cert.KernelQkvIdeal.main_v2_2) = v2 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v22) = v0 c
          ∧ r.2.mem ((c.tc : Thread Cert.ReferenceQkvIdeal.nD Cert.ReferenceQkvIdeal.τ).loc Cert.ReferenceQkvIdeal.main_v25) = v1 c
          ∧ r.2.mem ((c.tc : Thread Cert.ReferenceQkvIdeal.nD Cert.ReferenceQkvIdeal.τ).loc Cert.ReferenceQkvIdeal.main_v28) = v2 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2))

def Claim : Prop :=
  ∃ (hKernel : Cert.Kernel.Facts) (hKernelIdeal : Cert.KernelIdeal.Facts) (hReferenceIdeal : Cert.ReferenceIdeal.Facts) (hKernelTail : Cert.KernelTail.Facts) (hKernelTailIdeal : Cert.KernelTailIdeal.Facts) (hReferenceTailIdeal : Cert.ReferenceTailIdeal.Facts) (hKernelQkv : Cert.KernelQkv.Facts) (hKernelQkvIdeal : Cert.KernelQkvIdeal.Facts) (hReferenceQkvIdeal : Cert.ReferenceQkvIdeal.Facts) (hPre_finite_rows : Cert.Pre_finite_rows.Facts),
    quiescent_Kernel (hKernel := hKernel)
    ∧ quiescent_KernelIdeal (hKernelIdeal := hKernelIdeal)
    ∧ quiescent_ReferenceIdeal (hReferenceIdeal := hReferenceIdeal)
    ∧ quiescent_KernelTail (hKernelTail := hKernelTail)
    ∧ quiescent_KernelTailIdeal (hKernelTailIdeal := hKernelTailIdeal)
    ∧ quiescent_KernelTailIdeal_pre_finite_rows (hKernelTailIdeal := hKernelTailIdeal) (hPre_finite_rows := hPre_finite_rows)
    ∧ quiescent_ReferenceTailIdeal (hReferenceTailIdeal := hReferenceTailIdeal)
    ∧ quiescent_ReferenceTailIdeal_pre_finite_rows (hReferenceTailIdeal := hReferenceTailIdeal) (hPre_finite_rows := hPre_finite_rows)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ preserves_Kernel_KernelIdeal
    ∧ preserves_KernelTail_KernelTailIdeal
    ∧ algebraic_KernelTailIdeal_ReferenceTailIdeal_pre_finite_rows (hKernelTailIdeal := hKernelTailIdeal) (hReferenceTailIdeal := hReferenceTailIdeal) (hPre_finite_rows := hPre_finite_rows)
    ∧ preserves_KernelQkv_KernelQkvIdeal
    ∧ algebraic_KernelQkvIdeal_ReferenceQkvIdeal (hKernelQkvIdeal := hKernelQkvIdeal) (hReferenceQkvIdeal := hReferenceQkvIdeal)
-- ==== Pre_finite_rows.lean ====
abbrev S8x4096x1024 : Shape := ⟨3, ![8, 4096, 1024]⟩
abbrev S8x4096x512 : Shape := ⟨3, ![8, 4096, 512]⟩
abbrev S1024 : Shape := ⟨1, ![1024]⟩
abbrev S1024x5632 : Shape := ⟨2, ![1024, 5632]⟩
abbrev S8x64 : Shape := ⟨2, ![8, 64]⟩
abbrev S8x128x128 : Shape := ⟨3, ![8, 128, 128]⟩
abbrev S8x128 : Shape := ⟨2, ![8, 128]⟩
abbrev S512x1024 : Shape := ⟨2, ![512, 1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  bcast_S_S1024 : S_.BroadcastsInDim S1024 (![] : Fin 0 → Fin S1024.rank)
  bcast_S_S1024x5632 : S_.BroadcastsInDim S1024x5632 (![] : Fin 0 → Fin S1024x5632.rank)

variable [Facts]

def fn {F : FTy → Type} [FloatOps F] (main_arg0 : FVec F S8x4096x1024 .f32) (main_arg1 : FVec F S8x4096x512 .f32) (main_arg2 : FVec F S1024 .f32) (main_arg3 : FVec F S1024x5632 .f32) (main_arg4 : FVec F S8x64 .f32) (main_arg5 : FVec F S8x64 .f32) (main_arg6 : FVec F S8x128x128 .f32) (main_arg7 : FVec F S8x128 .f32) (main_arg8 : FVec F S512x1024 .f32) (main_arg9 : FVec F S512x1024 .f32) (main_arg10 : FVec F S1024x1024 .f32) (main_arg11 : FVec F S1024 .f32) : IVec S8x4096x1024 1 × IVec S1024 1 × IVec S1024x5632 1 :=
  let main_v0 : FVec F S8x4096x1024 .f32 := subf main_arg0 main_arg0
  let main_cst : FVec F S_ .f32 := constant S_ .f32 0x00000000#32
  let main_v1 : FVec F S8x4096x1024 .f32 := broadcastInDim S8x4096x1024 ![] bcast_S_S8x4096x1024 main_cst
  let main_v2 : IVec S8x4096x1024 1 := cmpf .oeq main_v0 main_v1
  let main_v3 : FVec F S1024 .f32 := subf main_arg2 main_arg2
  let main_cst_0 : FVec F S_ .f32 := constant S_ .f32 0x00000000#32
  let main_v4 : FVec F S1024 .f32 := broadcastInDim S1024 ![] bcast_S_S1024 main_cst_0
  let main_v5 : IVec S1024 1 := cmpf .oeq main_v3 main_v4
  let main_v6 : FVec F S1024x5632 .f32 := subf main_arg3 main_arg3
  let main_cst_1 : FVec F S_ .f32 := constant S_ .f32 0x00000000#32
  let main_v7 : FVec F S1024x5632 .f32 := broadcastInDim S1024x5632 ![] bcast_S_S1024x5632 main_cst_1
  let main_v8 : IVec S1024x5632 1 := cmpf .oeq main_v6 main_v7
  (main_v2, main_v5, main_v8)
-- ==== Kernel.lean ====
abbrev S8x4096x8x64 : Shape := ⟨4, ![8, 4096, 8, 64]⟩
abbrev S1024x5632 : Shape := ⟨2, ![1024, 5632]⟩
abbrev S512x1024 : Shape := ⟨2, ![512, 1024]⟩
abbrev S1024x1024 : Shape := ⟨2, ![1024, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x256 : Shape := ⟨2, ![512, 256]⟩
abbrev S_ : Shape := ⟨0, ![]⟩
abbrev S8x4096x4x128 : Shape := ⟨4, ![8, 4096, 4, 128]⟩
abbrev S4x8x4096x128 : Shape := ⟨4, ![4, 8, 4096, 128]⟩
abbrev S8x4096x512 : Shape := ⟨3, ![8, 4096, 512]⟩
abbrev S1024x4096 : Shape := ⟨2, ![1024, 4096]⟩
abbrev S4x1x1024x128 : Shape := ⟨4, ![4, 1, 1024, 128]⟩
abbrev S4x1x4096x128 : Shape := ⟨4, ![4, 1, 4096, 128]⟩
abbrev S1024x128 : Shape := ⟨2, ![1024, 128]⟩
abbrev S16x1024 : Shape := ⟨2, ![16, 1024]⟩
abbrev S32x1024 : Shape := ⟨2, ![32, 1024]⟩
abbrev S1x1024x512 : Shape := ⟨3, ![1, 1024, 512]⟩
abbrev S32x256x128 : Shape := ⟨3, ![32, 256, 128]⟩
abbrev S32 : Shape := ⟨1, ![32]⟩
abbrev S1 : Shape := ⟨1, ![1]⟩
abbrev S128x128 : Shape := ⟨2, ![128, 128]⟩
abbrev S1x1x128x128 : Shape := ⟨4, ![1, 1, 128, 128]⟩
abbrev S256x128 : Shape := ⟨2, ![256, 128]⟩
abbrev S1x1x256x128 : Shape := ⟨4, ![1, 1, 256, 128]⟩
abbrev S256x512 : Shape := ⟨2, ![256, 512]⟩
abbrev S1x256x128 : Shape := ⟨3, ![1, 256, 128]⟩
abbrev S128 : Shape := ⟨1, ![128]⟩
abbrev S1x128 : Shape := ⟨2, ![1, 128]⟩
abbrev S1x1 : Shape := ⟨2, ![1, 1]⟩
abbrev S1x1x1 : Shape := ⟨3, ![1, 1, 1]⟩
abbrev S1x128x128 : Shape := ⟨3, ![1, 128, 128]⟩

abbrev nBuf : Space → Nat
  | .hbm => 32
  | .vmem => 27
  | .smem => 2
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S1024x5632, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S256, .i32⟩
  | .hbm, ⟨8, _⟩ => ⟨S256x1, .i32⟩
  | .hbm, ⟨9, _⟩ => ⟨S1x256, .i32⟩
  | .hbm, ⟨10, _⟩ => ⟨S256x256, .i32⟩
  | .hbm, ⟨11, _⟩ => ⟨S256x256, .i32⟩
  | .hbm, ⟨12, _⟩ => ⟨S256x256, .i1⟩
  | .hbm, ⟨13, _⟩ => ⟨S256x256, .bf16⟩
  | .hbm, ⟨14, _⟩ => ⟨S512x256, .bf16⟩
  | .hbm, ⟨15, _⟩ => ⟨S_, .f32⟩
  | .hbm, ⟨16, _⟩ => ⟨S8x4096x8x64, .f32⟩
  | .hbm, ⟨17, _⟩ => ⟨S8x4096x8x64, .f32⟩
  | .hbm, ⟨18, _⟩ => ⟨S8x4096x8x64, .bf16⟩
  | .hbm, ⟨19, _⟩ => ⟨S8x4096x4x128, .bf16⟩
  | .hbm, ⟨20, _⟩ => ⟨S4x8x4096x128, .bf16⟩
  | .hbm, ⟨21, _⟩ => ⟨S8x4096x8x64, .bf16⟩
  | .hbm, ⟨22, _⟩ => ⟨S8x4096x4x128, .bf16⟩
  | .hbm, ⟨23, _⟩ => ⟨S4x8x4096x128, .bf16⟩
  | .hbm, ⟨24, _⟩ => ⟨S8x4096x8x64, .bf16⟩
  | .hbm, ⟨25, _⟩ => ⟨S8x4096x4x128, .bf16⟩
  | .hbm, ⟨26, _⟩ => ⟨S4x8x4096x128, .bf16⟩
  | .hbm, ⟨27, _⟩ => ⟨S8x4096x512, .f32⟩
  | .hbm, ⟨28, _⟩ => ⟨S1024x4096, .bf16⟩
  | .hbm, ⟨29, _⟩ => ⟨S512x1024, .bf16⟩
  | .hbm, ⟨30, _⟩ => ⟨S512x1024, .bf16⟩
  | .hbm, ⟨31, _⟩ => ⟨S1024x1024, .bf16⟩
  | .local _ .vmem, ⟨0, _⟩ => ⟨S4x1x1024x128, .bf16⟩
  | .local _ .vmem, ⟨1, _⟩ => ⟨S4x1x1024x128, .bf16⟩
  | .local _ .vmem, ⟨2, _⟩ => ⟨S4x1x4096x128, .bf16⟩
  | .local _ .vmem, ⟨3, _⟩ => ⟨S4x1x4096x128, .bf16⟩
  | .local _ .vmem, ⟨4, _⟩ => ⟨S4x1x4096x128, .bf16⟩
  | .local _ .vmem, ⟨5, _⟩ => ⟨S4x1x4096x128, .bf16⟩
  | .local _ .vmem, ⟨6, _⟩ => ⟨S512x256, .bf16⟩
  | .local _ .vmem, ⟨7, _⟩ => ⟨S1024x128, .f32⟩
  | .local _ .vmem, ⟨8, _⟩ => ⟨S1024x128, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S32x1024, .f32⟩
  | .local _ .vmem, ⟨14, _⟩ => ⟨S32x1024, .f32⟩
  | .local _ .vmem, ⟨15, _⟩ => ⟨S1x1024x512, .f32⟩
  | .local _ .vmem, ⟨16, _⟩ => ⟨S1x1024x512, .f32⟩
  | .local _ .vmem, ⟨17, _⟩ => ⟨S1024x128, .bf16⟩
  | .local _ .vmem, ⟨18, _⟩ => ⟨S1024x128, .bf16⟩
  | .local _ .vmem, ⟨19, _⟩ => ⟨S16x1024, .bf16⟩
  | .local _ .vmem, ⟨20, _⟩ => ⟨S16x1024, .bf16⟩
  | .local _ .vmem, ⟨21, _⟩ => ⟨S16x1024, .bf16⟩
  | .local _ .vmem, ⟨22, _⟩ => ⟨S16x1024, .bf16⟩
  | .local _ .vmem, ⟨23, _⟩ => ⟨S32x1024, .bf16⟩
  | .local _ .vmem, ⟨24, _⟩ => ⟨S32x1024, .bf16⟩
  | .local _ .vmem, ⟨25, _⟩ => ⟨S32x256x128, .f32⟩
  | .local _ .vmem, ⟨26, _⟩ => ⟨S32x256x128, .f32⟩
  | .local _ .smem, ⟨0, _⟩ => ⟨S32, .i32⟩
  | .local _ .smem, ⟨1, _⟩ => ⟨S1, .i32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev main_v19_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.smem, 0, rfl⟩
abbrev cc0_scratch3 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v12 : BitVec 32 := Scalar.muli arg1 c1024_i32
  let c128_i32 : BitVec 32 := 128#32
  let v20 : BitVec 32 := Scalar.addi v12 c128_i32
  let c256_i32 : BitVec 32 := 256#32
  let v21 : BitVec 32 := Scalar.subi v20 c256_i32
  let c0_i32 : BitVec 32 := 0#32
  let v22 : BitVec 32 := Scalar.maxsi v21 c0_i32
  v22
def k0_mult2 (i : grid0.Coords) : BitVec 32 :=
  let arg1 : BitVec 32 := BitVec.ofNat 32 (i 1).val
  let c1024_i32 : BitVec 32 := 1024#32
  let v12 : BitVec 32 := Scalar.muli arg1 c1024_i32
  let c256_i32_15 : BitVec 32 := 256#32
  let v24 : BitVec 32 := Scalar.addi v12 c256_i32_15
  let c256_i32_16 : BitVec 32 := 256#32
  let v25 : BitVec 32 := Scalar.subi v24 c256_i32_16
  let c0_i32_17 : BitVec 32 := 0#32
  let v26 : BitVec 32 := Scalar.maxsi v25 c0_i32_17
  v26
def k0_mult3 (i : grid0.Coords) : BitVec 32 :=
  let arg1 : BitVec 32 := BitVec.ofNat 32 (i 1).val
  let c1024_i32 : BitVec 32 := 1024#32
  let v12 : BitVec 32 := Scalar.muli arg1 c1024_i32
  let c384_i32 : BitVec 32 := 384#32
  let v28 : BitVec 32 := Scalar.addi v12 c384_i32
  let c256_i32_18 : BitVec 32 := 256#32
  let v29 : BitVec 32 := Scalar.subi v28 c256_i32_18
  let c0_i32_19 : BitVec 32 := 0#32
  let v30 : BitVec 32 := Scalar.maxsi v29 c0_i32_19
  v30
def k0_mult4 (i : grid0.Coords) : BitVec 32 :=
  let arg1 : BitVec 32 := BitVec.ofNat 32 (i 1).val
  let c1024_i32 : BitVec 32 := 1024#32
  let v12 : BitVec 32 := Scalar.muli arg1 c1024_i32
  let c512_i32 : BitVec 32 := 512#32
  let v32 : BitVec 32 := Scalar.addi v12 c512_i32
  let c256_i32_20 : BitVec 32 := 256#32
  let v33 : BitVec 32 := Scalar.subi v32 c256_i32_20
  let c0_i32_21 : BitVec 32 := 0#32
  let v34 : BitVec 32 := Scalar.maxsi v33 c0_i32_21
  v34
def k0_mult5 (i : grid0.Coords) : BitVec 32 :=
  let arg1 : BitVec 32 := BitVec.ofNat 32 (i 1).val
  let c1024_i32 : BitVec 32 := 1024#32
  let v12 : BitVec 32 := Scalar.muli arg1 c1024_i32
  let c640_i32 : BitVec 32 := 640#32
  let v36 : BitVec 32 := Scalar.addi v12 c640_i32
  let c256_i32_22 : BitVec 32 := 256#32
  let v37 : BitVec 32 := Scalar.subi v36 c256_i32_22
  let c0_i32_23 : BitVec 32 := 0#32
  let v38 : BitVec 32 := Scalar.maxsi v37 c0_i32_23
  v38
def k0_mult6 (i : grid0.Coords) : BitVec 32 :=
  let arg1 : BitVec 32 := BitVec.ofNat 32 (i 1).val
  let c1024_i32 : BitVec 32 := 1024#32
  let v12 : BitVec 32 := Scalar.muli arg1 c1024_i32
  let c768_i32 : BitVec 32 := 768#32
  let v40 : BitVec 32 := Scalar.addi v12 c768_i32
  let c256_i32_24 : BitVec 32 := 256#32
  let v41 : BitVec 32 := Scalar.subi v40 c256_i32_24
  let c0_i32_25 : BitVec 32 := 0#32
  let v42 : BitVec 32 := Scalar.maxsi v41 c0_i32_25
  v42
def k0_mult7 (i : grid0.Coords) : BitVec 32 :=
  let arg1 : BitVec 32 := BitVec.ofNat 32 (i 1).val
  let c1024_i32 : BitVec 32 := 1024#32
  let v12 : BitVec 32 := Scalar.muli arg1 c1024_i32
  let c896_i32 : BitVec 32 := 896#32
  let v44 : BitVec 32 := Scalar.addi v12 c896_i32
  let c256_i32_26 : BitVec 32 := 256#32
  let v45 : BitVec 32 := Scalar.subi v44 c256_i32_26
  let c0_i32_27 : BitVec 32 := 0#32
  let v46 : BitVec 32 := Scalar.maxsi v45 c0_i32_27
  v46
def k0_mult8 (i : grid0.Coords) : BitVec 32 :=
  let arg1 : BitVec 32 := BitVec.ofNat 32 (i 1).val
  let c1024_i32 : BitVec 32 := 1024#32
  let v12 : BitVec 32 := Scalar.muli arg1 c1024_i32
  let c1024_i32_28 : BitVec 32 := 1024#32
  let v48 : BitVec 32 := Scalar.addi v12 c1024_i32_28
  let c256_i32_29 : BitVec 32 := 256#32
  let v49 : BitVec 32 := Scalar.subi v48 c256_i32_29
  let c0_i32_30 : BitVec 32 := 0#32
  let v50 : BitVec 32 := Scalar.maxsi v49 c0_i32_30
  v50
def k0_off1 (i : grid0.Coords) (c128_i32 : BitVec 32) : Fin 4 → Nat :=
  let c0_36 : Index := 0#32
  let c0_37 : Index := 0#32
  let arg1 : BitVec 32 := BitVec.ofNat 32 (i 1).val
  let c1024_i32 : BitVec 32 := 1024#32
  let v12 : BitVec 32 := Scalar.muli arg1 c1024_i32
  let v20 : BitVec 32 := Scalar.addi v12 c128_i32
  let c256_i32 : BitVec 32 := 256#32
  let v21 : BitVec 32 := Scalar.subi v20 c256_i32
  let c0_i32 : BitVec 32 := 0#32
  let v22 : BitVec 32 := Scalar.maxsi v21 c0_i32
  let v23 : BitVec 32 := v22
  let v63 : Index := Scalar.indexCast v23
  let c0_38 : Index := 0#32
  ![0, 0, v63.toNat, 0]
def k0_off2 (i : grid0.Coords) (c128_i32 : BitVec 32) : Fin 4 → Nat :=
  let c1_46 : Index := 1#32
  let c0_47 : Index := 0#32
  let arg1 : BitVec 32 := BitVec.ofNat 32 (i 1).val
  let c1024_i32 : BitVec 32 := 1024#32
  let v12 : BitVec 32 := Scalar.muli arg1 c1024_i32
  let v20 : BitVec 32 := Scalar.addi v12 c128_i32
  let c256_i32 : BitVec 32 := 256#32
  let v21 : BitVec 32 := Scalar.subi v20 c256_i32
  let c0_i32 : BitVec 32 := 0#32
  let v22 : BitVec 32 := Scalar.maxsi v21 c0_i32
  let v23 : BitVec 32 := v22
  let v80 : Index := Scalar.indexCast v23
  let c0_48 : Index := 0#32
  ![1, 0, v80.toNat, 0]
def k0_off3 (i : grid0.Coords) (c128_i32 : BitVec 32) : Fin 4 → Nat :=
  let c2_56 : Index := 2#32
  let c0_57 : Index := 0#32
  let arg1 : BitVec 32 := BitVec.ofNat 32 (i 1).val
  let c1024_i32 : BitVec 32 := 1024#32
  let v12 : BitVec 32 := Scalar.muli arg1 c1024_i32
  let v20 : BitVec 32 := Scalar.addi v12 c128_i32
  let c256_i32 : BitVec 32 := 256#32
  let v21 : BitVec 32 := Scalar.subi v20 c256_i32
  let c0_i32 : BitVec 32 := 0#32
  let v22 : BitVec 32 := Scalar.maxsi v21 c0_i32
  let v23 : BitVec 32 := v22
  let v97 : Index := Scalar.indexCast v23
  let c0_58 : Index := 0#32
  ![2, 0, v97.toNat, 0]
def k0_off4 (i : grid0.Coords) (c128_i32 : BitVec 32) : Fin 4 → Nat :=
  let c3_66 : Index := 3#32
  let c0_67 : Index := 0#32
  let arg1 : BitVec 32 := BitVec.ofNat 32 (i 1).val
  let c1024_i32 : BitVec 32 := 1024#32
  let v12 : BitVec 32 := Scalar.muli arg1 c1024_i32
  let v20 : BitVec 32 := Scalar.addi v12 c128_i32
  let c256_i32 : BitVec 32 := 256#32
  let v21 : BitVec 32 := Scalar.subi v20 c256_i32
  let c0_i32 : BitVec 32 := 0#32
  let v22 : BitVec 32 := Scalar.maxsi v21 c0_i32
  let v23 : BitVec 32 := v22
  let v114 : Index := Scalar.indexCast v23
  let c0_68 : Index := 0#32
  ![3, 0, v114.toNat, 0]
def k0_off5 (v1765 : BitVec 32) : Fin 1 → Nat :=
  let v1766 : Index := Scalar.indexCast v1765
  ![v1766.toNat]

def k0_chk1 (v1765 : BitVec 32) : Prop :=
  (∀ a, (k0_off5 v1765) a + S1.size a ≤ S32.size a)
theorem k0_off5_inb : ∀ (v1765 : BitVec 32) (k0_hw1 : k0_chk1 v1765), ∀ a, (k0_off5 v1765) a + S1.size a ≤ S32.size a := fun v1765 k0_hw1 => k0_hw1

def k0_off6 (v1776 : BitVec 32) : Fin 1 → Nat :=
  let v1777 : Index := Scalar.indexCast v1776
  ![v1777.toNat]

def k0_chk2 (v1776 : BitVec 32) : Prop :=
  (∀ a, (k0_off6 v1776) a + S1.size a ≤ S32.size a)
theorem k0_off6_inb : ∀ (v1776 : BitVec 32) (k0_hw2 : k0_chk2 v1776), ∀ a, (k0_off6 v1776) a + S1.size a ≤ S32.size a := fun v1776 k0_hw2 => k0_hw2

def k0_off7 (v1787 : BitVec 32) : Fin 1 → Nat :=
  let v1788 : Index := Scalar.indexCast v1787
  ![v1788.toNat]

def k0_chk3 (v1787 : BitVec 32) : Prop :=
  (∀ a, (k0_off7 v1787) a + S1.size a ≤ S32.size a)
theorem k0_off7_inb : ∀ (v1787 : BitVec 32) (k0_hw3 : k0_chk3 v1787), ∀ a, (k0_off7 v1787) a + S1.size a ≤ S32.size a := fun v1787 k0_hw3 => k0_hw3

def k0_off8 (v1798 : BitVec 32) : Fin 1 → Nat :=
  let v1799 : Index := Scalar.indexCast v1798
  ![v1799.toNat]

def k0_chk4 (v1798 : BitVec 32) : Prop :=
  (∀ a, (k0_off8 v1798) a + S1.size a ≤ S32.size a)
theorem k0_off8_inb : ∀ (v1798 : BitVec 32) (k0_hw4 : k0_chk4 v1798), ∀ a, (k0_off8 v1798) a + S1.size a ≤ S32.size a := fun v1798 k0_hw4 => k0_hw4

def k0_off9 (v1809 : BitVec 32) : Fin 1 → Nat :=
  let v1810 : Index := Scalar.indexCast v1809
  ![v1810.toNat]

def k0_chk5 (v1809 : BitVec 32) : Prop :=
  (∀ a, (k0_off9 v1809) a + S1.size a ≤ S32.size a)
theorem k0_off9_inb : ∀ (v1809 : BitVec 32) (k0_hw5 : k0_chk5 v1809), ∀ a, (k0_off9 v1809) a + S1.size a ≤ S32.size a := fun v1809 k0_hw5 => k0_hw5

def k0_off10 (v1820 : BitVec 32) : Fin 1 → Nat :=
  let v1821 : Index := Scalar.indexCast v1820
  ![v1821.toNat]

def k0_chk6 (v1820 : BitVec 32) : Prop :=
  (∀ a, (k0_off10 v1820) a + S1.size a ≤ S32.size a)
theorem k0_off10_inb : ∀ (v1820 : BitVec 32) (k0_hw6 : k0_chk6 v1820), ∀ a, (k0_off10 v1820) a + S1.size a ≤ S32.size a := fun v1820 k0_hw6 => k0_hw6

def k0_off11 (v1831 : BitVec 32) : Fin 1 → Nat :=
  let v1832 : Index := Scalar.indexCast v1831
  ![v1832.toNat]

def k0_chk7 (v1831 : BitVec 32) : Prop :=
  (∀ a, (k0_off11 v1831) a + S1.size a ≤ S32.size a)
theorem k0_off11_inb : ∀ (v1831 : BitVec 32) (k0_hw7 : k0_chk7 v1831), ∀ a, (k0_off11 v1831) a + S1.size a ≤ S32.size a := fun v1831 k0_hw7 => k0_hw7

def k0_off12 (v1842 : BitVec 32) : Fin 1 → Nat :=
  let v1843 : Index := Scalar.indexCast v1842
  ![v1843.toNat]

def k0_chk8 (v1842 : BitVec 32) : Prop :=
  (∀ a, (k0_off12 v1842) a + S1.size a ≤ S32.size a)
theorem k0_off12_inb : ∀ (v1842 : BitVec 32) (k0_hw8 : k0_chk8 v1842), ∀ a, (k0_off12 v1842) a + S1.size a ≤ S32.size a := fun v1842 k0_hw8 => k0_hw8

def k0_off13 (v1853 : BitVec 32) : Fin 1 → Nat :=
  let v1854 : Index := Scalar.indexCast v1853
  ![v1854.toNat]

def k0_chk9 (v1853 : BitVec 32) : Prop :=
  (∀ a, (k0_off13 v1853) a + S1.size a ≤ S32.size a)
theorem k0_off13_inb : ∀ (v1853 : BitVec 32) (k0_hw9 : k0_chk9 v1853), ∀ a, (k0_off13 v1853) a + S1.size a ≤ S32.size a := fun v1853 k0_hw9 => k0_hw9

def k0_off14 (v1864 : BitVec 32) : Fin 1 → Nat :=
  let v1865 : Index := Scalar.indexCast v1864
  ![v1865.toNat]

def k0_chk10 (v1864 : BitVec 32) : Prop :=
  (∀ a, (k0_off14 v1864) a + S1.size a ≤ S32.size a)
theorem k0_off14_inb : ∀ (v1864 : BitVec 32) (k0_hw10 : k0_chk10 v1864), ∀ a, (k0_off14 v1864) a + S1.size a ≤ S32.size a := fun v1864 k0_hw10 => k0_hw10

def k0_off15 (v1875 : BitVec 32) : Fin 1 → Nat :=
  let v1876 : Index := Scalar.indexCast v1875
  ![v1876.toNat]

def k0_chk11 (v1875 : BitVec 32) : Prop :=
  (∀ a, (k0_off15 v1875) a + S1.size a ≤ S32.size a)
theorem k0_off15_inb : ∀ (v1875 : BitVec 32) (k0_hw11 : k0_chk11 v1875), ∀ a, (k0_off15 v1875) a + S1.size a ≤ S32.size a := fun v1875 k0_hw11 => k0_hw11

def k0_off16 (v1886 : BitVec 32) : Fin 1 → Nat :=
  let v1887 : Index := Scalar.indexCast v1886
  ![v1887.toNat]

def k0_chk12 (v1886 : BitVec 32) : Prop :=
  (∀ a, (k0_off16 v1886) a + S1.size a ≤ S32.size a)
theorem k0_off16_inb : ∀ (v1886 : BitVec 32) (k0_hw12 : k0_chk12 v1886), ∀ a, (k0_off16 v1886) a + S1.size a ≤ S32.size a := fun v1886 k0_hw12 => k0_hw12

def k0_off17 (v1897 : BitVec 32) : Fin 1 → Nat :=
  let v1898 : Index := Scalar.indexCast v1897
  ![v1898.toNat]

def k0_chk13 (v1897 : BitVec 32) : Prop :=
  (∀ a, (k0_off17 v1897) a + S1.size a ≤ S32.size a)
theorem k0_off17_inb : ∀ (v1897 : BitVec 32) (k0_hw13 : k0_chk13 v1897), ∀ a, (k0_off17 v1897) a + S1.size a ≤ S32.size a := fun v1897 k0_hw13 => k0_hw13

def k0_off18 (v1908 : BitVec 32) : Fin 1 → Nat :=
  let v1909 : Index := Scalar.indexCast v1908
  ![v1909.toNat]

def k0_chk14 (v1908 : BitVec 32) : Prop :=
  (∀ a, (k0_off18 v1908) a + S1.size a ≤ S32.size a)
theorem k0_off18_inb : ∀ (v1908 : BitVec 32) (k0_hw14 : k0_chk14 v1908), ∀ a, (k0_off18 v1908) a + S1.size a ≤ S32.size a := fun v1908 k0_hw14 => k0_hw14

def k0_off19 (v1919 : BitVec 32) : Fin 1 → Nat :=
  let v1920 : Index := Scalar.indexCast v1919
  ![v1920.toNat]

def k0_chk15 (v1919 : BitVec 32) : Prop :=
  (∀ a, (k0_off19 v1919) a + S1.size a ≤ S32.size a)
theorem k0_off19_inb : ∀ (v1919 : BitVec 32) (k0_hw15 : k0_chk15 v1919), ∀ a, (k0_off19 v1919) a + S1.size a ≤ S32.size a := fun v1919 k0_hw15 => k0_hw15

def k0_off20 (v1930 : BitVec 32) : Fin 1 → Nat :=
  let v1931 : Index := Scalar.indexCast v1930
  ![v1931.toNat]

def k0_chk16 (v1930 : BitVec 32) : Prop :=
  (∀ a, (k0_off20 v1930) a + S1.size a ≤ S32.size a)
theorem k0_off20_inb : ∀ (v1930 : BitVec 32) (k0_hw16 : k0_chk16 v1930), ∀ a, (k0_off20 v1930) a + S1.size a ≤ S32.size a := fun v1930 k0_hw16 => k0_hw16

def k0_off21 (v1941 : BitVec 32) : Fin 1 → Nat :=
  let v1942 : Index := Scalar.indexCast v1941
  ![v1942.toNat]

def k0_chk17 (v1941 : BitVec 32) : Prop :=
  (∀ a, (k0_off21 v1941) a + S1.size a ≤ S32.size a)
theorem k0_off21_inb : ∀ (v1941 : BitVec 32) (k0_hw17 : k0_chk17 v1941), ∀ a, (k0_off21 v1941) a + S1.size a ≤ S32.size a := fun v1941 k0_hw17 => k0_hw17

def k0_off22 (v1952 : BitVec 32) : Fin 1 → Nat :=
  let v1953 : Index := Scalar.indexCast v1952
  ![v1953.toNat]

def k0_chk18 (v1952 : BitVec 32) : Prop :=
  (∀ a, (k0_off22 v1952) a + S1.size a ≤ S32.size a)
theorem k0_off22_inb : ∀ (v1952 : BitVec 32) (k0_hw18 : k0_chk18 v1952), ∀ a, (k0_off22 v1952) a + S1.size a ≤ S32.size a := fun v1952 k0_hw18 => k0_hw18

def k0_off23 (v1963 : BitVec 32) : Fin 1 → Nat :=
  let v1964 : Index := Scalar.indexCast v1963
  ![v1964.toNat]

def k0_chk19 (v1963 : BitVec 32) : Prop :=
  (∀ a, (k0_off23 v1963) a + S1.size a ≤ S32.size a)
theorem k0_off23_inb : ∀ (v1963 : BitVec 32) (k0_hw19 : k0_chk19 v1963), ∀ a, (k0_off23 v1963) a + S1.size a ≤ S32.size a := fun v1963 k0_hw19 => k0_hw19

def k0_off24 (v1974 : BitVec 32) : Fin 1 → Nat :=
  let v1975 : Index := Scalar.indexCast v1974
  ![v1975.toNat]

def k0_chk20 (v1974 : BitVec 32) : Prop :=
  (∀ a, (k0_off24 v1974) a + S1.size a ≤ S32.size a)
theorem k0_off24_inb : ∀ (v1974 : BitVec 32) (k0_hw20 : k0_chk20 v1974), ∀ a, (k0_off24 v1974) a + S1.size a ≤ S32.size a := fun v1974 k0_hw20 => k0_hw20

def k0_off25 (v1985 : BitVec 32) : Fin 1 → Nat :=
  let v1986 : Index := Scalar.indexCast v1985
  ![v1986.toNat]

def k0_chk21 (v1985 : BitVec 32) : Prop :=
  (∀ a, (k0_off25 v1985) a + S1.size a ≤ S32.size a)
theorem k0_off25_inb : ∀ (v1985 : BitVec 32) (k0_hw21 : k0_chk21 v1985), ∀ a, (k0_off25 v1985) a + S1.size a ≤ S32.size a := fun v1985 k0_hw21 => k0_hw21

def k0_off26 (v1996 : BitVec 32) : Fin 1 → Nat :=
  let v1997 : Index := Scalar.indexCast v1996
  ![v1997.toNat]

def k0_chk22 (v1996 : BitVec 32) : Prop :=
  (∀ a, (k0_off26 v1996) a + S1.size a ≤ S32.size a)
theorem k0_off26_inb : ∀ (v1996 : BitVec 32) (k0_hw22 : k0_chk22 v1996), ∀ a, (k0_off26 v1996) a + S1.size a ≤ S32.size a := fun v1996 k0_hw22 => k0_hw22

def k0_off27 (v2007 : BitVec 32) : Fin 1 → Nat :=
  let v2008 : Index := Scalar.indexCast v2007
  ![v2008.toNat]

def k0_chk23 (v2007 : BitVec 32) : Prop :=
  (∀ a, (k0_off27 v2007) a + S1.size a ≤ S32.size a)
theorem k0_off27_inb : ∀ (v2007 : BitVec 32) (k0_hw23 : k0_chk23 v2007), ∀ a, (k0_off27 v2007) a + S1.size a ≤ S32.size a := fun v2007 k0_hw23 => k0_hw23

def k0_off28 (v2018 : BitVec 32) : Fin 1 → Nat :=
  let v2019 : Index := Scalar.indexCast v2018
  ![v2019.toNat]

def k0_chk24 (v2018 : BitVec 32) : Prop :=
  (∀ a, (k0_off28 v2018) a + S1.size a ≤ S32.size a)
theorem k0_off28_inb : ∀ (v2018 : BitVec 32) (k0_hw24 : k0_chk24 v2018), ∀ a, (k0_off28 v2018) a + S1.size a ≤ S32.size a := fun v2018 k0_hw24 => k0_hw24

def k0_off29 (v2029 : BitVec 32) : Fin 1 → Nat :=
  let v2030 : Index := Scalar.indexCast v2029
  ![v2030.toNat]

def k0_chk25 (v2029 : BitVec 32) : Prop :=
  (∀ a, (k0_off29 v2029) a + S1.size a ≤ S32.size a)
theorem k0_off29_inb : ∀ (v2029 : BitVec 32) (k0_hw25 : k0_chk25 v2029), ∀ a, (k0_off29 v2029) a + S1.size a ≤ S32.size a := fun v2029 k0_hw25 => k0_hw25

def k0_off30 (v2040 : BitVec 32) : Fin 1 → Nat :=
  let v2041 : Index := Scalar.indexCast v2040
  ![v2041.toNat]

def k0_chk26 (v2040 : BitVec 32) : Prop :=
  (∀ a, (k0_off30 v2040) a + S1.size a ≤ S32.size a)
theorem k0_off30_inb : ∀ (v2040 : BitVec 32) (k0_hw26 : k0_chk26 v2040), ∀ a, (k0_off30 v2040) a + S1.size a ≤ S32.size a := fun v2040 k0_hw26 => k0_hw26

def k0_off31 (v2051 : BitVec 32) : Fin 1 → Nat :=
  let v2052 : Index := Scalar.indexCast v2051
  ![v2052.toNat]

def k0_chk27 (v2051 : BitVec 32) : Prop :=
  (∀ a, (k0_off31 v2051) a + S1.size a ≤ S32.size a)
theorem k0_off31_inb : ∀ (v2051 : BitVec 32) (k0_hw27 : k0_chk27 v2051), ∀ a, (k0_off31 v2051) a + S1.size a ≤ S32.size a := fun v2051 k0_hw27 => k0_hw27

def k0_off32 (v2062 : BitVec 32) : Fin 1 → Nat :=
  let v2063 : Index := Scalar.indexCast v2062
  ![v2063.toNat]

def k0_chk28 (v2062 : BitVec 32) : Prop :=
  (∀ a, (k0_off32 v2062) a + S1.size a ≤ S32.size a)
theorem k0_off32_inb : ∀ (v2062 : BitVec 32) (k0_hw28 : k0_chk28 v2062), ∀ a, (k0_off32 v2062) a + S1.size a ≤ S32.size a := fun v2062 k0_hw28 => k0_hw28

def k0_off33 (v2073 : BitVec 32) : Fin 1 → Nat :=
  let v2074 : Index := Scalar.indexCast v2073
  ![v2074.toNat]

def k0_chk29 (v2073 : BitVec 32) : Prop :=
  (∀ a, (k0_off33 v2073) a + S1.size a ≤ S32.size a)
theorem k0_off33_inb : ∀ (v2073 : BitVec 32) (k0_hw29 : k0_chk29 v2073), ∀ a, (k0_off33 v2073) a + S1.size a ≤ S32.size a := fun v2073 k0_hw29 => k0_hw29

def k0_off34 (v2084 : BitVec 32) : Fin 1 → Nat :=
  let v2085 : Index := Scalar.indexCast v2084
  ![v2085.toNat]

def k0_chk30 (v2084 : BitVec 32) : Prop :=
  (∀ a, (k0_off34 v2084) a + S1.size a ≤ S32.size a)
theorem k0_off34_inb : ∀ (v2084 : BitVec 32) (k0_hw30 : k0_chk30 v2084), ∀ a, (k0_off34 v2084) a + S1.size a ≤ S32.size a := fun v2084 k0_hw30 => k0_hw30

def k0_off35 (v2095 : BitVec 32) : Fin 1 → Nat :=
  let v2096 : Index := Scalar.indexCast v2095
  ![v2096.toNat]

def k0_chk31 (v2095 : BitVec 32) : Prop :=
  (∀ a, (k0_off35 v2095) a + S1.size a ≤ S32.size a)
theorem k0_off35_inb : ∀ (v2095 : BitVec 32) (k0_hw31 : k0_chk31 v2095), ∀ a, (k0_off35 v2095) a + S1.size a ≤ S32.size a := fun v2095 k0_hw31 => k0_hw31

def k0_off36 (v2106 : BitVec 32) : Fin 1 → Nat :=
  let v2107 : Index := Scalar.indexCast v2106
  ![v2107.toNat]

def k0_chk32 (v2106 : BitVec 32) : Prop :=
  (∀ a, (k0_off36 v2106) a + S1.size a ≤ S32.size a)
theorem k0_off36_inb : ∀ (v2106 : BitVec 32) (k0_hw32 : k0_chk32 v2106), ∀ a, (k0_off36 v2106) a + S1.size a ≤ S32.size a := fun v2106 k0_hw32 => k0_hw32

@[reducible] def k0_t1_loop (v2117 : BitVec 32) : Scf.Loop 32 :=
  let c0_i32_988 : BitVec 32 := 0#32
  let v2118 : BitVec 32 := Scalar.subi v2117 c0_i32_988
  let c1_i32_990 : BitVec 32 := 1#32
  let v2120 : BitVec 32 := Scalar.divsi v2118 c1_i32_990
  let v2121 : BitVec 32 := Scalar.muli v2120 c1_i32_990
  let v2122 : BitVec 32 := Scalar.addi c0_i32_988 v2121
  let c1_i32_991 : BitVec 32 := 1#32
  ⟨c0_i32_988, v2122, c1_i32_991⟩

def k0_off37 (v2117 : BitVec 32) (k0_t1 : Fin (k0_t1_loop v2117).trips) : Fin 1 → Nat :=
  let c0_i32_988 : BitVec 32 := 0#32
  let c1_i32_991 : BitVec 32 := 1#32
  let arg19 : BitVec 32 := Scf.iv c0_i32_988 c1_i32_991 k0_t1
  let v2381 : Index := Scalar.indexCast arg19
  ![v2381.toNat]
def k0_mult9 (v2382 : BitVec 32) : BitVec 32 :=
  let c0_i32_1186 : BitVec 32 := 0#32
  let v2384 : BitVec 1 := Scalar.cmpi .sgt v2382 c0_i32_1186
  let v2385 : BitVec 32 := Scalar.extui v2384
  let c0_i32_1187 : BitVec 32 := 0#32
  let v2386 : BitVec 1 := Scalar.cmpi .slt v2382 c0_i32_1187
  let v2387 : BitVec 32 := Scalar.extui v2386
  let v2388 : BitVec 32 := Scalar.subi v2385 v2387
  let c4_i32_1185 : BitVec 32 := 4#32
  let c0_i32_1188 : BitVec 32 := 0#32
  let v2389 : BitVec 1 := Scalar.cmpi .sgt c4_i32_1185 c0_i32_1188
  let v2390 : BitVec 32 := Scalar.extui v2389
  let c0_i32_1189 : BitVec 32 := 0#32
  let v2391 : BitVec 1 := Scalar.cmpi .slt c4_i32_1185 c0_i32_1189
  let v2392 : BitVec 32 := Scalar.extui v2391
  let v2393 : BitVec 32 := Scalar.subi v2390 v2392
  let v2394 : BitVec 1 := Scalar.cmpi .ne v2388 v2393
  let v2395 : BitVec 32 := Scalar.remsi v2382 c4_i32_1185
  let c0_i32_1190 : BitVec 32 := 0#32
  let v2396 : BitVec 1 := Scalar.cmpi .ne v2395 c0_i32_1190
  let v2397 : BitVec 1 := Scalar.andi v2394 v2396
  let v2383 : BitVec 32 := Scalar.divsi v2382 c4_i32_1185
  let c1_i32_1191 : BitVec 32 := 1#32
  let v2398 : BitVec 32 := Scalar.subi v2383 c1_i32_1191
  let v2399 : BitVec 32 := Scalar.select v2397 v2398 v2383
  let c128_i32_1198 : BitVec 32 := 128#32
  let v2410 : BitVec 32 := Scalar.muli v2399 c128_i32_1198
  v2410

def k0_off38 (v2382 : BitVec 32) : Fin 4 → Nat :=
  let c4_i32_1192 : BitVec 32 := 4#32
  let c0_i32_1193 : BitVec 32 := 0#32
  let v2400 : BitVec 1 := Scalar.cmpi .eq c4_i32_1192 c0_i32_1193
  let c1_i32_1194 : BitVec 32 := 1#32
  let v2401 : BitVec 32 := Scalar.select v2400 c1_i32_1194 c4_i32_1192
  let v2402 : BitVec 32 := Scalar.remsi v2382 v2401
  let c0_i32_1196 : BitVec 32 := 0#32
  let v2404 : BitVec 1 := Scalar.cmpi .slt v2402 c0_i32_1196
  let c0_i32_1197 : BitVec 32 := 0#32
  let v2405 : BitVec 1 := Scalar.cmpi .slt v2401 c0_i32_1197
  let v2406 : BitVec 1 := Scalar.xori v2404 v2405
  let c0_i32_1195 : BitVec 32 := 0#32
  let v2403 : BitVec 1 := Scalar.cmpi .ne v2402 c0_i32_1195
  let v2407 : BitVec 1 := Scalar.andi v2406 v2403
  let v2408 : BitVec 32 := Scalar.addi v2402 v2401
  let v2409 : BitVec 32 := Scalar.select v2407 v2408 v2402
  let v2412 : Index := Scalar.indexCast v2409
  let c0_1199 : Index := 0#32
  let c0_i32_1186 : BitVec 32 := 0#32
  let v2384 : BitVec 1 := Scalar.cmpi .sgt v2382 c0_i32_1186
  let v2385 : BitVec 32 := Scalar.extui v2384
  let c0_i32_1187 : BitVec 32 := 0#32
  let v2386 : BitVec 1 := Scalar.cmpi .slt v2382 c0_i32_1187
  let v2387 : BitVec 32 := Scalar.extui v2386
  let v2388 : BitVec 32 := Scalar.subi v2385 v2387
  let c4_i32_1185 : BitVec 32 := 4#32
  let c0_i32_1188 : BitVec 32 := 0#32
  let v2389 : BitVec 1 := Scalar.cmpi .sgt c4_i32_1185 c0_i32_1188
  let v2390 : BitVec 32 := Scalar.extui v2389
  let c0_i32_1189 : BitVec 32 := 0#32
  let v2391 : BitVec 1 := Scalar.cmpi .slt c4_i32_1185 c0_i32_1189
  let v2392 : BitVec 32 := Scalar.extui v2391
  let v2393 : BitVec 32 := Scalar.subi v2390 v2392
  let v2394 : BitVec 1 := Scalar.cmpi .ne v2388 v2393
  let v2395 : BitVec 32 := Scalar.remsi v2382 c4_i32_1185
  let c0_i32_1190 : BitVec 32 := 0#32
  let v2396 : BitVec 1 := Scalar.cmpi .ne v2395 c0_i32_1190
  let v2397 : BitVec 1 := Scalar.andi v2394 v2396
  let v2383 : BitVec 32 := Scalar.divsi v2382 c4_i32_1185
  let c1_i32_1191 : BitVec 32 := 1#32
  let v2398 : BitVec 32 := Scalar.subi v2383 c1_i32_1191
  let v2399 : BitVec 32 := Scalar.select v2397 v2398 v2383
  let c128_i32_1198 : BitVec 32 := 128#32
  let v2410 : BitVec 32 := Scalar.muli v2399 c128_i32_1198
  let v2411 : BitVec 32 := v2410
  let v2413 : Index := Scalar.indexCast v2411
  let c0_1200 : Index := 0#32
  ![v2412.toNat, 0, v2413.toNat, 0]
def k0_mult10 (arg21 : BitVec 32) : BitVec 32 :=
  let c256_i32_1207 : BitVec 32 := 256#32
  let v2426 : BitVec 32 := Scalar.subi arg21 c256_i32_1207
  let c0_i32_1208 : BitVec 32 := 0#32
  let v2427 : BitVec 32 := Scalar.maxsi v2426 c0_i32_1208
  v2427

def k0_off39 (v2382 : BitVec 32) (arg21 : BitVec 32) : Fin 4 → Nat :=
  let c4_i32_1192 : BitVec 32 := 4#32
  let c0_i32_1193 : BitVec 32 := 0#32
  let v2400 : BitVec 1 := Scalar.cmpi .eq c4_i32_1192 c0_i32_1193
  let c1_i32_1194 : BitVec 32 := 1#32
  let v2401 : BitVec 32 := Scalar.select v2400 c1_i32_1194 c4_i32_1192
  let v2402 : BitVec 32 := Scalar.remsi v2382 v2401
  let c0_i32_1196 : BitVec 32 := 0#32
  let v2404 : BitVec 1 := Scalar.cmpi .slt v2402 c0_i32_1196
  let c0_i32_1197 : BitVec 32 := 0#32
  let v2405 : BitVec 1 := Scalar.cmpi .slt v2401 c0_i32_1197
  let v2406 : BitVec 1 := Scalar.xori v2404 v2405
  let c0_i32_1195 : BitVec 32 := 0#32
  let v2403 : BitVec 1 := Scalar.cmpi .ne v2402 c0_i32_1195
  let v2407 : BitVec 1 := Scalar.andi v2406 v2403
  let v2408 : BitVec 32 := Scalar.addi v2402 v2401
  let v2409 : BitVec 32 := Scalar.select v2407 v2408 v2402
  let v2432 : Index := Scalar.indexCast v2409
  let c0_1209 : Index := 0#32
  let c256_i32_1207 : BitVec 32 := 256#32
  let v2426 : BitVec 32 := Scalar.subi arg21 c256_i32_1207
  let c0_i32_1208 : BitVec 32 := 0#32
  let v2427 : BitVec 32 := Scalar.maxsi v2426 c0_i32_1208
  let v2428 : BitVec 32 := v2427
  let v2433 : Index := Scalar.indexCast v2428
  let c0_1210 : Index := 0#32
  ![v2432.toNat, 0, v2433.toNat, 0]

def k0_chk35 (v2382 : BitVec 32) (arg21 : BitVec 32) : Prop :=
  (128 ∣ (k0_mult10 arg21).toNat) ∧
  (∀ a, (k0_off39 v2382 arg21) a + S1x1x256x128.size a ≤ S4x1x4096x128.size a)
theorem k0_mult10_dvd : ∀ (v2382 : BitVec 32) (arg21 : BitVec 32) (k0_hw35 : k0_chk35 v2382 arg21), 128 ∣ (k0_mult10 arg21).toNat := fun v2382 arg21 k0_hw35 => k0_hw35.1
theorem k0_off39_inb : ∀ (v2382 : BitVec 32) (arg21 : BitVec 32) (k0_hw35 : k0_chk35 v2382 arg21), ∀ a, (k0_off39 v2382 arg21) a + S1x1x256x128.size a ≤ S4x1x4096x128.size a := fun v2382 arg21 k0_hw35 => k0_hw35.2

def k0_off40 (v2382 : BitVec 32) : Fin 3 → Nat :=
  let v2456 : Index := Scalar.indexCast v2382
  let c0_1218 : Index := 0#32
  let c0_1219 : Index := 0#32
  ![v2456.toNat, 0, 0]

def k0_chk34 (v2382 : BitVec 32) : Prop :=
  (128 ∣ (k0_mult9 v2382).toNat) ∧
  (∀ a, (k0_off38 v2382) a + S1x1x128x128.size a ≤ S4x1x1024x128.size a) ∧
  (∀ a, (k0_off40 v2382) a + S1x256x128.size a ≤ S32x256x128.size a)
theorem k0_mult9_dvd : ∀ (v2382 : BitVec 32) (k0_hw34 : k0_chk34 v2382), 128 ∣ (k0_mult9 v2382).toNat := fun v2382 k0_hw34 => k0_hw34.1
theorem k0_off38_inb : ∀ (v2382 : BitVec 32) (k0_hw34 : k0_chk34 v2382), ∀ a, (k0_off38 v2382) a + S1x1x128x128.size a ≤ S4x1x1024x128.size a := fun v2382 k0_hw34 => k0_hw34.2.1
theorem k0_off40_inb : ∀ (v2382 : BitVec 32) (k0_hw34 : k0_chk34 v2382), ∀ a, (k0_off40 v2382) a + S1x256x128.size a ≤ S32x256x128.size a := fun v2382 k0_hw34 => k0_hw34.2.2

@[reducible] def k0_t2_loop (v2117 : BitVec 32) : Scf.Loop 32 :=
  let c0_i32_988 : BitVec 32 := 0#32
  let v2118 : BitVec 32 := Scalar.subi v2117 c0_i32_988
  let c1_i32_990 : BitVec 32 := 1#32
  let v2120 : BitVec 32 := Scalar.divsi v2118 c1_i32_990
  let v2121 : BitVec 32 := Scalar.muli v2120 c1_i32_990
  let v2122 : BitVec 32 := Scalar.addi c0_i32_988 v2121
  let v2119 : BitVec 32 := Scalar.addi c0_i32_988 v2118
  let c1_i32_992 : BitVec 32 := 1#32
  ⟨v2122, v2119, c1_i32_992⟩
def k0_off41 (v2117 : BitVec 32) (k0_t2 : Fin (k0_t2_loop v2117).trips) : Fin 1 → Nat :=
  let c0_i32_988 : BitVec 32 := 0#32
  let v2118 : BitVec 32 := Scalar.subi v2117 c0_i32_988
  let c1_i32_990 : BitVec 32 := 1#32
  let v2120 : BitVec 32 := Scalar.divsi v2118 c1_i32_990
  let v2121 : BitVec 32 := Scalar.muli v2120 c1_i32_990
  let v2122 : BitVec 32 := Scalar.addi c0_i32_988 v2121
  let c1_i32_992 : BitVec 32 := 1#32
  let arg19 : BitVec 32 := Scf.iv v2122 c1_i32_992 k0_t2
  let v2381 : Index := Scalar.indexCast arg19
  ![v2381.toNat]

def k0_chk33 (v2117 : BitVec 32) : Prop :=
  ((k0_t1_loop v2117).OK) ∧
  (∀ k0_t1 : Fin (k0_t1_loop v2117).trips, ∀ a, (k0_off37 v2117 k0_t1) a + S1.size a ≤ S32.size a) ∧
  ((k0_t2_loop v2117).OK) ∧
  (∀ k0_t2 : Fin (k0_t2_loop v2117).trips, ∀ a, (k0_off41 v2117 k0_t2) a + S1.size a ≤ S32.size a)
theorem k0_t1_ok : ∀ (v2117 : BitVec 32) (k0_hw33 : k0_chk33 v2117), (k0_t1_loop v2117).OK := fun v2117 k0_hw33 => k0_hw33.1
theorem k0_off37_inb : ∀ (v2117 : BitVec 32) (k0_hw33 : k0_chk33 v2117) (k0_t1 : Fin (k0_t1_loop v2117).trips), ∀ a, (k0_off37 v2117 k0_t1) a + S1.size a ≤ S32.size a := fun v2117 k0_hw33 k0_t1 => k0_hw33.2.1 k0_t1
theorem k0_t2_ok : ∀ (v2117 : BitVec 32) (k0_hw33 : k0_chk33 v2117), (k0_t2_loop v2117).OK := fun v2117 k0_hw33 => k0_hw33.2.2.1
theorem k0_off41_inb : ∀ (v2117 : BitVec 32) (k0_hw33 : k0_chk33 v2117) (k0_t2 : Fin (k0_t2_loop v2117).trips), ∀ a, (k0_off41 v2117 k0_t2) a + S1.size a ≤ S32.size a := fun v2117 k0_hw33 k0_t2 => k0_hw33.2.2.2 k0_t2

def k0_mult11 (v2382 : BitVec 32) : BitVec 32 :=
  let c0_i32_1186 : BitVec 32 := 0#32
  let v2384 : BitVec 1 := Scalar.cmpi .sgt v2382 c0_i32_1186
  let v2385 : BitVec 32 := Scalar.extui v2384
  let c0_i32_1187 : BitVec 32 := 0#32
  let v2386 : BitVec 1 := Scalar.cmpi .slt v2382 c0_i32_1187
  let v2387 : BitVec 32 := Scalar.extui v2386
  let v2388 : BitVec 32 := Scalar.subi v2385 v2387
  let c4_i32_1185 : BitVec 32 := 4#32
  let c0_i32_1188 : BitVec 32 := 0#32
  let v2389 : BitVec 1 := Scalar.cmpi .sgt c4_i32_1185 c0_i32_1188
  let v2390 : BitVec 32 := Scalar.extui v2389
  let c0_i32_1189 : BitVec 32 := 0#32
  let v2391 : BitVec 1 := Scalar.cmpi .slt c4_i32_1185 c0_i32_1189
  let v2392 : BitVec 32 := Scalar.extui v2391
  let v2393 : BitVec 32 := Scalar.subi v2390 v2392
  let v2394 : BitVec 1 := Scalar.cmpi .ne v2388 v2393
  let v2395 : BitVec 32 := Scalar.remsi v2382 c4_i32_1185
  let c0_i32_1190 : BitVec 32 := 0#32
  let v2396 : BitVec 1 := Scalar.cmpi .ne v2395 c0_i32_1190
  let v2397 : BitVec 1 := Scalar.andi v2394 v2396
  let v2383 : BitVec 32 := Scalar.divsi v2382 c4_i32_1185
  let c1_i32_1191 : BitVec 32 := 1#32
  let v2398 : BitVec 32 := Scalar.subi v2383 c1_i32_1191
  let v2399 : BitVec 32 := Scalar.select v2397 v2398 v2383
  let c128_i32_1198 : BitVec 32 := 128#32
  let v2410 : BitVec 32 := Scalar.muli v2399 c128_i32_1198
  v2410

def k0_off42 (v2382 : BitVec 32) : Fin 4 → Nat :=
  let c4_i32_1192 : BitVec 32 := 4#32
  let c0_i32_1193 : BitVec 32 := 0#32
  let v2400 : BitVec 1 := Scalar.cmpi .eq c4_i32_1192 c0_i32_1193
  let c1_i32_1194 : BitVec 32 := 1#32
  let v2401 : BitVec 32 := Scalar.select v2400 c1_i32_1194 c4_i32_1192
  let v2402 : BitVec 32 := Scalar.remsi v2382 v2401
  let c0_i32_1196 : BitVec 32 := 0#32
  let v2404 : BitVec 1 := Scalar.cmpi .slt v2402 c0_i32_1196
  let c0_i32_1197 : BitVec 32 := 0#32
  let v2405 : BitVec 1 := Scalar.cmpi .slt v2401 c0_i32_1197
  let v2406 : BitVec 1 := Scalar.xori v2404 v2405
  let c0_i32_1195 : BitVec 32 := 0#32
  let v2403 : BitVec 1 := Scalar.cmpi .ne v2402 c0_i32_1195
  let v2407 : BitVec 1 := Scalar.andi v2406 v2403
  let v2408 : BitVec 32 := Scalar.addi v2402 v2401
  let v2409 : BitVec 32 := Scalar.select v2407 v2408 v2402
  let v2412 : Index := Scalar.indexCast v2409
  let c0_1199 : Index := 0#32
  let c0_i32_1186 : BitVec 32 := 0#32
  let v2384 : BitVec 1 := Scalar.cmpi .sgt v2382 c0_i32_1186
  let v2385 : BitVec 32 := Scalar.extui v2384
  let c0_i32_1187 : BitVec 32 := 0#32
  let v2386 : BitVec 1 := Scalar.cmpi .slt v2382 c0_i32_1187
  let v2387 : BitVec 32 := Scalar.extui v2386
  let v2388 : BitVec 32 := Scalar.subi v2385 v2387
  let c4_i32_1185 : BitVec 32 := 4#32
  let c0_i32_1188 : BitVec 32 := 0#32
  let v2389 : BitVec 1 := Scalar.cmpi .sgt c4_i32_1185 c0_i32_1188
  let v2390 : BitVec 32 := Scalar.extui v2389
  let c0_i32_1189 : BitVec 32 := 0#32
  let v2391 : BitVec 1 := Scalar.cmpi .slt c4_i32_1185 c0_i32_1189
  let v2392 : BitVec 32 := Scalar.extui v2391
  let v2393 : BitVec 32 := Scalar.subi v2390 v2392
  let v2394 : BitVec 1 := Scalar.cmpi .ne v2388 v2393
  let v2395 : BitVec 32 := Scalar.remsi v2382 c4_i32_1185
  let c0_i32_1190 : BitVec 32 := 0#32
  let v2396 : BitVec 1 := Scalar.cmpi .ne v2395 c0_i32_1190
  let v2397 : BitVec 1 := Scalar.andi v2394 v2396
  let v2383 : BitVec 32 := Scalar.divsi v2382 c4_i32_1185
  let c1_i32_1191 : BitVec 32 := 1#32
  let v2398 : BitVec 32 := Scalar.subi v2383 c1_i32_1191
  let v2399 : BitVec 32 := Scalar.select v2397 v2398 v2383
  let c128_i32_1198 : BitVec 32 := 128#32
  let v2410 : BitVec 32 := Scalar.muli v2399 c128_i32_1198
  let v2411 : BitVec 32 := v2410
  let v2413 : Index := Scalar.indexCast v2411
  let c0_1200 : Index := 0#32
  ![v2412.toNat, 0, v2413.toNat, 0]
def k0_mult12 (arg21 : BitVec 32) : BitVec 32 :=
  let c256_i32_1207 : BitVec 32 := 256#32
  let v2426 : BitVec 32 := Scalar.subi arg21 c256_i32_1207
  let c0_i32_1208 : BitVec 32 := 0#32
  let v2427 : BitVec 32 := Scalar.maxsi v2426 c0_i32_1208
  v2427

def k0_off43 (v2382 : BitVec 32) (arg21 : BitVec 32) : Fin 4 → Nat :=
  let c4_i32_1192 : BitVec 32 := 4#32
  let c0_i32_1193 : BitVec 32 := 0#32
  let v2400 : BitVec 1 := Scalar.cmpi .eq c4_i32_1192 c0_i32_1193
  let c1_i32_1194 : BitVec 32 := 1#32
  let v2401 : BitVec 32 := Scalar.select v2400 c1_i32_1194 c4_i32_1192
  let v2402 : BitVec 32 := Scalar.remsi v2382 v2401
  let c0_i32_1196 : BitVec 32 := 0#32
  let v2404 : BitVec 1 := Scalar.cmpi .slt v2402 c0_i32_1196
  let c0_i32_1197 : BitVec 32 := 0#32
  let v2405 : BitVec 1 := Scalar.cmpi .slt v2401 c0_i32_1197
  let v2406 : BitVec 1 := Scalar.xori v2404 v2405
  let c0_i32_1195 : BitVec 32 := 0#32
  let v2403 : BitVec 1 := Scalar.cmpi .ne v2402 c0_i32_1195
  let v2407 : BitVec 1 := Scalar.andi v2406 v2403
  let v2408 : BitVec 32 := Scalar.addi v2402 v2401
  let v2409 : BitVec 32 := Scalar.select v2407 v2408 v2402
  let v2432 : Index := Scalar.indexCast v2409
  let c0_1209 : Index := 0#32
  let c256_i32_1207 : BitVec 32 := 256#32
  let v2426 : BitVec 32 := Scalar.subi arg21 c256_i32_1207
  let c0_i32_1208 : BitVec 32 := 0#32
  let v2427 : BitVec 32 := Scalar.maxsi v2426 c0_i32_1208
  let v2428 : BitVec 32 := v2427
  let v2433 : Index := Scalar.indexCast v2428
  let c0_1210 : Index := 0#32
  ![v2432.toNat, 0, v2433.toNat, 0]

def k0_chk37 (v2382 : BitVec 32) (arg21 : BitVec 32) : Prop :=
  (128 ∣ (k0_mult12 arg21).toNat) ∧
  (∀ a, (k0_off43 v2382 arg21) a + S1x1x256x128.size a ≤ S4x1x4096x128.size a)
theorem k0_mult12_dvd : ∀ (v2382 : BitVec 32) (arg21 : BitVec 32) (k0_hw37 : k0_chk37 v2382 arg21), 128 ∣ (k0_mult12 arg21).toNat := fun v2382 arg21 k0_hw37 => k0_hw37.1
theorem k0_off43_inb : ∀ (v2382 : BitVec 32) (arg21 : BitVec 32) (k0_hw37 : k0_chk37 v2382 arg21), ∀ a, (k0_off43 v2382 arg21) a + S1x1x256x128.size a ≤ S4x1x4096x128.size a := fun v2382 arg21 k0_hw37 => k0_hw37.2

def k0_off44 (v2382 : BitVec 32) : Fin 3 → Nat :=
  let v2456 : Index := Scalar.indexCast v2382
  let c0_1218 : Index := 0#32
  let c0_1219 : Index := 0#32
  ![v2456.toNat, 0, 0]

def k0_chk36 (v2382 : BitVec 32) : Prop :=
  (128 ∣ (k0_mult11 v2382).toNat) ∧
  (∀ a, (k0_off42 v2382) a + S1x1x128x128.size a ≤ S4x1x1024x128.size a) ∧
  (∀ a, (k0_off44 v2382) a + S1x256x128.size a ≤ S32x256x128.size a)
theorem k0_mult11_dvd : ∀ (v2382 : BitVec 32) (k0_hw36 : k0_chk36 v2382), 128 ∣ (k0_mult11 v2382).toNat := fun v2382 k0_hw36 => k0_hw36.1
theorem k0_off42_inb : ∀ (v2382 : BitVec 32) (k0_hw36 : k0_chk36 v2382), ∀ a, (k0_off42 v2382) a + S1x1x128x128.size a ≤ S4x1x1024x128.size a := fun v2382 k0_hw36 => k0_hw36.2.1
theorem k0_off44_inb : ∀ (v2382 : BitVec 32) (k0_hw36 : k0_chk36 v2382), ∀ a, (k0_off44 v2382) a + S1x256x128.size a ≤ S32x256x128.size a := fun v2382 k0_hw36 => k0_hw36.2.2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c12_i32 : BitVec 32 := 12#32
  let v2 : BitVec 32 := Scalar.addi c12_i32 v1
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "clamp" => some ⊤
  | "gone" => some ⊤
  | "masked" => some ⊥
  | _ => none
-- ==== ReferenceIdeal.lean ====
abbrev S8x4096x8x64 : Shape := ⟨4, ![8, 4096, 8, 64]⟩
abbrev S1024x5632 : Shape := ⟨2, ![1024, 5632]⟩
abbrev S512x1024 : Shape := ⟨2, ![512, 1024]⟩
abbrev S1024x1024 : Shape := ⟨2, ![1024, 1024]⟩
abbrev S8x8x4096x64 : Shape := ⟨4, ![8, 8, 4096, 64]⟩
abbrev S_ : Shape := ⟨0, ![]⟩
abbrev S8x8x4096x4096 : Shape := ⟨4, ![8, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x512 : Shape := ⟨3, ![8, 4096, 512]⟩
abbrev S1024x4096 : Shape := ⟨2, ![1024, 4096]⟩

abbrev nBuf : Space → Nat
  | .hbm => 78
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S1024x5632, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8x8x4096x64, .f32⟩
  | .hbm, ⟨8, _⟩ => ⟨S_, .f32⟩
  | .hbm, ⟨9, _⟩ => ⟨S8x8x4096x64, .f32⟩
  | .hbm, ⟨10, _⟩ => ⟨S8x8x4096x64, .f32⟩
  | .hbm, ⟨11, _⟩ => ⟨S8x8x4096x64, .f32⟩
  | .hbm, ⟨12, _⟩ => ⟨S8x8x4096x64, .f32⟩
  | .hbm, ⟨13, _⟩ => ⟨S8x8x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S8x8x4096x4096, .f32⟩
  | .hbm, ⟨22, _⟩ => ⟨S8x8x4096x4096, .f32⟩
  | .hbm, ⟨23, _⟩ => ⟨S_, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .i1⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .f32⟩
  | .hbm, ⟨38, _⟩ => ⟨S_, .f32⟩
  | .hbm, ⟨39, _⟩ => ⟨S_, .f32⟩
  | .hbm, ⟨40, _⟩ => ⟨S8x8x4096x4096, .i1⟩
  | .hbm, ⟨41, _⟩ => ⟨S8x8x4096x4096, .f32⟩
  | .hbm, ⟨42, _⟩ => ⟨S8x8x4096x4096, .f32⟩
  | .hbm, ⟨43, _⟩ => ⟨S_, .f32⟩
  | .hbm, ⟨44, _⟩ => ⟨S_, .f32⟩
  | .hbm, ⟨45, _⟩ => ⟨S8x8x4096x4096, .f32⟩
  | .hbm, ⟨46, _⟩ => ⟨S8x8x4096x4096, .f32⟩
  | .hbm, ⟨47, _⟩ => ⟨S8x8x4096x4096, .f32⟩
  | .hbm, ⟨48, _⟩ => ⟨S_, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x4096, .i1⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S8x8x4096x4096, .f32⟩
  | .hbm, ⟨64, _⟩ => ⟨S8x8x4096x4096, .f32⟩
  | .hbm, ⟨65, _⟩ => ⟨S_, .f32⟩
  | .hbm, ⟨66, _⟩ => ⟨S_, .f32⟩
  | .hbm, ⟨67, _⟩ => ⟨S8x8x4096x4096, .i1⟩
  | .hbm, ⟨68, _⟩ => ⟨S8x8x4096x4096, .f32⟩
  | .hbm, ⟨69, _⟩ => ⟨S8x8x4096x4096, .f32⟩
  | .hbm, ⟨70, _⟩ => ⟨S8x8x4096x64, .f32⟩
  | .hbm, ⟨71, _⟩ => ⟨S8x4096x8x64, .f32⟩
  | .hbm, ⟨72, _⟩ => ⟨S8x4096x512, .f32⟩
  | .hbm, ⟨73, _⟩ => ⟨S1024x4096, .f32⟩
  | .hbm, ⟨74, _⟩ => ⟨S1024x4096, .bf16⟩
  | .hbm, ⟨75, _⟩ => ⟨S512x1024, .bf16⟩
  | .hbm, ⟨76, _⟩ => ⟨S512x1024, .bf16⟩
  | .hbm, ⟨77, _⟩ => ⟨S1024x1024, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v14 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v15 : Ref sig .tc := ⟨.hbm, 42, rfl⟩
abbrev main_call2_cst : Ref sig .tc := ⟨.hbm, 43, rfl⟩
abbrev main_call2_v0 : Ref sig .tc := ⟨.hbm, 44, rfl⟩
abbrev main_v16 : Ref sig .tc := ⟨.hbm, 45, rfl⟩
abbrev main_v17 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩

abbrev nD : Nat := 1
abbrev τ : Topo := Topo.v7x

variable {F : FTy → Type} [FloatOps F]
-- ==== KernelTail.lean ====
abbrev S8x4096x1024 : Shape := ⟨3, ![8, 4096, 1024]⟩
abbrev S8x4096x512 : Shape := ⟨3, ![8, 4096, 512]⟩
abbrev S1024 : Shape := ⟨1, ![1024]⟩
abbrev S1024x5632 : Shape := ⟨2, ![1024, 5632]⟩
abbrev S8x64 : Shape := ⟨2, ![8, 64]⟩
abbrev S8x128x128 : Shape := ⟨3, ![8, 128, 128]⟩
abbrev S8x128 : Shape := ⟨2, ![8, 128]⟩
abbrev S512x1024 : Shape := ⟨2, ![512, 1024]⟩
abbrev S1024x1024 : Shape := ⟨2, ![1024, 1024]⟩
abbrev S32768x1024 : Shape := ⟨2, ![32768, 1024]⟩
abbrev S512 : Shape := ⟨1, ![512]⟩
abbrev S512x1 : Shape := ⟨2, ![512, 1]⟩
abbrev S_ : Shape := ⟨0, ![]⟩
abbrev S128 : Shape := ⟨1, ![128]⟩
abbrev S1x128 : Shape := ⟨2, ![1, 128]⟩
abbrev S512x128 : Shape := ⟨2, ![512, 128]⟩
abbrev S1024x128 : Shape := ⟨2, ![1024, 128]⟩
abbrev S128x8 : Shape := ⟨2, ![128, 8]⟩
abbrev S128x8x64 : Shape := ⟨3, ![128, 8, 64]⟩
abbrev S128x512 : Shape := ⟨2, ![128, 512]⟩
abbrev S32768x512 : Shape := ⟨2, ![32768, 512]⟩
abbrev S1x1024 : Shape := ⟨2, ![1, 1024]⟩
abbrev S1024x4096 : Shape := ⟨2, ![1024, 4096]⟩
abbrev S1x512 : Shape := ⟨2, ![1, 512]⟩
abbrev S4x256x128 : Shape := ⟨3, ![4, 256, 128]⟩
abbrev S1024x512 : Shape := ⟨2, ![1024, 512]⟩
abbrev S256x128 : Shape := ⟨2, ![256, 128]⟩
abbrev S128x128 : Shape := ⟨2, ![128, 128]⟩
abbrev S512x512 : Shape := ⟨2, ![512, 512]⟩
abbrev S512x128x1 : Shape := ⟨3, ![512, 128, 1]⟩
abbrev S1x256x128 : Shape := ⟨3, ![1, 256, 128]⟩
abbrev S128x256 : Shape := ⟨2, ![128, 256]⟩
abbrev S256x256 : Shape := ⟨2, ![256, 256]⟩

abbrev nBuf : Space → Nat
  | .hbm => 81
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S1024, .f32⟩
  | .hbm, ⟨3, _⟩ => ⟨S1024x5632, .f32⟩
  | .hbm, ⟨4, _⟩ => ⟨S8x64, .f32⟩
  | .hbm, ⟨5, _⟩ => ⟨S8x64, .f32⟩
  | .hbm, ⟨6, _⟩ => ⟨S8x128x128, .f32⟩
  | .hbm, ⟨7, _⟩ => ⟨S8x128, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S32768x1024, .f32⟩
  | .hbm, ⟨13, _⟩ => ⟨S512, .i32⟩
  | .hbm, ⟨14, _⟩ => ⟨S512x1, .i32⟩
  | .hbm, ⟨15, _⟩ => ⟨S_, .i32⟩
  | .hbm, ⟨16, _⟩ => ⟨S_, .i32⟩
  | .hbm, ⟨17, _⟩ => ⟨S512x1, .i32⟩
  | .hbm, ⟨18, _⟩ => ⟨S512x1, .i32⟩
  | .hbm, ⟨19, _⟩ => ⟨S512x1, .i32⟩
  | .hbm, ⟨20, _⟩ => ⟨S_, .i32⟩
  | .hbm, ⟨21, _⟩ => ⟨S512x1, .i32⟩
  | .hbm, ⟨22, _⟩ => ⟨S512x1, .i1⟩
  | .hbm, ⟨23, _⟩ => ⟨S512x1, .i32⟩
  | .hbm, ⟨24, _⟩ => ⟨S512x1, .i32⟩
  | .hbm, ⟨25, _⟩ => ⟨S_, .i32⟩
  | .hbm, ⟨26, _⟩ => ⟨S512x1, .i32⟩
  | .hbm, ⟨27, _⟩ => ⟨S512x1, .i1⟩
  | .hbm, ⟨28, _⟩ => ⟨S512x1, .i1⟩
  | .hbm, ⟨29, _⟩ => ⟨S_, .i32⟩
  | .hbm, ⟨30, _⟩ => ⟨S512x1, .i32⟩
  | .hbm, ⟨31, _⟩ => ⟨S512x1, .i32⟩
  | .hbm, ⟨32, _⟩ => ⟨S512x1, .i32⟩
  | .hbm, ⟨33, _⟩ => ⟨S128, .i32⟩
  | .hbm, ⟨34, _⟩ => ⟨S1x128, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S1x128, .i32⟩
  | .hbm, ⟨42, _⟩ => ⟨S1x128, .i32⟩
  | .hbm, ⟨43, _⟩ => ⟨S_, .i32⟩
  | .hbm, ⟨44, _⟩ => ⟨S1x128, .i32⟩
  | .hbm, ⟨45, _⟩ => ⟨S1x128, .i1⟩
  | .hbm, ⟨46, _⟩ => ⟨S_, .i32⟩
  | .hbm, ⟨47, _⟩ => ⟨S1x128, .i32⟩
  | .hbm, ⟨48, _⟩ => ⟨S1x128, .i1⟩
  | .hbm, ⟨49, _⟩ => ⟨S_, .i32⟩
  | .hbm, ⟨50, _⟩ => ⟨S_, .i1⟩
  | .hbm, ⟨51, _⟩ => ⟨S1x128, .i1⟩
  | .hbm, ⟨52, _⟩ => ⟨S1x128, .i1⟩
  | .hbm, ⟨53, _⟩ => ⟨S1x128, .i1⟩
  | .hbm, ⟨54, _⟩ => ⟨S1x128, .i32⟩
  | .hbm, ⟨55, _⟩ => ⟨S1x128, .i32⟩
  | .hbm, ⟨56, _⟩ => ⟨S1x128, .i32⟩
  | .hbm, ⟨57, _⟩ => ⟨S512x128, .i32⟩
  | .hbm, ⟨58, _⟩ => ⟨S512x128, .i32⟩
  | .hbm, ⟨59, _⟩ => ⟨S512x128, .i1⟩
  | .hbm, ⟨60, _⟩ => ⟨S512x128, .f32⟩
  | .hbm, ⟨61, _⟩ => ⟨S_, .f32⟩
  | .hbm, ⟨62, _⟩ => ⟨S512x128, .f32⟩
  | .hbm, ⟨63, _⟩ => ⟨S512x128, .f32⟩
  | .hbm, ⟨64, _⟩ => ⟨S512x128, .bf16⟩
  | .hbm, ⟨65, _⟩ => ⟨S1024x128, .bf16⟩
  | .hbm, ⟨66, _⟩ => ⟨S128x8, .f32⟩
  | .hbm, ⟨67, _⟩ => ⟨S128x8x64, .f32⟩
  | .hbm, ⟨68, _⟩ => ⟨S128x512, .f32⟩
  | .hbm, ⟨69, _⟩ => ⟨S32768x512, .f32⟩
  | .hbm, ⟨70, _⟩ => ⟨S1x1024, .f32⟩
  | .hbm, ⟨71, _⟩ => ⟨S1024x4096, .f32⟩
  | .hbm, ⟨72, _⟩ => ⟨S1024x4096, .bf16⟩
  | .hbm, ⟨73, _⟩ => ⟨S1x512, .f32⟩
  | .hbm, ⟨74, _⟩ => ⟨S1x512, .f32⟩
  | .hbm, ⟨75, _⟩ => ⟨S4x256x128, .f32⟩
  | .hbm, ⟨76, _⟩ => ⟨S512x1024, .bf16⟩
  | .hbm, ⟨77, _⟩ => ⟨S512x1024, .bf16⟩
  | .hbm, ⟨78, _⟩ => ⟨S1024x1024, .bf16⟩
  | .hbm, ⟨79, _⟩ => ⟨S1x1024, .f32⟩
  | .hbm, ⟨80, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1024x4096, .bf16⟩
  | .local _ .vmem, ⟨6, _⟩ => ⟨S1x512, .f32⟩
  | .local _ .vmem, ⟨7, _⟩ => ⟨S1x512, .f32⟩
  | .local _ .vmem, ⟨8, _⟩ => ⟨S4x256x128, .f32⟩
  | .local _ .vmem, ⟨9, _⟩ => ⟨S128x512, .f32⟩
  | .local _ .vmem, ⟨10, _⟩ => ⟨S1024x128, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_cst : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceTailIdeal.lean ====
abbrev S8x4096x1024 : Shape := ⟨3, ![8, 4096, 1024]⟩
abbrev S8x4096x512 : Shape := ⟨3, ![8, 4096, 512]⟩
abbrev S1024 : Shape := ⟨1, ![1024]⟩
abbrev S1024x5632 : Shape := ⟨2, ![1024, 5632]⟩
abbrev S8x64 : Shape := ⟨2, ![8, 64]⟩
abbrev S8x128x128 : Shape := ⟨3, ![8, 128, 128]⟩
abbrev S8x128 : Shape := ⟨2, ![8, 128]⟩
abbrev S512x1024 : Shape := ⟨2, ![512, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x4096 : Shape := ⟨2, ![1024, 4096]⟩
abbrev S8x4096x4096 : Shape := ⟨3, ![8, 4096, 4096]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x8x64 : Shape := ⟨4, ![1, 1, 8, 64]⟩
abbrev S8x32x128x8x64 : Shape := ⟨5, ![8, 32, 128, 8, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x8x32x64x128 : Shape := ⟨5, ![8, 8, 32, 64, 128]⟩
abbrev S128x8 : Shape := ⟨2, ![128, 8]⟩
abbrev S1x1x128x8x1 : Shape := ⟨5, ![1, 1, 128, 8, 1]⟩
abbrev S32768x1024 : Shape := ⟨2, ![32768, 1024]⟩

abbrev nBuf : Space → Nat
  | .hbm => 219
  | .vmem => 0
  | .smem => 0
  | _ => 0

abbrev hbmTy0_0 (i : Nat) : BufTy := match i % 128 with
  | 0 => ⟨S8x4096x1024, .f32⟩
  | 1 => ⟨S8x4096x512, .f32⟩
  | 2 => ⟨S1024, .f32⟩
  | 3 => ⟨S1024x5632, .f32⟩
  | 4 => ⟨S8x64, .f32⟩
  | 5 => ⟨S8x64, .f32⟩
  | 6 => ⟨S8x128x128, .f32⟩
  | 7 => ⟨S8x128, .f32⟩
  | 8 => ⟨S512x1024, .f32⟩
  | 9 => ⟨S512x1024, .f32⟩
  | 10 => ⟨S1024x1024, .f32⟩
  | 11 => ⟨S1024, .f32⟩
  | 12 => ⟨S8x4096x1024, .f32⟩
  | 13 => ⟨S_, .f32⟩
  | 14 => ⟨S8x4096, .f32⟩
  | 15 => ⟨S8x4096x1, .f32⟩
  | 16 => ⟨S_, .f32⟩
  | 17 => ⟨S8x4096x1, .f32⟩
  | 18 => ⟨S8x4096x1, .f32⟩
  | 19 => ⟨S_, .f32⟩
  | 20 => ⟨S8x4096x1, .f32⟩
  | 21 => ⟨S8x4096x1, .f32⟩
  | 22 => ⟨S8x4096x1, .f32⟩
  | 23 => ⟨S8x4096x1024, .f32⟩
  | 24 => ⟨S8x4096x1024, .f32⟩
  | 25 => ⟨S1x1x1024, .f32⟩
  | 26 => ⟨S8x4096x1024, .f32⟩
  | 27 => ⟨S8x4096x1024, .f32⟩
  | 28 => ⟨S1024x4096, .f32⟩
  | 29 => ⟨S8x4096x4096, .f32⟩
  | 30 => ⟨S8x4096x512, .f32⟩
  | 31 => ⟨S8x4096x512, .f32⟩
  | 32 => ⟨S8x4096x512, .f32⟩
  | 33 => ⟨S8x4096x512, .f32⟩
  | 34 => ⟨S8x4096x1024, .f32⟩
  | 35 => ⟨S8x4096x1024, .f32⟩
  | 36 => ⟨S8x4096x512, .f32⟩
  | 37 => ⟨S8x4096x512, .f32⟩
  | 38 => ⟨S_, .f32⟩
  | 39 => ⟨S8x4096x512, .f32⟩
  | 40 => ⟨S8x4096x512, .f32⟩
  | 41 => ⟨S_, .f32⟩
  | 42 => ⟨S8x4096x512, .f32⟩
  | 43 => ⟨S8x4096x512, .f32⟩
  | 44 => ⟨S8x4096x512, .f32⟩
  | 45 => ⟨S8x4096x512, .f32⟩
  | 46 => ⟨S8x4096x512, .f32⟩
  | 47 => ⟨S8x4096x512, .f32⟩
  | 48 => ⟨S_, .f32⟩
  | 49 => ⟨S8x4096x512, .f32⟩
  | 50 => ⟨S8x4096x512, .f32⟩
  | 51 => ⟨S8x4096x512, .f32⟩
  | 52 => ⟨S_, .f32⟩
  | 53 => ⟨S8x4096x512, .f32⟩
  | 54 => ⟨S8x4096x512, .f32⟩
  | 55 => ⟨S8x4096x512, .f32⟩
  | 56 => ⟨S_, .f32⟩
  | 57 => ⟨S8x4096x512, .f32⟩
  | 58 => ⟨S8x4096x512, .f32⟩
  | 59 => ⟨S_, .f32⟩
  | 60 => ⟨S8x4096x512, .f32⟩
  | 61 => ⟨S8x4096x512, .f32⟩
  | 62 => ⟨S8x4096x512, .f32⟩
  | 63 => ⟨S8x4096x8x64, .f32⟩
  | 64 => ⟨S8x4096x512, .f32⟩
  | 65 => ⟨S8x4096x512, .f32⟩
  | 66 => ⟨S_, .f32⟩
  | 67 => ⟨S8x4096x512, .f32⟩
  | 68 => ⟨S8x4096x512, .f32⟩
  | 69 => ⟨S8x4096x512, .f32⟩
  | 70 => ⟨S_, .f32⟩
  | 71 => ⟨S8x4096x512, .f32⟩
  | 72 => ⟨S8x4096x512, .f32⟩
  | 73 => ⟨S8x4096x512, .f32⟩
  | 74 => ⟨S_, .f32⟩
  | 75 => ⟨S8x4096x512, .f32⟩
  | 76 => ⟨S8x4096x512, .f32⟩
  | 77 => ⟨S_, .f32⟩
  | 78 => ⟨S8x4096x512, .f32⟩
  | 79 => ⟨S8x4096x512, .f32⟩
  | 80 => ⟨S8x4096x512, .f32⟩
  | 81 => ⟨S8x4096x8x64, .f32⟩
  | 82 => ⟨S_, .f32⟩
  | 83 => ⟨S8x4096x8, .f32⟩
  | 84 => ⟨S8x4096x8x1, .f32⟩
  | 85 => ⟨S_, .f32⟩
  | 86 => ⟨S8x4096x8x1, .f32⟩
  | 87 => ⟨S8x4096x8x1, .f32⟩
  | 88 => ⟨S8x4096x8x64, .f32⟩
  | 89 => ⟨S8x4096x8x64, .f32⟩
  | 90 => ⟨S8x4096x8x64, .f32⟩
  | 91 => ⟨S_, .f32⟩
  | 92 => ⟨S8x4096x8, .f32⟩
  | 93 => ⟨S8x4096x8x1, .f32⟩
  | 94 => ⟨S_, .f32⟩
  | 95 => ⟨S8x4096x8x1, .f32⟩
  | 96 => ⟨S8x4096x8x1, .f32⟩
  | 97 => ⟨S8x4096x8x64, .f32⟩
  | 98 => ⟨S8x4096x8x64, .f32⟩
  | 99 => ⟨S_, .f32⟩
  | 100 => ⟨S8x4096x8x1, .f32⟩
  | 101 => ⟨S8x4096x8x1, .f32⟩
  | 102 => ⟨S8x4096x8x1, .f32⟩
  | 103 => ⟨S8x4096x8x64, .f32⟩
  | 104 => ⟨S8x4096x8x64, .f32⟩
  | 105 => ⟨S1x1x8x64, .f32⟩
  | 106 => ⟨S8x4096x8x64, .f32⟩
  | 107 => ⟨S8x4096x8x64, .f32⟩
  | 108 => ⟨S1x1x8x64, .f32⟩
  | 109 => ⟨S8x4096x8x64, .f32⟩
  | 110 => ⟨S8x4096x8x64, .f32⟩
  | 111 => ⟨S8x32x128x8x64, .f32⟩
  | 112 => ⟨S128, .i32⟩
  | 113 => ⟨S1x128, .i32⟩
  | 114 => ⟨S_, .i32⟩
  | 115 => ⟨S_, .i32⟩
  | 116 => ⟨S1x128, .i32⟩
  | 117 => ⟨S1x128, .i32⟩
  | 118 => ⟨S1x128, .i32⟩
  | 119 => ⟨S_, .i32⟩
  | 120 => ⟨S1x128, .i32⟩
  | 121 => ⟨S1x128, .i1⟩
  | 122 => ⟨S1x128, .i32⟩
  | 123 => ⟨S1x128, .i32⟩
  | 124 => ⟨S_, .i32⟩
  | 125 => ⟨S1x128, .i32⟩
  | 126 => ⟨S1x128, .i1⟩
  | 127 => ⟨S1x128, .i1⟩
  | _ => ⟨S8x4096x1024, .f32⟩

abbrev hbmTy0_1 (i : Nat) : BufTy := match i % 128 with
  | 0 => ⟨S_, .i32⟩
  | 1 => ⟨S1x128, .i32⟩
  | 2 => ⟨S1x128, .i32⟩
  | 3 => ⟨S1x128, .i32⟩
  | 4 => ⟨S128x1, .i32⟩
  | 5 => ⟨S_, .i32⟩
  | 6 => ⟨S_, .i32⟩
  | 7 => ⟨S128x1, .i32⟩
  | 8 => ⟨S128x1, .i32⟩
  | 9 => ⟨S128x1, .i32⟩
  | 10 => ⟨S_, .i32⟩
  | 11 => ⟨S128x1, .i32⟩
  | 12 => ⟨S128x1, .i1⟩
  | 13 => ⟨S128x1, .i32⟩
  | 14 => ⟨S128x1, .i32⟩
  | 15 => ⟨S_, .i32⟩
  | 16 => ⟨S128x1, .i32⟩
  | 17 => ⟨S128x1, .i1⟩
  | 18 => ⟨S128x1, .i1⟩
  | 19 => ⟨S_, .i32⟩
  | 20 => ⟨S128x1, .i32⟩
  | 21 => ⟨S128x1, .i32⟩
  | 22 => ⟨S128x1, .i32⟩
  | 23 => ⟨S128x128, .i32⟩
  | 24 => ⟨S128x128, .i32⟩
  | 25 => ⟨S128x128, .i1⟩
  | 26 => ⟨S1x128x128, .i1⟩
  | 27 => ⟨S_, .f32⟩
  | 28 => ⟨S_, .f32⟩
  | 29 => ⟨S8x128x128, .i1⟩
  | 30 => ⟨S8x128x128, .f32⟩
  | 31 => ⟨S8x128x128, .f32⟩
  | 32 => ⟨S8x8x32x64x128, .f32⟩
  | 33 => ⟨S8x32x128x8x64, .f32⟩
  | 34 => ⟨S128x8, .f32⟩
  | 35 => ⟨S1x1x128x8x1, .f32⟩
  | 36 => ⟨S8x32x128x8x64, .f32⟩
  | 37 => ⟨S8x32x128x8x64, .f32⟩
  | 38 => ⟨S8x4096x8x64, .f32⟩
  | 39 => ⟨S8x4096x8x64, .f32⟩
  | 40 => ⟨S8x4096x512, .f32⟩
  | 41 => ⟨S8x4096x512, .f32⟩
  | 42 => ⟨S8x4096x512, .f32⟩
  | 43 => ⟨S_, .f32⟩
  | 44 => ⟨S8x4096x512, .f32⟩
  | 45 => ⟨S8x4096x512, .f32⟩
  | 46 => ⟨S_, .f32⟩
  | 47 => ⟨S8x4096x512, .f32⟩
  | 48 => ⟨S8x4096x512, .f32⟩
  | 49 => ⟨S8x4096x512, .f32⟩
  | 50 => ⟨S8x4096x512, .f32⟩
  | 51 => ⟨S8x4096x1024, .f32⟩
  | 52 => ⟨S8x4096x1024, .f32⟩
  | 53 => ⟨S8x4096x1024, .f32⟩
  | 54 => ⟨S8x4096x1024, .f32⟩
  | 55 => ⟨S_, .f32⟩
  | 56 => ⟨S8x4096x1024, .f32⟩
  | 57 => ⟨S8x4096x1024, .f32⟩
  | 58 => ⟨S_, .f32⟩
  | 59 => ⟨S8x4096x1024, .f32⟩
  | 60 => ⟨S8x4096x1024, .f32⟩
  | 61 => ⟨S8x4096x1024, .f32⟩
  | 62 => ⟨S8x4096x1024, .f32⟩
  | 63 => ⟨S8x4096x1024, .f32⟩
  | 64 => ⟨S_, .f32⟩
  | 65 => ⟨S8x4096x1024, .f32⟩
  | 66 => ⟨S8x4096x1024, .f32⟩
  | 67 => ⟨S_, .f32⟩
  | 68 => ⟨S8x4096x1024, .f32⟩
  | 69 => ⟨S8x4096x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S8x4096x1024, .f32⟩
  | 75 => ⟨S_, .f32⟩
  | 76 => ⟨S8x4096, .f32⟩
  | 77 => ⟨S8x4096x1, .f32⟩
  | 78 => ⟨S_, .f32⟩
  | 79 => ⟨S8x4096x1, .f32⟩
  | 80 => ⟨S8x4096x1, .f32⟩
  | 81 => ⟨S_, .f32⟩
  | 82 => ⟨S8x4096x1, .f32⟩
  | 83 => ⟨S8x4096x1, .f32⟩
  | 84 => ⟨S8x4096x1, .f32⟩
  | 85 => ⟨S8x4096x1024, .f32⟩
  | 86 => ⟨S8x4096x1024, .f32⟩
  | 87 => ⟨S1x1x1024, .f32⟩
  | 88 => ⟨S8x4096x1024, .f32⟩
  | 89 => ⟨S8x4096x1024, .f32⟩
  | 90 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_v52 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_14 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_call1_v3 : Ref sig .tc := ⟨.hbm, 118, rfl⟩
abbrev main_call1_v4 : Ref sig .tc := ⟨.hbm, 119, rfl⟩
abbrev main_call1_v5 : Ref sig .tc := ⟨.hbm, 120, rfl⟩
abbrev main_call1_v6 : Ref sig .tc := ⟨.hbm, 121, rfl⟩
abbrev main_call1_v7 : Ref sig .tc := ⟨.hbm, 122, rfl⟩
abbrev main_call1_v8 : Ref sig .tc := ⟨.hbm, 123, rfl⟩
abbrev main_call1_c : Ref sig .tc := ⟨.hbm, 124, rfl⟩
abbrev main_call1_v9 : Ref sig .tc := ⟨.hbm, 125, rfl⟩
abbrev main_call1_v10 : Ref sig .tc := ⟨.hbm, 126, rfl⟩
abbrev main_call1_v11 : Ref sig .tc := ⟨.hbm, 127, rfl⟩
abbrev main_call1_c_0 : Ref sig .tc := ⟨.hbm, 128, rfl⟩
abbrev main_call1_v12 : Ref sig .tc := ⟨.hbm, 129, rfl⟩
abbrev main_call1_v13 : Ref sig .tc := ⟨.hbm, 130, rfl⟩
abbrev main_v78 : Ref sig .tc := ⟨.hbm, 131, rfl⟩
abbrev main_v79 : Ref sig .tc := ⟨.hbm, 132, rfl⟩
abbrev main_c_15 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_v6 : Ref sig .tc := ⟨.hbm, 140, rfl⟩
abbrev main_call2_v7 : Ref sig .tc := ⟨.hbm, 141, rfl⟩
abbrev main_call2_v8 : Ref sig .tc := ⟨.hbm, 142, rfl⟩
abbrev main_call2_c : Ref sig .tc := ⟨.hbm, 143, rfl⟩
abbrev main_call2_v9 : Ref sig .tc := ⟨.hbm, 144, rfl⟩
abbrev main_call2_v10 : Ref sig .tc := ⟨.hbm, 145, rfl⟩
abbrev main_call2_v11 : Ref sig .tc := ⟨.hbm, 146, rfl⟩
abbrev main_call2_c_0 : Ref sig .tc := ⟨.hbm, 147, rfl⟩
abbrev main_call2_v12 : Ref sig .tc := ⟨.hbm, 148, rfl⟩
abbrev main_call2_v13 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_cst_16 : Ref sig .tc := ⟨.hbm, 155, rfl⟩
abbrev main_call3_v0 : Ref sig .tc := ⟨.hbm, 156, rfl⟩
abbrev main_call3_v1 : Ref sig .tc := ⟨.hbm, 157, rfl⟩
abbrev main_call3_v2 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_call4_v0 : Ref sig .tc := ⟨.hbm, 169, rfl⟩
abbrev main_call4_v1 : Ref sig .tc := ⟨.hbm, 170, rfl⟩
abbrev main_call4_cst : Ref sig .tc := ⟨.hbm, 171, rfl⟩
abbrev main_call4_v2 : Ref sig .tc := ⟨.hbm, 172, rfl⟩
abbrev main_call4_v3 : Ref sig .tc := ⟨.hbm, 173, rfl⟩
abbrev main_call4_cst_0 : Ref sig .tc := ⟨.hbm, 174, rfl⟩
abbrev main_call4_v4 : Ref sig .tc := ⟨.hbm, 175, rfl⟩
abbrev main_call4_v5 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_17 : Ref sig .tc := ⟨.hbm, 183, rfl⟩
abbrev main_v101 : Ref sig .tc := ⟨.hbm, 184, rfl⟩
abbrev main_v102 : Ref sig .tc := ⟨.hbm, 185, rfl⟩
abbrev main_cst_18 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_cst_19 : Ref sig .tc := ⟨.hbm, 192, rfl⟩
abbrev main_v108 : Ref sig .tc := ⟨.hbm, 193, rfl⟩
abbrev main_v109 : Ref sig .tc := ⟨.hbm, 194, rfl⟩
abbrev main_cst_20 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_cst_21 : Ref sig .tc := ⟨.hbm, 203, rfl⟩
abbrev main_v117 : Ref sig .tc := ⟨.hbm, 204, rfl⟩
abbrev main_v118 : Ref sig .tc := ⟨.hbm, 205, rfl⟩
abbrev main_cst_22 : Ref sig .tc := ⟨.hbm, 206, rfl⟩
abbrev main_v119 : Ref sig .tc := ⟨.hbm, 207, rfl⟩
abbrev main_v120 : Ref sig .tc := ⟨.hbm, 208, rfl⟩
abbrev main_cst_23 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩

abbrev nD : Nat := 1
abbrev τ : Topo := Topo.v7x

variable {F : FTy → Type} [FloatOps F]
-- ==== KernelQkv.lean ====
abbrev S8x4096x1024 : Shape := ⟨3, ![8, 4096, 1024]⟩
abbrev S1024 : Shape := ⟨1, ![1024]⟩
abbrev S1024x5632 : Shape := ⟨2, ![1024, 5632]⟩
abbrev S32768x1024 : Shape := ⟨2, ![32768, 1024]⟩
abbrev S1x1024 : Shape := ⟨2, ![1, 1024]⟩
abbrev S4x32768x128 : Shape := ⟨3, ![4, 32768, 128]⟩
abbrev S2048x1024 : Shape := ⟨2, ![2048, 1024]⟩
abbrev S1024x1536 : Shape := ⟨2, ![1024, 1536]⟩
abbrev S4x2048x128 : Shape := ⟨3, ![4, 2048, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 8
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S32768x1024, .f32⟩
  | .hbm, ⟨4, _⟩ => ⟨S1x1024, .f32⟩
  | .hbm, ⟨5, _⟩ => ⟨S4x32768x128, .bf16⟩
  | .hbm, ⟨6, _⟩ => ⟨S4x32768x128, .bf16⟩
  | .hbm, ⟨7, _⟩ => ⟨S4x32768x128, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1536, .f32⟩
  | .local _ .vmem, ⟨4, _⟩ => ⟨S4x2048x128, .bf16⟩
  | .local _ .vmem, ⟨5, _⟩ => ⟨S4x2048x128, .bf16⟩
  | .local _ .vmem, ⟨6, _⟩ => ⟨S4x2048x128, .bf16⟩
  | .local _ .vmem, ⟨7, _⟩ => ⟨S4x2048x128, .bf16⟩
  | .local _ .vmem, ⟨8, _⟩ => ⟨S4x2048x128, .bf16⟩
  | .local _ .vmem, ⟨9, _⟩ => ⟨S4x2048x128, .bf16⟩
  | .local _ .vmem, ⟨10, _⟩ => ⟨S1024x1536, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceQkvIdeal.lean ====
abbrev S8x4096x1024 : Shape := ⟨3, ![8, 4096, 1024]⟩
abbrev S1024 : Shape := ⟨1, ![1024]⟩
abbrev S1024x5632 : Shape := ⟨2, ![1024, 5632]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x1536 : Shape := ⟨2, ![1024, 1536]⟩
abbrev S8x4096x1536 : Shape := ⟨3, ![8, 4096, 1536]⟩
abbrev S8x4096x512 : Shape := ⟨3, ![8, 4096, 512]⟩
abbrev S32768x4x128 : Shape := ⟨3, ![32768, 4, 128]⟩
abbrev S4x32768x128 : Shape := ⟨3, ![4, 32768, 128]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S1024x1536, .f32⟩
  | .hbm, ⟨20, _⟩ => ⟨S8x4096x1536, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S_, .f32⟩
  | .hbm, ⟨25, _⟩ => ⟨S8x4096x512, .f32⟩
  | .hbm, ⟨26, _⟩ => ⟨S8x4096x512, .f32⟩
  | .hbm, ⟨27, _⟩ => ⟨S32768x4x128, .f32⟩
  | .hbm, ⟨28, _⟩ => ⟨S4x32768x128, .f32⟩
  | .hbm, ⟨29, _⟩ => ⟨S4x32768x128, .bf16⟩
  | .hbm, ⟨30, _⟩ => ⟨S32768x4x128, .f32⟩
  | .hbm, ⟨31, _⟩ => ⟨S4x32768x128, .f32⟩
  | .hbm, ⟨32, _⟩ => ⟨S4x32768x128, .bf16⟩
  | .hbm, ⟨33, _⟩ => ⟨S32768x4x128, .f32⟩
  | .hbm, ⟨34, _⟩ => ⟨S4x32768x128, .f32⟩
  | .hbm, ⟨35, _⟩ => ⟨S4x32768x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proof.AttnIdealKit.lean ====
/- The launch of the stick-breaking attention (KernelIdeal): the arrays as the pallas_call finds them, the blocks its windows
   cut out of them, and the frame of the whole program from a run of its launch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program up to the pallas_call -/

/-- Core `c`'s buffers when the pallas_call is entered: after the host operations. -/
abbrev V (c : Dev nD) (b : Ref sig .tc) : Buf (Elt F) ((c : Thread nD τ).loc b) :=
  StableHlo.after (List.flatten [hostOps0]) (fun b => m (c, b)) b

/-- Each host operation writes a buffer of its own only. -/
theorem hostOps0_fresh : (hostOps0 : List (HloOp τ sig (Elt F))).Forall fun op => op.fresh = ∅ := by
  simp only [List.Forall]; repeat' constructor

set_option maxHeartbeats 800000 in
/-- The program up to the pallas_call: the host operations, then the call. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes `main_arg0`: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg1`: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg2`: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg3`: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg4`: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg5`: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg6`: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the call finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The staging buffer of input window 0 holds its block at every point, for any proof data over the arrays as the
    call finds them whose body leaves the block in place. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 1 holds its block at every point, for any proof data over the arrays as the
    call finds them whose body leaves the block in place. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 2 holds its block at every point, for any proof data over the arrays as the
    call finds them whose body leaves the block in place. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 3 holds its block at every point, for any proof data over the arrays as the
    call finds them whose body leaves the block in place. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 4 holds its block at every point, for any proof data over the arrays as the
    call finds them whose body leaves the block in place. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 5 holds its block at every point, for any proof data over the arrays as the
    call finds them whose body leaves the block in place. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 6 holds its block at every point, for any proof data over the arrays as the
    call finds them whose body leaves the block in place. -/
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The staging buffer of input window 7 holds its block at every point, for any proof data over the arrays as the
    call finds them whose body leaves the block in place. -/
theorem before0_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the launch -/

/-- The frame claim's conclusion, from a run whose arrays are those the call found. -/
theorem frame_of (rdat : (c : Dev nD) → Pipeline.RDat τ (Elt F) Unit ℕ (UR sig nD τ) ℕ (cfgs (F := F) 0) c)
    (hA : ∀ c w, (rdat c).A w = V m c (Pipeline.arrRef spec0 w))
    (h : θ_run defs (onTc (τ := τ) (main (F := F))) (s₀ m ρ) (Pipeline.RDat.FramePost (cfgs (F := F) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide : ∀ w : Fin 13, (spec0 w).arr.view.ref ≠ main_arg0))).trans (V_main_arg0 m c),
      ((h c).2 main_arg1 (Pipeline.mem_restRefs_of main_arg1 (by decide) (by decide : ∀ w : Fin 13, (spec0 w).arr.view.ref ≠ main_arg1))).trans (V_main_arg1 m c),
      ((h c).2 main_arg2 (Pipeline.mem_restRefs_of main_arg2 (by decide) (by decide : ∀ w : Fin 13, (spec0 w).arr.view.ref ≠ main_arg2))).trans (V_main_arg2 m c),
      (Pipeline.RDat.FramePost.arr_in h c 4 rfl).trans ((hA c 4).trans (V_main_arg3 m c)),
      (Pipeline.RDat.FramePost.arr_in h c 5 rfl).trans ((hA c 5).trans (V_main_arg4 m c)),
      (Pipeline.RDat.FramePost.arr_in h c 6 rfl).trans ((hA c 6).trans (V_main_arg5 m c)),
      (Pipeline.RDat.FramePost.arr_in h c 7 rfl).trans ((hA c 7).trans (V_main_arg6 m c))⟩) h

/-! ## The memrefs the body is called with -/

/-- Window 0's staging memref at point `t`. -/
abbrev ms0_0 (t : Fin (cfg0 (F := F)).N) : Memref sig .tc .vmem S4x1x1024x128 .bf16 := win0_0.stage ((cfg0 (F := F)).slots t 0)
/-- It is a whole buffer. -/
abbrev hs0_0 (t : Fin (cfg0 (F := F)).N) : (ms0_0 t).IsWhole := hstage0_0 (((cfg0 (F := F)).slots t 0).cast nbuf0_0)
/-- Window 1's staging memref at point `t`. -/
abbrev ms0_1 (t : Fin (cfg0 (F := F)).N) : Memref sig .tc .vmem S4x1x4096x128 .bf16 := win0_1.stage ((cfg0 (F := F)).slots t 1)
/-- It is a whole buffer. -/
abbrev hs0_1 (t : Fin (cfg0 (F := F)).N) : (ms0_1 t).IsWhole := hstage0_1 (((cfg0 (F := F)).slots t 1).cast nbuf0_1)
/-- Window 2's staging memref at point `t`. -/
abbrev ms0_2 (t : Fin (cfg0 (F := F)).N) : Memref sig .tc .vmem S4x1x4096x128 .bf16 := win0_2.stage ((cfg0 (F := F)).slots t 2)
/-- It is a whole buffer. -/
abbrev hs0_2 (t : Fin (cfg0 (F := F)).N) : (ms0_2 t).IsWhole := hstage0_2 (((cfg0 (F := F)).slots t 2).cast nbuf0_2)
/-- Window 3's staging memref at point `t`. -/
abbrev ms0_3 (t : Fin (cfg0 (F := F)).N) : Memref sig .tc .vmem S512x256 .bf16 := win0_3.stage ((cfg0 (F := F)).slots t 3)
/-- It is a whole buffer. -/
abbrev hs0_3 (t : Fin (cfg0 (F := F)).N) : (ms0_3 t).IsWhole := hstage0_3 (((cfg0 (F := F)).slots t 3).cast nbuf0_3)
/-- Window 4's staging memref at point `t`. -/
abbrev ms0_4 (t : Fin (cfg0 (F := F)).N) : Memref sig .tc .vmem S1024x128 .f32 := win0_4.stage ((cfg0 (F := F)).slots t 4)
/-- It is a whole buffer. -/
abbrev hs0_4 (t : Fin (cfg0 (F := F)).N) : (ms0_4 t).IsWhole := hstage0_4 (((cfg0 (F := F)).slots t 4).cast nbuf0_4)
/-- Window 5's staging memref at point `t`. -/
abbrev ms0_5 (t : Fin (cfg0 (F := F)).N) : Memref sig .tc .vmem S16x1024 .f32 := win0_5.stage ((cfg0 (F := F)).slots t 5)
/-- It is a whole buffer. -/
abbrev hs0_5 (t : Fin (cfg0 (F := F)).N) : (ms0_5 t).IsWhole := hstage0_5 (((cfg0 (F := F)).slots t 5).cast nbuf0_5)
/-- Window 6's staging memref at point `t`. -/
abbrev ms0_6 (t : Fin (cfg0 (F := F)).N) : Memref sig .tc .vmem S16x1024 .f32 := win0_6.stage ((cfg0 (F := F)).slots t 6)
/-- It is a whole buffer. -/
abbrev hs0_6 (t : Fin (cfg0 (F := F)).N) : (ms0_6 t).IsWhole := hstage0_6 (((cfg0 (F := F)).slots t 6).cast nbuf0_6)
/-- Window 7's staging memref at point `t`. -/
abbrev ms0_7 (t : Fin (cfg0 (F := F)).N) : Memref sig .tc .vmem S32x1024 .f32 := win0_7.stage ((cfg0 (F := F)).slots t 7)
/-- It is a whole buffer. -/
abbrev hs0_7 (t : Fin (cfg0 (F := F)).N) : (ms0_7 t).IsWhole := hstage0_7 (((cfg0 (F := F)).slots t 7).cast nbuf0_7)
/-- Window 8's staging memref at point `t`. -/
abbrev ms0_8 (t : Fin (cfg0 (F := F)).N) : Memref sig .tc .vmem S1x1024x512 .f32 := win0_8.stage ((cfg0 (F := F)).slots t 8)
/-- It is a whole buffer. -/
abbrev hs0_8 (t : Fin (cfg0 (F := F)).N) : (ms0_8 t).IsWhole := hstage0_8 (((cfg0 (F := F)).slots t 8).cast nbuf0_8)
/-- Window 9's staging memref at point `t`. -/
abbrev ms0_9 (t : Fin (cfg0 (F := F)).N) : Memref sig .tc .vmem S1024x128 .bf16 := win0_9.stage ((cfg0 (F := F)).slots t 9)
/-- It is a whole buffer. -/
abbrev hs0_9 (t : Fin (cfg0 (F := F)).N) : (ms0_9 t).IsWhole := hstage0_9 (((cfg0 (F := F)).slots t 9).cast nbuf0_9)
/-- Window 10's staging memref at point `t`. -/
abbrev ms0_10 (t : Fin (cfg0 (F := F)).N) : Memref sig .tc .vmem S16x1024 .bf16 := win0_10.stage ((cfg0 (F := F)).slots t 10)
/-- It is a whole buffer. -/
abbrev hs0_10 (t : Fin (cfg0 (F := F)).N) : (ms0_10 t).IsWhole := hstage0_10 (((cfg0 (F := F)).slots t 10).cast nbuf0_10)
/-- Window 11's staging memref at point `t`. -/
abbrev ms0_11 (t : Fin (cfg0 (F := F)).N) : Memref sig .tc .vmem S16x1024 .bf16 := win0_11.stage ((cfg0 (F := F)).slots t 11)
/-- It is a whole buffer. -/
abbrev hs0_11 (t : Fin (cfg0 (F := F)).N) : (ms0_11 t).IsWhole := hstage0_11 (((cfg0 (F := F)).slots t 11).cast nbuf0_11)
/-- Window 12's staging memref at point `t`. -/
abbrev ms0_12 (t : Fin (cfg0 (F := F)).N) : Memref sig .tc .vmem S32x1024 .bf16 := win0_12.stage ((cfg0 (F := F)).slots t 12)
/-- It is a whole buffer. -/
abbrev hs0_12 (t : Fin (cfg0 (F := F)).N) : (ms0_12 t).IsWhole := hstage0_12 (((cfg0 (F := F)).slots t 12).cast nbuf0_12)
/-- The sums of the values, one slab for each chain. -/
abbrev scM0_0 : Memref sig .tc .vmem S32x256x128 .f32 := Memref.whole cc0_scratch0
/-- The sums of the sticks, one slab for each chain. -/
abbrev scM0_1 : Memref sig .tc .vmem S32x256x128 .f32 := Memref.whole cc0_scratch1
/-- The list of the chains that have older keys. -/
abbrev scM0_2 : Memref sig .tc .smem S32 .i32 := Memref.whole cc0_scratch2
/-- Its length. -/
abbrev scM0_3 : Memref sig .tc .smem S1 .i32 := Memref.whole cc0_scratch3

/-- What the launch keeps between two points: the four scratch buffers at some contents, and the generator. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Attn

end
-- ==== Proof.AttnIdealWords.lean ====
/- The words of the attention body: the count of the listed chains and the offsets computed from a chain and from a window. -/
module

public import proofs.«01_k».proof.Proof.AttnIdealKit

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- A count that has seen `k` chains is at most `k + 1` after one more. -/
theorem count_add {W : BitVec 32} {b : BitVec 1} {k : ℕ} (h : W.toNat ≤ k) (hk : k < 32) :
    (Scalar.addi W (Scalar.extui b) : BitVec 32).toNat ≤ k + 1 := by
  have hb : b.toNat < 2 := b.isLt
  show (W + BitVec.setWidth 32 b).toNat ≤ k + 1
  rw [BitVec.toNat_add, BitVec.toNat_setWidth, Nat.mod_eq_of_lt (a := b.toNat) (by omega)]
  rw [Nat.mod_eq_of_lt (by omega)]; omega

/-- The count starts at zero. -/
theorem count_zero : (0#32 : BitVec 32).toNat ≤ 0 := le_refl _

/-- A count of at most 1 is a place in the list. -/
theorem chk2_of {W : BitVec 32} (h : W.toNat ≤ 1) : k0_chk2 W := by
  intro a; obtain rfl : a = 0 := Subsingleton.elim _ _
  show W.toNat + 1 ≤ 32; omega

/-- A count of at most 2 is a place in the list. -/
theorem chk3_of {W : BitVec 32} (h : W.toNat ≤ 2) : k0_chk3 W := by
  intro a; obtain rfl : a = 0 := Subsingleton.elim _ _
  show W.toNat + 1 ≤ 32; omega

/-- A count of at most 3 is a place in the list. -/
theorem chk4_of {W : BitVec 32} (h : W.toNat ≤ 3) : k0_chk4 W := by
  intro a; obtain rfl : a = 0 := Subsingleton.elim _ _
  show W.toNat + 1 ≤ 32; omega

/-- A count of at most 4 is a place in the list. -/
theorem chk5_of {W : BitVec 32} (h : W.toNat ≤ 4) : k0_chk5 W := by
  intro a; obtain rfl : a = 0 := Subsingleton.elim _ _
  show W.toNat + 1 ≤ 32; omega

/-- A count of at most 5 is a place in the list. -/
theorem chk6_of {W : BitVec 32} (h : W.toNat ≤ 5) : k0_chk6 W := by
  intro a; obtain rfl : a = 0 := Subsingleton.elim _ _
  show W.toNat + 1 ≤ 32; omega

/-- A count of at most 6 is a place in the list. -/
theorem chk7_of {W : BitVec 32} (h : W.toNat ≤ 6) : k0_chk7 W := by
  intro a; obtain rfl : a = 0 := Subsingleton.elim _ _
  show W.toNat + 1 ≤ 32; omega

/-- A count of at most 7 is a place in the list. -/
theorem chk8_of {W : BitVec 32} (h : W.toNat ≤ 7) : k0_chk8 W := by
  intro a; obtain rfl : a = 0 := Subsingleton.elim _ _
  show W.toNat + 1 ≤ 32; omega

/-- A count of at most 8 is a place in the list. -/
theorem chk9_of {W : BitVec 32} (h : W.toNat ≤ 8) : k0_chk9 W := by
  intro a; obtain rfl : a = 0 := Subsingleton.elim _ _
  show W.toNat + 1 ≤ 32; omega

/-- A count of at most 9 is a place in the list. -/
theorem chk10_of {W : BitVec 32} (h : W.toNat ≤ 9) : k0_chk10 W := by
  intro a; obtain rfl : a = 0 := Subsingleton.elim _ _
  show W.toNat + 1 ≤ 32; omega

/-- A count of at most 10 is a place in the list. -/
theorem chk11_of {W : BitVec 32} (h : W.toNat ≤ 10) : k0_chk11 W := by
  intro a; obtain rfl : a = 0 := Subsingleton.elim _ _
  show W.toNat + 1 ≤ 32; omega

/-- A count of at most 11 is a place in the list. -/
theorem chk12_of {W : BitVec 32} (h : W.toNat ≤ 11) : k0_chk12 W := by
  intro a; obtain rfl : a = 0 := Subsingleton.elim _ _
  show W.toNat + 1 ≤ 32; omega

/-- A count of at most 12 is a place in the list. -/
theorem chk13_of {W : BitVec 32} (h : W.toNat ≤ 12) : k0_chk13 W := by
  intro a; obtain rfl : a = 0 := Subsingleton.elim _ _
  show W.toNat + 1 ≤ 32; omega

/-- A count of at most 13 is a place in the list. -/
theorem chk14_of {W : BitVec 32} (h : W.toNat ≤ 13) : k0_chk14 W := by
  intro a; obtain rfl : a = 0 := Subsingleton.elim _ _
  show W.toNat + 1 ≤ 32; omega

/-- A count of at most 14 is a place in the list. -/
theorem chk15_of {W : BitVec 32} (h : W.toNat ≤ 14) : k0_chk15 W := by
  intro a; obtain rfl : a = 0 := Subsingleton.elim _ _
  show W.toNat + 1 ≤ 32; omega

/-- A count of at most 15 is a place in the list. -/
theorem chk16_of {W : BitVec 32} (h : W.toNat ≤ 15) : k0_chk16 W := by
  intro a; obtain rfl : a = 0 := Subsingleton.elim _ _
  show W.toNat + 1 ≤ 32; omega

/-- A count of at most 16 is a place in the list. -/
theorem chk17_of {W : BitVec 32} (h : W.toNat ≤ 16) : k0_chk17 W := by
  intro a; obtain rfl : a = 0 := Subsingleton.elim _ _
  show W.toNat + 1 ≤ 32; omega

/-- A count of at most 17 is a place in the list. -/
theorem chk18_of {W : BitVec 32} (h : W.toNat ≤ 17) : k0_chk18 W := by
  intro a; obtain rfl : a = 0 := Subsingleton.elim _ _
  show W.toNat + 1 ≤ 32; omega

/-- A count of at most 18 is a place in the list. -/
theorem chk19_of {W : BitVec 32} (h : W.toNat ≤ 18) : k0_chk19 W := by
  intro a; obtain rfl : a = 0 := Subsingleton.elim _ _
  show W.toNat + 1 ≤ 32; omega

/-- A count of at most 19 is a place in the list. -/
theorem chk20_of {W : BitVec 32} (h : W.toNat ≤ 19) : k0_chk20 W := by
  intro a; obtain rfl : a = 0 := Subsingleton.elim _ _
  show W.toNat + 1 ≤ 32; omega

/-- A count of at most 20 is a place in the list. -/
theorem chk21_of {W : BitVec 32} (h : W.toNat ≤ 20) : k0_chk21 W := by
  intro a; obtain rfl : a = 0 := Subsingleton.elim _ _
  show W.toNat + 1 ≤ 32; omega

/-- A count of at most 21 is a place in the list. -/
theorem chk22_of {W : BitVec 32} (h : W.toNat ≤ 21) : k0_chk22 W := by
  intro a; obtain rfl : a = 0 := Subsingleton.elim _ _
  show W.toNat + 1 ≤ 32; omega

/-- A count of at most 22 is a place in the list. -/
theorem chk23_of {W : BitVec 32} (h : W.toNat ≤ 22) : k0_chk23 W := by
  intro a; obtain rfl : a = 0 := Subsingleton.elim _ _
  show W.toNat + 1 ≤ 32; omega

/-- A count of at most 23 is a place in the list. -/
theorem chk24_of {W : BitVec 32} (h : W.toNat ≤ 23) : k0_chk24 W := by
  intro a; obtain rfl : a = 0 := Subsingleton.elim _ _
  show W.toNat + 1 ≤ 32; omega

/-- A count of at most 24 is a place in the list. -/
theorem chk25_of {W : BitVec 32} (h : W.toNat ≤ 24) : k0_chk25 W := by
  intro a; obtain rfl : a = 0 := Subsingleton.elim _ _
  show W.toNat + 1 ≤ 32; omega

/-- A count of at most 25 is a place in the list. -/
theorem chk26_of {W : BitVec 32} (h : W.toNat ≤ 25) : k0_chk26 W := by
  intro a; obtain rfl : a = 0 := Subsingleton.elim _ _
  show W.toNat + 1 ≤ 32; omega

/-- A count of at most 26 is a place in the list. -/
theorem chk27_of {W : BitVec 32} (h : W.toNat ≤ 26) : k0_chk27 W := by
  intro a; obtain rfl : a = 0 := Subsingleton.elim _ _
  show W.toNat + 1 ≤ 32; omega

/-- A count of at most 27 is a place in the list. -/
theorem chk28_of {W : BitVec 32} (h : W.toNat ≤ 27) : k0_chk28 W := by
  intro a; obtain rfl : a = 0 := Subsingleton.elim _ _
  show W.toNat + 1 ≤ 32; omega

/-- A count of at most 28 is a place in the list. -/
theorem chk29_of {W : BitVec 32} (h : W.toNat ≤ 28) : k0_chk29 W := by
  intro a; obtain rfl : a = 0 := Subsingleton.elim _ _
  show W.toNat + 1 ≤ 32; omega

/-- A count of at most 29 is a place in the list. -/
theorem chk30_of {W : BitVec 32} (h : W.toNat ≤ 29) : k0_chk30 W := by
  intro a; obtain rfl : a = 0 := Subsingleton.elim _ _
  show W.toNat + 1 ≤ 32; omega

/-- A count of at most 30 is a place in the list. -/
theorem chk31_of {W : BitVec 32} (h : W.toNat ≤ 30) : k0_chk31 W := by
  intro a; obtain rfl : a = 0 := Subsingleton.elim _ _
  show W.toNat + 1 ≤ 32; omega

/-- A count of at most 31 is a place in the list. -/
theorem chk32_of {W : BitVec 32} (h : W.toNat ≤ 31) : k0_chk32 W := by
  intro a; obtain rfl : a = 0 := Subsingleton.elim _ _
  show W.toNat + 1 ≤ 32; omega

/-- A word is the word of its number. -/
theorem ofNat_toNat {W : BitVec 32} {n : ℕ} (h : W.toNat = n) : W = BitVec.ofNat 32 n := by
  subst h; exact (by simp)

/-- The number of chains is in range. -/
theorem chk33_all : ∀ x : Fin 33, k0_chk33 (BitVec.ofNat 32 x.val) := by decide +kernel

/-- A count of at most 32 is a number of trips whose places lie in the list. -/
theorem chk33_of {W : BitVec 32} (h : W.toNat ≤ 32) : k0_chk33 W := by
  rw [ofNat_toNat (W := W) rfl]; exact chk33_all ⟨W.toNat, by omega⟩

/-- The loop over the listed chains runs once for each. -/
theorem trips_all : ∀ x : Fin 33, (k0_t1_loop (BitVec.ofNat 32 x.val)).trips = x.val := by decide +kernel

/-- The loop over the list makes as many trips as chains are listed. -/
theorem trips_of {W : BitVec 32} (h : W.toNat ≤ 32) : (k0_t1_loop W).trips = W.toNat := by
  conv_lhs => rw [ofNat_toNat (W := W) rfl]
  exact trips_all ⟨W.toNat, by omega⟩

/-- Each chain's place in the list is in range. -/
theorem off37_all : ∀ (x : Fin 33) (t : Fin (k0_t1_loop (BitVec.ofNat 32 x.val)).trips),
    k0_off37 (BitVec.ofNat 32 x.val) t 0 = t.val := by decide +kernel

/-- Trip `t` reads place `t` of the list. -/
theorem off37_of {W : BitVec 32} (h : W.toNat ≤ 32) (t : Fin (k0_t1_loop W).trips) :
    k0_off37 W t 0 = t.val := by
  obtain ⟨x, rfl⟩ : ∃ x : Fin 33, W = BitVec.ofNat 32 x.val := ⟨⟨W.toNat, by omega⟩, ofNat_toNat rfl⟩
  exact off37_all x t

/-- Each block of queries is in range. -/
theorem chk34_all : ∀ x : Fin 32, k0_chk34 (BitVec.ofNat 32 x.val) := by decide +kernel

/-- A chain's number is in range. -/
theorem chk34_of {W : BitVec 32} (h : W.toNat < 32) : k0_chk34 W := by
  rw [ofNat_toNat (W := W) rfl]; exact chk34_all ⟨W.toNat, h⟩

/-- Each block of keys is in range. -/
theorem chk35_all : ∀ (x : Fin 32) (e : Fin 33), k0_chk35 (BitVec.ofNat 32 x.val) (BitVec.ofNat 32 (128 * e.val)) := by
  decide +kernel

/-- A window that ends at a multiple of 128 within the keys lies within them. -/
theorem chk35_of {W : BitVec 32} (h : W.toNat < 32) {e : ℕ} (he : e ≤ 32) :
    k0_chk35 W (BitVec.ofNat 32 (128 * e)) := by
  rw [ofNat_toNat (W := W) rfl]; exact chk35_all ⟨W.toNat, h⟩ ⟨e, by omega⟩

/-- The window before the one that ends at `128 e`: it ends at `128 (e - 2)`. -/
theorem next_window : ∀ e : Fin 33,
    Scalar.maxsi (Scalar.subi (BitVec.ofNat 32 (128 * e.val)) 256#32) 0#32 = BitVec.ofNat 32 (128 * (e.val - 2)) := by
  decide +kernel

/-- Nothing lies before a window that starts at key 0. -/
theorem flag_zero (b : BitVec 1) : Scalar.andi (Scalar.cmpi .sgt (0#32) 0#32) b = 0#1 := by
  revert b; decide

/-- A chain's tile, as the kernel computes it: the chain's number over four, rounded down. -/
def tileOf (w : BitVec 32) : BitVec 32 :=
  Scalar.select (Scalar.andi
      (Scalar.cmpi .ne (Scalar.subi (Scalar.extui (Scalar.cmpi .sgt w 0#32) : BitVec 32) (Scalar.extui (Scalar.cmpi .slt w 0#32)))
        (Scalar.subi (Scalar.extui (Scalar.cmpi .sgt 4#32 0#32) : BitVec 32) (Scalar.extui (Scalar.cmpi .slt 4#32 0#32))))
      (Scalar.cmpi .ne (Scalar.remsi w 4#32) 0#32))
    (Scalar.subi (Scalar.divsi w 4#32) 1#32) (Scalar.divsi w 4#32)

/-- The first window below a tile's own, as the kernel computes it from the block's first query. -/
def firstWindow (v12 w : BitVec 32) : BitVec 32 :=
  Scalar.maxsi (Scalar.subi (Scalar.addi v12 (Scalar.muli (Scalar.addi (tileOf w) 1#32) 128#32)) 256#32) 0#32

/-- The first window of keys of each block of queries is in range. -/
theorem first_window_all : ∀ (t : Fin 4) (x : Fin 32),
    firstWindow (Scalar.muli (BitVec.ofNat 32 t.val) 1024#32) (BitVec.ofNat 32 x.val)
      = BitVec.ofNat 32 (128 * (8 * t.val + x.val / 4 - 1)) := by
  decide +kernel

/-- The first window below a tile's own ends at a multiple of 128. -/
theorem first_window {v12 w : BitVec 32} (h : ∃ t : Fin 4, v12 = Scalar.muli (BitVec.ofNat 32 t.val) 1024#32)
    (hw : w.toNat < 32) : ∃ e ≤ 32, firstWindow v12 w = BitVec.ofNat 32 (128 * e) := by
  obtain ⟨t, rfl⟩ := h
  refine ⟨8 * t.val + w.toNat / 4 - 1, by omega, ?_⟩
  rw [ofNat_toNat (W := w) rfl]
  simpa using first_window_all t ⟨w.toNat, hw⟩

end Cert.KernelIdeal.Attn

end
-- ==== Proof.AttnIdealLoop.lean ====
/- The loops of the attention body: over the list of the chains that go on, and over a chain's windows. -/
module

public import proofs.«01_k».proof.Proof.AttnIdealWords
public import proofs.«01_k».proof.Proof.Gen.KernelIdeal.Loops
public import Idealize.ShloMosaic.Lib.CellWrites

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The second label's body. -/
theorem defs₀_while (c : Dev nD) (a : Cc0While1 F) :
    (defs₀ (F := F)) (c : Thread nD τ).2 1 a = cc0_while1 a.i a.v1765 a.k0_hw1 a.v1776 a.k0_hw2 a.v1787 a.k0_hw3 a.v1798 a.k0_hw4 a.v1809 a.k0_hw5 a.v1820 a.k0_hw6 a.v1831 a.k0_hw7 a.v1842 a.k0_hw8 a.v1853 a.k0_hw9 a.v1864 a.k0_hw10 a.v1875 a.k0_hw11 a.v1886 a.k0_hw12 a.v1897 a.k0_hw13 a.v1908 a.k0_hw14 a.v1919 a.k0_hw15 a.v1930 a.k0_hw16 a.v1941 a.k0_hw17 a.v1952 a.k0_hw18 a.v1963 a.k0_hw19 a.v1974 a.k0_hw20 a.v1985 a.k0_hw21 a.v1996 a.k0_hw22 a.v2007 a.k0_hw23 a.v2018 a.k0_hw24 a.v2029 a.k0_hw25 a.v2040 a.k0_hw26 a.v2051 a.k0_hw27 a.v2062 a.k0_hw28 a.v2073 a.k0_hw29 a.v2084 a.k0_hw30 a.v2095 a.k0_hw31 a.v2106 a.k0_hw32 a.v2117 a.k0_hw33 a.k0_t1 a.v2382 a.k0_hw34 a.v19 a.v2409 a.arg3 a.harg3 a.v2419 a.arg5 a.harg5 a.arg16 a.harg16 a.arg4 a.harg4 a.arg15 a.harg15 a.arg21 a.arg22 := by
  unfold defs₀; rw [Defs.onTc_tc]

open sWPT (arbitrary consume produce) in
/-- What a call of the loop over a chain's windows asks and returns: it holds the keys, the values, the
    triangle, and the two accumulators, and returns them, the accumulators with contents of its own. -/
def specWhile (c : Dev nD) {arg3 arg4 : Memref sig .tc .vmem S4x1x4096x128 .bf16} (harg3 : arg3.IsWhole) (harg4 : arg4.IsWhole)
    {arg5 : Memref sig .tc .vmem S512x256 .bf16} (harg5 : arg5.IsWhole) (arg15 arg16 : Memref sig .tc .vmem S32x256x128 .f32)
    (x3 x4 : Vec F S4x1x4096x128 .bf16) (x5 : Vec F S512x256 .bf16) : sWPT 𝕄 (BitVec 32 × BitVec 1) := do
  consume iprop((View.loc (c : Thread nD τ) arg3.view ↦[arg3.view.set]{fullShare} harg3.unread x3) ∗ (View.loc (c : Thread nD τ) arg4.view ↦[arg4.view.set]{fullShare} harg4.unread x4) ∗ (View.loc (c : Thread nD τ) arg5.view ↦[arg5.view.set]{fullShare} harg5.unread x5) ∗ (∃ g15, (View.loc (c : Thread nD τ) arg15.view ↦[arg15.view.set]{fullShare} g15)) ∗ (∃ g16, (View.loc (c : Thread nD τ) arg16.view ↦[arg16.view.set]{fullShare} g16)))
  let r ← arbitrary
  produce iprop((View.loc (c : Thread nD τ) arg3.view ↦[arg3.view.set]{fullShare} harg3.unread x3) ∗ (View.loc (c : Thread nD τ) arg4.view ↦[arg4.view.set]{fullShare} harg4.unread x4) ∗ (View.loc (c : Thread nD τ) arg5.view ↦[arg5.view.set]{fullShare} harg5.unread x5) ∗ (∃ g15, (View.loc (c : Thread nD τ) arg15.view ↦[arg15.view.set]{fullShare} g15)) ∗ (∃ g16, (View.loc (c : Thread nD τ) arg16.view ↦[arg16.view.set]{fullShare} g16)))
  pure r

/-- What the loop's rule says of the search over the listed keys. -/
theorem specWhile_apply (c : Dev nD) {arg3 arg4 : Memref sig .tc .vmem S4x1x4096x128 .bf16} (harg3 : arg3.IsWhole) (harg4 : arg4.IsWhole)
    {arg5 : Memref sig .tc .vmem S512x256 .bf16} (harg5 : arg5.IsWhole) (arg15 arg16 : Memref sig .tc .vmem S32x256x128 .f32)
    (x3 x4 : Vec F S4x1x4096x128 .bf16) (x5 : Vec F S512x256 .bf16) (K : BitVec 32 × BitVec 1 → sProp 𝕄) :
    specWhile c harg3 harg4 harg5 arg15 arg16 x3 x4 x5 K
      = iprop(((View.loc (c : Thread nD τ) arg3.view ↦[arg3.view.set]{fullShare} harg3.unread x3) ∗ (View.loc (c : Thread nD τ) arg4.view ↦[arg4.view.set]{fullShare} harg4.unread x4) ∗ (View.loc (c : Thread nD τ) arg5.view ↦[arg5.view.set]{fullShare} harg5.unread x5) ∗ (∃ g15, (View.loc (c : Thread nD τ) arg15.view ↦[arg15.view.set]{fullShare} g15)) ∗ (∃ g16, (View.loc (c : Thread nD τ) arg16.view ↦[arg16.view.set]{fullShare} g16)))
        ∗ (∀ r, iprop((View.loc (c : Thread nD τ) arg3.view ↦[arg3.view.set]{fullShare} harg3.unread x3) ∗ (View.loc (c : Thread nD τ) arg4.view ↦[arg4.view.set]{fullShare} harg4.unread x4) ∗ (View.loc (c : Thread nD τ) arg5.view ↦[arg5.view.set]{fullShare} harg5.unread x5) ∗ (∃ g15, (View.loc (c : Thread nD τ) arg15.view ↦[arg15.view.set]{fullShare} g15)) ∗ (∃ g16, (View.loc (c : Thread nD τ) arg16.view ↦[arg16.view.set]{fullShare} g16))) -∗ K r)) := rfl

set_option maxHeartbeats 4000000 in
/-- The loop over a chain's windows, entered at a window that ends at `128 e` with the flag `b`, meets its
    specification: by induction on `e + b`, each window moving the end down by two until the flag is off. -/
theorem specWhile_le (c : Dev nD) (i : grid0.Coords) (v1765 : BitVec 32) (k0_hw1 : k0_chk1 v1765) (v1776 : BitVec 32) (k0_hw2 : k0_chk2 v1776) (v1787 : BitVec 32) (k0_hw3 : k0_chk3 v1787) (v1798 : BitVec 32) (k0_hw4 : k0_chk4 v1798) (v1809 : BitVec 32) (k0_hw5 : k0_chk5 v1809) (v1820 : BitVec 32) (k0_hw6 : k0_chk6 v1820) (v1831 : BitVec 32) (k0_hw7 : k0_chk7 v1831) (v1842 : BitVec 32) (k0_hw8 : k0_chk8 v1842) (v1853 : BitVec 32) (k0_hw9 : k0_chk9 v1853) (v1864 : BitVec 32) (k0_hw10 : k0_chk10 v1864) (v1875 : BitVec 32) (k0_hw11 : k0_chk11 v1875) (v1886 : BitVec 32) (k0_hw12 : k0_chk12 v1886) (v1897 : BitVec 32) (k0_hw13 : k0_chk13 v1897) (v1908 : BitVec 32) (k0_hw14 : k0_chk14 v1908) (v1919 : BitVec 32) (k0_hw15 : k0_chk15 v1919) (v1930 : BitVec 32) (k0_hw16 : k0_chk16 v1930) (v1941 : BitVec 32) (k0_hw17 : k0_chk17 v1941) (v1952 : BitVec 32) (k0_hw18 : k0_chk18 v1952) (v1963 : BitVec 32) (k0_hw19 : k0_chk19 v1963) (v1974 : BitVec 32) (k0_hw20 : k0_chk20 v1974) (v1985 : BitVec 32) (k0_hw21 : k0_chk21 v1985) (v1996 : BitVec 32) (k0_hw22 : k0_chk22 v1996) (v2007 : BitVec 32) (k0_hw23 : k0_chk23 v2007) (v2018 : BitVec 32) (k0_hw24 : k0_chk24 v2018) (v2029 : BitVec 32) (k0_hw25 : k0_chk25 v2029) (v2040 : BitVec 32) (k0_hw26 : k0_chk26 v2040) (v2051 : BitVec 32) (k0_hw27 : k0_chk27 v2051) (v2062 : BitVec 32) (k0_hw28 : k0_chk28 v2062) (v2073 : BitVec 32) (k0_hw29 : k0_chk29 v2073) (v2084 : BitVec 32) (k0_hw30 : k0_chk30 v2084) (v2095 : BitVec 32) (k0_hw31 : k0_chk31 v2095) (v2106 : BitVec 32) (k0_hw32 : k0_chk32 v2106) (v2117 : BitVec 32) (k0_hw33 : k0_chk33 v2117) (t1 : Fin (k0_t1_loop v2117).trips) (w : BitVec 32) (hw : k0_chk34 w) (v19 : IVec S256x256 32) (hd : BitVec 32) (arg3 : Memref sig .tc .vmem S4x1x4096x128 .bf16) (harg3 : arg3.IsWhole) (q2 : FVec F S256x128 .bf16) (arg5 : Memref sig .tc .vmem S512x256 .bf16) (harg5 : arg5.IsWhole) (arg16 : Memref sig .tc .vmem S32x256x128 .f32) (harg16 : arg16.IsWhole) (arg4 : Memref sig .tc .vmem S4x1x4096x128 .bf16) (harg4 : arg4.IsWhole) (arg15 : Memref sig .tc .vmem S32x256x128 .f32) (harg15 : arg15.IsWhole) (hlt : w.toNat < 32) (x3 x4 : Vec F S4x1x4096x128 .bf16) (x5 : Vec F S512x256 .bf16) (E : Set ℕ) :
    ∀ (n e : ℕ) (z : BitVec 32) (b : BitVec 1) (hz : z = BitVec.ofNat 32 (128 * e)) (he : e ≤ 32) (hn : e + b.toNat ≤ n) (K : BitVec 32 × BitVec 1 → sProp 𝕄),
      specWhile c harg3 harg4 harg5 arg15 arg16 x3 x4 x5 K
        ⊢ wp frame (wpE (defs₀ (F := F)) Variants.nat (c : Thread nD τ) (some n)) E
            (cc0_while1 i v1765 k0_hw1 v1776 k0_hw2 v1787 k0_hw3 v1798 k0_hw4 v1809 k0_hw5 v1820 k0_hw6 v1831 k0_hw7 v1842 k0_hw8 v1853 k0_hw9 v1864 k0_hw10 v1875 k0_hw11 v1886 k0_hw12 v1897 k0_hw13 v1908 k0_hw14 v1919 k0_hw15 v1930 k0_hw16 v1941 k0_hw17 v1952 k0_hw18 v1963 k0_hw19 v1974 k0_hw20 v1985 k0_hw21 v1996 k0_hw22 v2007 k0_hw23 v2018 k0_hw24 v2029 k0_hw25 v2040 k0_hw26 v2051 k0_hw27 v2062 k0_hw28 v2073 k0_hw29 v2084 k0_hw30 v2095 k0_hw31 v2106 k0_hw32 v2117 k0_hw33 t1 w hw v19 hd arg3 harg3 q2 arg5 harg5 arg16 harg16 arg4 harg4 arg15 harg15 z b) K := by
  intro n
  induction n with
  | zero =>
    intro e z b hz he hn K
    obtain rfl : b = 0#1 := BitVec.eq_of_toNat_eq (by simp only [BitVec.toNat_ofNat]; omega)
    simp only [cc0_while1_eq_skeleton]; unfold cc0_while1_skel
    rw [specWhile_apply, if_neg (by decide)]
    iintro ⟨H, Hk⟩
    rw [show (Pure.pure (z, 0#1) : Prog (TpuEff nD τ sig (Elt F) (Λ₀ F) .tc) (BitVec 32 × BitVec 1)) = .ret (z, 0#1) from rfl, wp_ret]
    imodintro
    iapply Hk $$ %_
    iexact H
  | succ n ih =>
    intro e z b hz he hn K
    rcases (by decide : ∀ b : BitVec 1, b = 0#1 ∨ b = 1#1) b with rfl | rfl
    · simp only [cc0_while1_eq_skeleton]; unfold cc0_while1_skel
      rw [specWhile_apply, if_neg (by decide)]
      iintro ⟨H, Hk⟩
      rw [show (Pure.pure (z, 0#1) : Prog (TpuEff nD τ sig (Elt F) (Λ₀ F) .tc) (BitVec 32 × BitVec 1)) = .ret (z, 0#1) from rfl, wp_ret]
      imodintro
      iapply Hk $$ %_
      iexact H
    · have h35 : k0_chk35 w z := hz ▸ chk35_of hlt he
      have hnext : ∀ f : BitVec 1, e - 2 + (Scalar.andi (Scalar.cmpi .sgt (BitVec.ofNat 32 (128 * (e - 2))) 0#32) f : BitVec 1).toNat ≤ n := by
        intro f
        have hf := (Scalar.andi (Scalar.cmpi .sgt (BitVec.ofNat 32 (128 * (e - 2))) 0#32) f : BitVec 1).isLt
        simp only [BitVec.toNat_ofNat] at hn
        by_cases h2 : e ≤ 2
        · have h0 : e - 2 = 0 := by omega
          rw [h0, show BitVec.ofNat 32 (128 * 0) = 0#32 from rfl, flag_zero]
          simp
        · omega
      have hnext' : ∀ f : BitVec 1, e - 2 + (Scalar.andi (Scalar.cmpi .sgt (Scalar.maxsi (Scalar.subi z 256#32) 0#32) 0#32) f : BitVec 1).toNat ≤ n := by
        intro f; rw [hz, next_window ⟨e, by omega⟩]; exact hnext f
      simp only [cc0_while1_eq_skeleton]; unfold cc0_while1_skel
      simp only [k0_part68_eq_skeleton, if_true]
      rw [specWhile_apply]
      iintro ⟨⟨H3, H4, H5, ⟨%f15, H15⟩, ⟨%f16, H16⟩⟩, Hk⟩
      sl_exec
      iapply (wp_call_spec Variants.nat (c : Thread nD τ) _ E (specWhile c harg3 harg4 harg5 arg15 arg16 x3 x4 x5) n (fun u hu => by cases hu; exact Nat.lt_succ_self n) ?hS)
      case hS =>
        intro K'
        rw [defs₀_while]
        refine ih (e - 2) _ _ ?_ (by omega) (hnext' _) K'
        subst hz; exact next_window ⟨e, by omega⟩
      rw [specWhile_apply]
      isplitl [H3 H4 H5 H15 H16]
      · isplitl [H3]; · iexact H3
        isplitl [H4]; · iexact H4
        isplitl [H5]; · iexact H5
        isplitl [H15]; · iexists _; iexact H15
        iexists _; iexact H16
      iintro %r H
      rw [wp_ret]
      imodintro
      iapply Hk $$ %_
      iexact H

set_option maxHeartbeats 400000 in
/-- One trip of the loop over the list: it takes a chain off the list and runs the loop over its windows. -/
theorem trip (c : Dev nD) (i : grid0.Coords) (arg2 : Memref sig .tc .vmem S4x1x1024x128 .bf16) (harg2 : arg2.IsWhole) (arg3 : Memref sig .tc .vmem S4x1x4096x128 .bf16) (harg3 : arg3.IsWhole) (arg4 : Memref sig .tc .vmem S4x1x4096x128 .bf16) (harg4 : arg4.IsWhole) (arg5 : Memref sig .tc .vmem S512x256 .bf16) (harg5 : arg5.IsWhole) (arg6 : Memref sig .tc .vmem S1024x128 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S32x1024 .f32) (harg9 : arg9.IsWhole) (arg10 : Memref sig .tc .vmem S1x1024x512 .f32) (harg10 : arg10.IsWhole) (arg11 : Memref sig .tc .vmem S1024x128 .bf16) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S32x1024 .bf16) (harg14 : arg14.IsWhole) (arg15 : Memref sig .tc .vmem S32x256x128 .f32) (harg15 : arg15.IsWhole) (arg16 : Memref sig .tc .vmem S32x256x128 .f32) (harg16 : arg16.IsWhole) (arg17 : Memref sig .tc .smem S32 .i32) (harg17 : arg17.IsWhole) (arg18 : Memref sig .tc .smem S1 .i32) (harg18 : arg18.IsWhole) (v12 : BitVec 32) (v15 : IVec S128x128 1) (v19 : IVec S256x256 32) (v1765 : BitVec 32) (k0_hw1 : k0_chk1 v1765) (v1776 : BitVec 32) (k0_hw2 : k0_chk2 v1776) (v1787 : BitVec 32) (k0_hw3 : k0_chk3 v1787) (v1798 : BitVec 32) (k0_hw4 : k0_chk4 v1798) (v1809 : BitVec 32) (k0_hw5 : k0_chk5 v1809) (v1820 : BitVec 32) (k0_hw6 : k0_chk6 v1820) (v1831 : BitVec 32) (k0_hw7 : k0_chk7 v1831) (v1842 : BitVec 32) (k0_hw8 : k0_chk8 v1842) (v1853 : BitVec 32) (k0_hw9 : k0_chk9 v1853) (v1864 : BitVec 32) (k0_hw10 : k0_chk10 v1864) (v1875 : BitVec 32) (k0_hw11 : k0_chk11 v1875) (v1886 : BitVec 32) (k0_hw12 : k0_chk12 v1886) (v1897 : BitVec 32) (k0_hw13 : k0_chk13 v1897) (v1908 : BitVec 32) (k0_hw14 : k0_chk14 v1908) (v1919 : BitVec 32) (k0_hw15 : k0_chk15 v1919) (v1930 : BitVec 32) (k0_hw16 : k0_chk16 v1930) (v1941 : BitVec 32) (k0_hw17 : k0_chk17 v1941) (v1952 : BitVec 32) (k0_hw18 : k0_chk18 v1952) (v1963 : BitVec 32) (k0_hw19 : k0_chk19 v1963) (v1974 : BitVec 32) (k0_hw20 : k0_chk20 v1974) (v1985 : BitVec 32) (k0_hw21 : k0_chk21 v1985) (v1996 : BitVec 32) (k0_hw22 : k0_chk22 v1996) (v2007 : BitVec 32) (k0_hw23 : k0_chk23 v2007) (v2018 : BitVec 32) (k0_hw24 : k0_chk24 v2018) (v2029 : BitVec 32) (k0_hw25 : k0_chk25 v2029) (v2040 : BitVec 32) (k0_hw26 : k0_chk26 v2040) (v2051 : BitVec 32) (k0_hw27 : k0_chk27 v2051) (v2062 : BitVec 32) (k0_hw28 : k0_chk28 v2062) (v2073 : BitVec 32) (k0_hw29 : k0_chk29 v2073) (v2084 : BitVec 32) (k0_hw30 : k0_chk30 v2084) (v2095 : BitVec 32) (k0_hw31 : k0_chk31 v2095) (v2106 : BitVec 32) (k0_hw32 : k0_chk32 v2106) (v2117 : BitVec 32) (k0_hw33 : k0_chk33 v2117)
    (v2118 : BitVec 32) (x2 : Vec F S4x1x1024x128 .bf16) (x3 x4 : Vec F S4x1x4096x128 .bf16) (x5 : Vec F S512x256 .bf16) (f17 : Buf (Elt F) (arg17.view.loc (c : Thread nD τ)))
    (hW : v2117.toNat ≤ 32)
    (hL : ∀ j : S32.Idx, (j 0).val < v2117.toNat → BitVec.toNat (arg17.view.read (Elt F) f17 j) < 32)
    (hv12 : ∃ t : Fin 4, v12 = Scalar.muli (BitVec.ofNat 32 t.val) 1024#32)
    (E : Set ℕ) (t : Fin (k0_t1_loop v2117).trips) (acc : BitVec 32) (K : BitVec 32 → sProp 𝕄) :
    iprop(((View.loc (c : Thread nD τ) arg2.view ↦[arg2.view.set]{fullShare} harg2.unread x2) ∗ (View.loc (c : Thread nD τ) arg3.view ↦[arg3.view.set]{fullShare} harg3.unread x3) ∗ (View.loc (c : Thread nD τ) arg4.view ↦[arg4.view.set]{fullShare} harg4.unread x4) ∗ (View.loc (c : Thread nD τ) arg5.view ↦[arg5.view.set]{fullShare} harg5.unread x5) ∗ (∃ g15, (View.loc (c : Thread nD τ) arg15.view ↦[arg15.view.set]{fullShare} g15)) ∗ (∃ g16, (View.loc (c : Thread nD τ) arg16.view ↦[arg16.view.set]{fullShare} g16)) ∗ (View.loc (c : Thread nD τ) arg17.view ↦[arg17.view.set]{fullShare} f17)) ∗ (∀ r, ((View.loc (c : Thread nD τ) arg2.view ↦[arg2.view.set]{fullShare} harg2.unread x2) ∗ (View.loc (c : Thread nD τ) arg3.view ↦[arg3.view.set]{fullShare} harg3.unread x3) ∗ (View.loc (c : Thread nD τ) arg4.view ↦[arg4.view.set]{fullShare} harg4.unread x4) ∗ (View.loc (c : Thread nD τ) arg5.view ↦[arg5.view.set]{fullShare} harg5.unread x5) ∗ (∃ g15, (View.loc (c : Thread nD τ) arg15.view ↦[arg15.view.set]{fullShare} g15)) ∗ (∃ g16, (View.loc (c : Thread nD τ) arg16.view ↦[arg16.view.set]{fullShare} g16)) ∗ (View.loc (c : Thread nD τ) arg17.view ↦[arg17.view.set]{fullShare} f17)) -∗ K r))
      ⊢ wp frame (wpE (defs₀ (F := F)) Variants.nat c none) E
          (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v15 v19 v1765 k0_hw1 v1776 k0_hw2 v1787 k0_hw3 v1798 k0_hw4 v1809 k0_hw5 v1820 k0_hw6 v1831 k0_hw7 v1842 k0_hw8 v1853 k0_hw9 v1864 k0_hw10 v1875 k0_hw11 v1886 k0_hw12 v1897 k0_hw13 v1908 k0_hw14 v1919 k0_hw15 v1930 k0_hw16 v1941 k0_hw17 v1952 k0_hw18 v1963 k0_hw19 v1974 k0_hw20 v1985 k0_hw21 v1996 k0_hw22 v2007 k0_hw23 v2018 k0_hw24 v2029 k0_hw25 v2040 k0_hw26 v2051 k0_hw27 v2062 k0_hw28 v2073 k0_hw29 v2084 k0_hw30 v2095 k0_hw31 v2106 k0_hw32 v2117 k0_hw33 0#32 0#32 v2118 t acc) K := by
  unfold k0_t1_body
  simp only [k0_part1_eq_skeleton]
  iintro ⟨⟨H2, H3, H4, H5, ⟨%g15, H15⟩, ⟨%g16, H16⟩, H17⟩, Hk⟩
  have hj : ∀ x, (((Rect.unit (s := S32) (k0_off37 v2117 t) S1.size (k0_off37_inb v2117 k0_hw33 t)).toLoadRect.idx x) 0).val < v2117.toNat := by
    intro x
    have h1 := off37_of hW t
    have h2 : t.val < v2117.toNat := trips_of hW ▸ t.isLt
    have h3 : (x 0).val < 1 := (x 0).isLt
    show k0_off37 v2117 t 0 + 1 * (x 0).val < _
    omega
  sl_exec
  have hlt : BitVec.toNat (View.readAt (Elt F) arg17.view (Rect.unit (s := S32) (k0_off37 v2117 t) S1.size (k0_off37_inb v2117 k0_hw33 t)).toLoadRect f17 (Shape.Idx.first (numel1_S1.symm ▸ Nat.one_pos))) < 32 := hL _ (hj _)
  iapply (wp_assume _ _ _ _ (chk34_of hlt))
  sl_exec
  obtain ⟨e, he, hz⟩ := first_window hv12 hlt
  iapply (wp_call_spec Variants.nat (c : Thread nD τ) _ E (specWhile c harg3 harg4 harg5 arg15 arg16 x3 x4 x5) 33 (fun u hu => by cases hu) ?hS)
  case hS =>
    intro K'
    rw [defs₀_while]
    refine specWhile_le c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hlt x3 x4 x5 E 33 e _ _ hz he ?_ K'
    show e + (1#1 : BitVec 1).toNat ≤ 33
    simp only [BitVec.toNat_ofNat]; omega
  rw [specWhile_apply]
  isplitl [H3 H4 H5 H15 H16]
  · isplitl [H3]; · iexact H3
    isplitl [H4]; · iexact H4
    isplitl [H5]; · iexact H5
    isplitl [H15]; · iexists _; iexact H15
    iexists _; iexact H16
  iintro %r ⟨H3, H4, H5, H15, H16⟩
  sl_step
  iapply Hk
  isplitl [H2]; · iexact H2
  isplitl [H3]; · iexact H3
  isplitl [H4]; · iexact H4
  isplitl [H5]; · iexact H5
  isplitl [H15]; · iexact H15
  isplitl [H16]; · iexact H16
  iexact H17

/-- The first `W` places of the list hold numbers of chains. -/
def Listed (W : BitVec 32) (arg17 : Memref sig .tc .smem S32 .i32) (f : arg17.view.ty.Contents (Elt F)) : Prop :=
  ∀ j : S32.Idx, (j 0).val < W.toNat → BitVec.toNat (arg17.view.read (Elt F) f j) < 32

/-- An empty list. -/
theorem listed_zero (arg17 : Memref sig .tc .smem S32 .i32) (f : arg17.view.ty.Contents (Elt F)) :
    Listed (F := F) 0#32 arg17 f := fun _ h => absurd h (Nat.not_lt_zero _)

/-- Writing a chain at the place the count names, and counting it or not, keeps the list. -/
theorem listed_step {W : BitVec 32} {b : BitVec 1} {z : BitVec 32} {arg17 : Memref sig .tc .smem S32 .i32}
    {f : arg17.view.ty.Contents (Elt F)} {L : List (View.Piece (Elt F) S32 .i32)} {off : Fin 1 → ℕ}
    {inb : ∀ a, off a + S1.size a ≤ S32.size a} {k : ℕ} (h : Listed (F := F) W arg17 (arg17.view.writes (Elt F) f L)) (hW : W.toNat ≤ k)
    (hk : k < 32) (ho : off 0 = W.toNat) (hz : z.toNat < 32) :
    Listed (F := F) (Scalar.addi W (Scalar.extui b)) arg17
      (arg17.view.writes (Elt F) f (⟨Rect.unit (s := S32) off S1.size inb, fun _ => z⟩ :: L)) := by
  intro j hj
  have hb : b.toNat < 2 := b.isLt
  have hs : (Scalar.addi W (Scalar.extui b) : BitVec 32).toNat ≤ W.toNat + 1 := count_add (le_refl _) (by omega)
  have := View.read_writes_cons_cell arg17.view f inb z L j
  rw [show arg17.view.read (Elt F) (arg17.view.writes (Elt F) f (⟨Rect.unit (s := S32) off S1.size inb, fun _ => z⟩ :: L)) j = _ from this]
  split
  · exact hz
  · exact h j (by omega)

set_option maxHeartbeats 400000 in
/-- One trip of the loop over the list keeps the queries, the keys, the values, the triangle and the list. -/
theorem trip_keeps (c : Dev nD) (i : grid0.Coords) (arg2 : Memref sig .tc .vmem S4x1x1024x128 .bf16) (harg2 : arg2.IsWhole) (arg3 : Memref sig .tc .vmem S4x1x4096x128 .bf16) (harg3 : arg3.IsWhole) (arg4 : Memref sig .tc .vmem S4x1x4096x128 .bf16) (harg4 : arg4.IsWhole) (arg5 : Memref sig .tc .vmem S512x256 .bf16) (harg5 : arg5.IsWhole) (arg6 : Memref sig .tc .vmem S1024x128 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S32x1024 .f32) (harg9 : arg9.IsWhole) (arg10 : Memref sig .tc .vmem S1x1024x512 .f32) (harg10 : arg10.IsWhole) (arg11 : Memref sig .tc .vmem S1024x128 .bf16) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S32x1024 .bf16) (harg14 : arg14.IsWhole) (arg15 : Memref sig .tc .vmem S32x256x128 .f32) (harg15 : arg15.IsWhole) (arg16 : Memref sig .tc .vmem S32x256x128 .f32) (harg16 : arg16.IsWhole) (arg17 : Memref sig .tc .smem S32 .i32) (harg17 : arg17.IsWhole) (arg18 : Memref sig .tc .smem S1 .i32) (harg18 : arg18.IsWhole) (v12 : BitVec 32) (v15 : IVec S128x128 1) (v19 : IVec S256x256 32) (v1765 : BitVec 32) (k0_hw1 : k0_chk1 v1765) (v1776 : BitVec 32) (k0_hw2 : k0_chk2 v1776) (v1787 : BitVec 32) (k0_hw3 : k0_chk3 v1787) (v1798 : BitVec 32) (k0_hw4 : k0_chk4 v1798) (v1809 : BitVec 32) (k0_hw5 : k0_chk5 v1809) (v1820 : BitVec 32) (k0_hw6 : k0_chk6 v1820) (v1831 : BitVec 32) (k0_hw7 : k0_chk7 v1831) (v1842 : BitVec 32) (k0_hw8 : k0_chk8 v1842) (v1853 : BitVec 32) (k0_hw9 : k0_chk9 v1853) (v1864 : BitVec 32) (k0_hw10 : k0_chk10 v1864) (v1875 : BitVec 32) (k0_hw11 : k0_chk11 v1875) (v1886 : BitVec 32) (k0_hw12 : k0_chk12 v1886) (v1897 : BitVec 32) (k0_hw13 : k0_chk13 v1897) (v1908 : BitVec 32) (k0_hw14 : k0_chk14 v1908) (v1919 : BitVec 32) (k0_hw15 : k0_chk15 v1919) (v1930 : BitVec 32) (k0_hw16 : k0_chk16 v1930) (v1941 : BitVec 32) (k0_hw17 : k0_chk17 v1941) (v1952 : BitVec 32) (k0_hw18 : k0_chk18 v1952) (v1963 : BitVec 32) (k0_hw19 : k0_chk19 v1963) (v1974 : BitVec 32) (k0_hw20 : k0_chk20 v1974) (v1985 : BitVec 32) (k0_hw21 : k0_chk21 v1985) (v1996 : BitVec 32) (k0_hw22 : k0_chk22 v1996) (v2007 : BitVec 32) (k0_hw23 : k0_chk23 v2007) (v2018 : BitVec 32) (k0_hw24 : k0_chk24 v2018) (v2029 : BitVec 32) (k0_hw25 : k0_chk25 v2029) (v2040 : BitVec 32) (k0_hw26 : k0_chk26 v2040) (v2051 : BitVec 32) (k0_hw27 : k0_chk27 v2051) (v2062 : BitVec 32) (k0_hw28 : k0_chk28 v2062) (v2073 : BitVec 32) (k0_hw29 : k0_chk29 v2073) (v2084 : BitVec 32) (k0_hw30 : k0_chk30 v2084) (v2095 : BitVec 32) (k0_hw31 : k0_chk31 v2095) (v2106 : BitVec 32) (k0_hw32 : k0_chk32 v2106) (v2117 : BitVec 32) (k0_hw33 : k0_chk33 v2117)
    (v2118 : BitVec 32) (x2 : Vec F S4x1x1024x128 .bf16) (x3 x4 : Vec F S4x1x4096x128 .bf16) (x5 : Vec F S512x256 .bf16) (E : Set ℕ)
    (hW : v2117.toNat ≤ 32)
    (hv12 : ∃ t : Fin 4, v12 = Scalar.muli (BitVec.ofNat 32 t.val) 1024#32)
    (t : Fin (k0_t1_loop v2117).trips) (acc : BitVec 32) :
    (iprop((View.loc (c : Thread nD τ) arg2.view ↦[arg2.view.set]{fullShare} harg2.unread x2) ∗ (View.loc (c : Thread nD τ) arg3.view ↦[arg3.view.set]{fullShare} harg3.unread x3) ∗ (View.loc (c : Thread nD τ) arg4.view ↦[arg4.view.set]{fullShare} harg4.unread x4) ∗ (View.loc (c : Thread nD τ) arg5.view ↦[arg5.view.set]{fullShare} harg5.unread x5) ∗ (∃ g15, (View.loc (c : Thread nD τ) arg15.view ↦[arg15.view.set]{fullShare} g15)) ∗ (∃ g16, (View.loc (c : Thread nD τ) arg16.view ↦[arg16.view.set]{fullShare} g16)) ∗ (∃ f17, (View.loc (c : Thread nD τ) arg17.view ↦[arg17.view.set]{fullShare} f17) ∗ ⌜Listed v2117 arg17 f17⌝)) : sProp 𝕄)
      ⊢ wp frame (wpE (defs₀ (F := F)) Variants.nat c none) E
            (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v15 v19 v1765 k0_hw1 v1776 k0_hw2 v1787 k0_hw3 v1798 k0_hw4 v1809 k0_hw5 v1820 k0_hw6 v1831 k0_hw7 v1842 k0_hw8 v1853 k0_hw9 v1864 k0_hw10 v1875 k0_hw11 v1886 k0_hw12 v1897 k0_hw13 v1908 k0_hw14 v1919 k0_hw15 v1930 k0_hw16 v1941 k0_hw17 v1952 k0_hw18 v1963 k0_hw19 v1974 k0_hw20 v1985 k0_hw21 v1996 k0_hw22 v2007 k0_hw23 v2018 k0_hw24 v2029 k0_hw25 v2040 k0_hw26 v2051 k0_hw27 v2062 k0_hw28 v2073 k0_hw29 v2084 k0_hw30 v2095 k0_hw31 v2106 k0_hw32 v2117 k0_hw33 0#32 0#32 v2118 t acc) (fun _ => iprop((View.loc (c : Thread nD τ) arg2.view ↦[arg2.view.set]{fullShare} harg2.unread x2) ∗ (View.loc (c : Thread nD τ) arg3.view ↦[arg3.view.set]{fullShare} harg3.unread x3) ∗ (View.loc (c : Thread nD τ) arg4.view ↦[arg4.view.set]{fullShare} harg4.unread x4) ∗ (View.loc (c : Thread nD τ) arg5.view ↦[arg5.view.set]{fullShare} harg5.unread x5) ∗ (∃ g15, (View.loc (c : Thread nD τ) arg15.view ↦[arg15.view.set]{fullShare} g15)) ∗ (∃ g16, (View.loc (c : Thread nD τ) arg16.view ↦[arg16.view.set]{fullShare} g16)) ∗ (∃ f17, (View.loc (c : Thread nD τ) arg17.view ↦[arg17.view.set]{fullShare} f17) ∗ ⌜Listed v2117 arg17 f17⌝))) := by
  iintro ⟨H2, H3, H4, H5, H15, H16, ⟨%f17, H17, %hL⟩⟩
  iapply (trip (hW := hW) (hL := hL) (hv12 := hv12))
  isplitl [H2 H3 H4 H5 H15 H16 H17]
  · isplitl [H2]; · iexact H2
    isplitl [H3]; · iexact H3
    isplitl [H4]; · iexact H4
    isplitl [H5]; · iexact H5
    isplitl [H15]; · iexact H15
    isplitl [H16]; · iexact H16
    iexact H17
  iintro %r ⟨H2, H3, H4, H5, H15, H16, H17⟩
  isplitl [H2]; · iexact H2
  isplitl [H3]; · iexact H3
  isplitl [H4]; · iexact H4
  isplitl [H5]; · iexact H5
  isplitl [H15]; · iexact H15
  isplitl [H16]; · iexact H16
  iexists f17
  isplitl [H17]; · iexact H17
  ipureintro; exact hL

set_option maxHeartbeats 400000 in
/-- The loop over the list, its trips given as `B`. -/
theorem loop (c : Dev nD) (i : grid0.Coords) (arg2 : Memref sig .tc .vmem S4x1x1024x128 .bf16) (harg2 : arg2.IsWhole) (arg3 : Memref sig .tc .vmem S4x1x4096x128 .bf16) (harg3 : arg3.IsWhole) (arg4 : Memref sig .tc .vmem S4x1x4096x128 .bf16) (harg4 : arg4.IsWhole) (arg5 : Memref sig .tc .vmem S512x256 .bf16) (harg5 : arg5.IsWhole) (arg6 : Memref sig .tc .vmem S1024x128 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S32x1024 .f32) (harg9 : arg9.IsWhole) (arg10 : Memref sig .tc .vmem S1x1024x512 .f32) (harg10 : arg10.IsWhole) (arg11 : Memref sig .tc .vmem S1024x128 .bf16) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S32x1024 .bf16) (harg14 : arg14.IsWhole) (arg15 : Memref sig .tc .vmem S32x256x128 .f32) (harg15 : arg15.IsWhole) (arg16 : Memref sig .tc .vmem S32x256x128 .f32) (harg16 : arg16.IsWhole) (arg17 : Memref sig .tc .smem S32 .i32) (harg17 : arg17.IsWhole) (arg18 : Memref sig .tc .smem S1 .i32) (harg18 : arg18.IsWhole) (v12 : BitVec 32) (v15 : IVec S128x128 1) (v19 : IVec S256x256 32) (v1765 : BitVec 32) (k0_hw1 : k0_chk1 v1765) (v1776 : BitVec 32) (k0_hw2 : k0_chk2 v1776) (v1787 : BitVec 32) (k0_hw3 : k0_chk3 v1787) (v1798 : BitVec 32) (k0_hw4 : k0_chk4 v1798) (v1809 : BitVec 32) (k0_hw5 : k0_chk5 v1809) (v1820 : BitVec 32) (k0_hw6 : k0_chk6 v1820) (v1831 : BitVec 32) (k0_hw7 : k0_chk7 v1831) (v1842 : BitVec 32) (k0_hw8 : k0_chk8 v1842) (v1853 : BitVec 32) (k0_hw9 : k0_chk9 v1853) (v1864 : BitVec 32) (k0_hw10 : k0_chk10 v1864) (v1875 : BitVec 32) (k0_hw11 : k0_chk11 v1875) (v1886 : BitVec 32) (k0_hw12 : k0_chk12 v1886) (v1897 : BitVec 32) (k0_hw13 : k0_chk13 v1897) (v1908 : BitVec 32) (k0_hw14 : k0_chk14 v1908) (v1919 : BitVec 32) (k0_hw15 : k0_chk15 v1919) (v1930 : BitVec 32) (k0_hw16 : k0_chk16 v1930) (v1941 : BitVec 32) (k0_hw17 : k0_chk17 v1941) (v1952 : BitVec 32) (k0_hw18 : k0_chk18 v1952) (v1963 : BitVec 32) (k0_hw19 : k0_chk19 v1963) (v1974 : BitVec 32) (k0_hw20 : k0_chk20 v1974) (v1985 : BitVec 32) (k0_hw21 : k0_chk21 v1985) (v1996 : BitVec 32) (k0_hw22 : k0_chk22 v1996) (v2007 : BitVec 32) (k0_hw23 : k0_chk23 v2007) (v2018 : BitVec 32) (k0_hw24 : k0_chk24 v2018) (v2029 : BitVec 32) (k0_hw25 : k0_chk25 v2029) (v2040 : BitVec 32) (k0_hw26 : k0_chk26 v2040) (v2051 : BitVec 32) (k0_hw27 : k0_chk27 v2051) (v2062 : BitVec 32) (k0_hw28 : k0_chk28 v2062) (v2073 : BitVec 32) (k0_hw29 : k0_chk29 v2073) (v2084 : BitVec 32) (k0_hw30 : k0_chk30 v2084) (v2095 : BitVec 32) (k0_hw31 : k0_chk31 v2095) (v2106 : BitVec 32) (k0_hw32 : k0_chk32 v2106) (v2117 : BitVec 32) (k0_hw33 : k0_chk33 v2117)
    (v2118 : BitVec 32) (hok : (k0_t1_loop v2117).OK) (x2 : Vec F S4x1x1024x128 .bf16) (x3 x4 : Vec F S4x1x4096x128 .bf16) (x5 : Vec F S512x256 .bf16)
    (B : Fin (k0_t1_loop v2117).trips → BitVec 32 → Prog (TpuEff nD τ sig (Elt F) (Λ₀ F) .tc) (BitVec 32))
    (hB : B = k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v15 v19 v1765 k0_hw1 v1776 k0_hw2 v1787 k0_hw3 v1798 k0_hw4 v1809 k0_hw5 v1820 k0_hw6 v1831 k0_hw7 v1842 k0_hw8 v1853 k0_hw9 v1864 k0_hw10 v1875 k0_hw11 v1886 k0_hw12 v1897 k0_hw13 v1908 k0_hw14 v1919 k0_hw15 v1930 k0_hw16 v1941 k0_hw17 v1952 k0_hw18 v1963 k0_hw19 v1974 k0_hw20 v1985 k0_hw21 v1996 k0_hw22 v2007 k0_hw23 v2018 k0_hw24 v2029 k0_hw25 v2040 k0_hw26 v2051 k0_hw27 v2062 k0_hw28 v2073 k0_hw29 v2084 k0_hw30 v2095 k0_hw31 v2106 k0_hw32 v2117 k0_hw33 0#32 0#32 v2118)
    (hW : v2117.toNat ≤ 32)
    (hv12 : ∃ t : Fin 4, v12 = Scalar.muli (BitVec.ofNat 32 t.val) 1024#32)
    (E : Set ℕ) {β : Type} (kk : BitVec 32 → Prog (TpuEff nD τ sig (Elt F) (Λ₀ F) .tc) β) (Q : β → sProp 𝕄) :
    iprop(((View.loc (c : Thread nD τ) arg2.view ↦[arg2.view.set]{fullShare} harg2.unread x2) ∗ (View.loc (c : Thread nD τ) arg3.view ↦[arg3.view.set]{fullShare} harg3.unread x3) ∗ (View.loc (c : Thread nD τ) arg4.view ↦[arg4.view.set]{fullShare} harg4.unread x4) ∗ (View.loc (c : Thread nD τ) arg5.view ↦[arg5.view.set]{fullShare} harg5.unread x5) ∗ (∃ g15, (View.loc (c : Thread nD τ) arg15.view ↦[arg15.view.set]{fullShare} g15)) ∗ (∃ g16, (View.loc (c : Thread nD τ) arg16.view ↦[arg16.view.set]{fullShare} g16)) ∗ (∃ f17, (View.loc (c : Thread nD τ) arg17.view ↦[arg17.view.set]{fullShare} f17) ∗ ⌜Listed v2117 arg17 f17⌝)) ∗ (∀ r, ((View.loc (c : Thread nD τ) arg2.view ↦[arg2.view.set]{fullShare} harg2.unread x2) ∗ (View.loc (c : Thread nD τ) arg3.view ↦[arg3.view.set]{fullShare} harg3.unread x3) ∗ (View.loc (c : Thread nD τ) arg4.view ↦[arg4.view.set]{fullShare} harg4.unread x4) ∗ (View.loc (c : Thread nD τ) arg5.view ↦[arg5.view.set]{fullShare} harg5.unread x5) ∗ (∃ g15, (View.loc (c : Thread nD τ) arg15.view ↦[arg15.view.set]{fullShare} g15)) ∗ (∃ g16, (View.loc (c : Thread nD τ) arg16.view ↦[arg16.view.set]{fullShare} g16)) ∗ (∃ f17, (View.loc (c : Thread nD τ) arg17.view ↦[arg17.view.set]{fullShare} f17) ∗ ⌜Listed v2117 arg17 f17⌝)) -∗ wp frame (wpE (defs₀ (F := F)) Variants.nat c none) E (kk r) Q))
      ⊢ wp frame (wpE (defs₀ (F := F)) Variants.nat c none) E
          (Scf.Loop.for (k0_t1_loop v2117) hok 0#32 B >>= kk) Q := by
  iintro ⟨H, Hk⟩
  subst hB
  sl_for (fun (_ : ℕ) (_ : BitVec 32) => iprop((View.loc (c : Thread nD τ) arg2.view ↦[arg2.view.set]{fullShare} harg2.unread x2) ∗ (View.loc (c : Thread nD τ) arg3.view ↦[arg3.view.set]{fullShare} harg3.unread x3) ∗ (View.loc (c : Thread nD τ) arg4.view ↦[arg4.view.set]{fullShare} harg4.unread x4) ∗ (View.loc (c : Thread nD τ) arg5.view ↦[arg5.view.set]{fullShare} harg5.unread x5) ∗ (∃ g15, (View.loc (c : Thread nD τ) arg15.view ↦[arg15.view.set]{fullShare} g15)) ∗ (∃ g16, (View.loc (c : Thread nD τ) arg16.view ↦[arg16.view.set]{fullShare} g16)) ∗ (∃ f17, (View.loc (c : Thread nD τ) arg17.view ↦[arg17.view.set]{fullShare} f17) ∗ ⌜Listed v2117 arg17 f17⌝))) $$ [H]
  · intro t acc
    exact trip_keeps c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v15 v19 v1765 k0_hw1 v1776 k0_hw2 v1787 k0_hw3 v1798 k0_hw4 v1809 k0_hw5 v1820 k0_hw6 v1831 k0_hw7 v1842 k0_hw8 v1853 k0_hw9 v1864 k0_hw10 v1875 k0_hw11 v1886 k0_hw12 v1897 k0_hw13 v1908 k0_hw14 v1919 k0_hw15 v1930 k0_hw16 v1941 k0_hw17 v1952 k0_hw18 v1963 k0_hw19 v1974 k0_hw20 v1985 k0_hw21 v1996 k0_hw22 v2007 k0_hw23 v2018 k0_hw24 v2029 k0_hw25 v2040 k0_hw26 v2051 k0_hw27 v2062 k0_hw28 v2073 k0_hw29 v2084 k0_hw30 v2095 k0_hw31 v2106 k0_hw32 v2117 k0_hw33 v2118 x2 x3 x4 x5 E hW hv12 t acc
  · iexact H
  iintro %acc H
  ispecialize Hk $$ %acc H
  iexact Hk

end Cert.KernelIdeal.Attn

end
-- ==== Proof.AttnIdealRun.lean ====
/- The attention body's run. -/
module

public import proofs.«01_k».proof.Proof.AttnIdealLoop
public import Idealize.ShloMosaic.Lib.LoopRemainder

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- The attention body's run: its accesses are within bounds and its words in range, it keeps its inputs and
    leaves its outputs and scratch with contents of its own. -/
theorem run (c : Dev nD) (i : grid0.Coords) (arg2 : Memref sig .tc .vmem S4x1x1024x128 .bf16) (harg2 : arg2.IsWhole) (arg3 : Memref sig .tc .vmem S4x1x4096x128 .bf16) (harg3 : arg3.IsWhole) (arg4 : Memref sig .tc .vmem S4x1x4096x128 .bf16) (harg4 : arg4.IsWhole) (arg5 : Memref sig .tc .vmem S512x256 .bf16) (harg5 : arg5.IsWhole) (arg6 : Memref sig .tc .vmem S1024x128 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S32x1024 .f32) (harg9 : arg9.IsWhole) (arg10 : Memref sig .tc .vmem S1x1024x512 .f32) (harg10 : arg10.IsWhole) (arg11 : Memref sig .tc .vmem S1024x128 .bf16) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S32x1024 .bf16) (harg14 : arg14.IsWhole) (arg15 : Memref sig .tc .vmem S32x256x128 .f32) (harg15 : arg15.IsWhole) (arg16 : Memref sig .tc .vmem S32x256x128 .f32) (harg16 : arg16.IsWhole) (arg17 : Memref sig .tc .smem S32 .i32) (harg17 : arg17.IsWhole) (arg18 : Memref sig .tc .smem S1 .i32) (harg18 : arg18.IsWhole) (x2 : Vec F S4x1x1024x128 .bf16) (x3 : Vec F S4x1x4096x128 .bf16) (x4 : Vec F S4x1x4096x128 .bf16) (x5 : Vec F S512x256 .bf16) (x6 : Vec F S1024x128 .f32) (x7 : Vec F S16x1024 .f32) (x8 : Vec F S16x1024 .f32) (x9 : Vec F S32x1024 .f32) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
        ⊢ wp frame (wpE (defs₀ (F := F)) Variants.nat c none) E (cc0_stickbreak i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  intro E K
  simp only [cc0_stickbreak_eq_skeleton]; unfold cc0_stickbreak_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec
  iapply (wp_assume _ _ _ _ (chk2_of (count_add count_zero (by decide))))
  sl_exec
  iapply (wp_assume _ _ _ _ (chk3_of (count_add (count_add count_zero (by decide)) (by decide))))
  sl_exec
  iapply (wp_assume _ _ _ _ (chk4_of (count_add (count_add (count_add count_zero (by decide)) (by decide)) (by decide))))
  sl_exec
  iapply (wp_assume _ _ _ _ (chk5_of (count_add (count_add (count_add (count_add count_zero (by decide)) (by decide)) (by decide)) (by decide))))
  sl_exec
  iapply (wp_assume _ _ _ _ (chk6_of (count_add (count_add (count_add (count_add (count_add count_zero (by decide)) (by decide)) (by decide)) (by decide)) (by decide))))
  sl_exec
  iapply (wp_assume _ _ _ _ (chk7_of (count_add (count_add (count_add (count_add (count_add (count_add count_zero (by decide)) (by decide)) (by decide)) (by decide)) (by decide)) (by decide))))
  sl_exec
  iapply (wp_assume _ _ _ _ (chk8_of (count_add (count_add (count_add (count_add (count_add (count_add (count_add count_zero (by decide)) (by decide)) (by decide)) (by decide)) (by decide)) (by decide)) (by decide))))
  sl_exec
  iapply (wp_assume _ _ _ _ (chk9_of (count_add (count_add (count_add (count_add (count_add (count_add (count_add (count_add count_zero (by decide)) (by decide)) (by decide)) (by decide)) (by decide)) (by decide)) (by decide)) (by decide))))
  sl_exec
  iapply (wp_assume _ _ _ _ (chk10_of (count_add (count_add (count_add (count_add (count_add (count_add (count_add (count_add (count_add count_zero (by decide)) (by decide)) (by decide)) (by decide)) (by decide)) (by decide)) (by decide)) (by decide)) (by decide))))
  sl_exec
  iapply (wp_assume _ _ _ _ (chk11_of (count_add (count_add (count_add (count_add (count_add (count_add (count_add (count_add (count_add (count_add count_zero (by decide)) (by decide)) (by decide)) (by decide)) (by decide)) (by decide)) (by decide)) (by decide)) (by decide)) (by decide))))
  sl_exec
  iapply (wp_assume _ _ _ _ (chk12_of (count_add (count_add (count_add (count_add (count_add (count_add (count_add (count_add (count_add (count_add (count_add count_zero (by decide)) (by decide)) (by decide)) (by decide)) (by decide)) (by decide)) (by decide)) (by decide)) (by decide)) (by decide)) (by decide))))
  sl_exec
  iapply (wp_assume _ _ _ _ (chk13_of (count_add (count_add (count_add (count_add (count_add (count_add (count_add (count_add (count_add (count_add (count_add (count_add count_zero (by decide)) (by decide)) (by decide)) (by decide)) (by decide)) (by decide)) (by decide)) (by decide)) (by decide)) (by decide)) (by decide)) (by decide))))
  sl_exec
  iapply (wp_assume _ _ _ _ (chk14_of (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide))))
  sl_exec
  iapply (wp_assume _ _ _ _ (chk15_of (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide))))
  sl_exec
  iapply (wp_assume _ _ _ _ (chk16_of (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide))))
  sl_exec
  iapply (wp_assume _ _ _ _ (chk17_of (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk18_of (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk19_of (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk20_of (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk21_of (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk22_of (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk23_of (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk24_of (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk25_of (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk26_of (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk27_of (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk28_of (count_add (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk29_of (count_add (count_add (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk30_of (count_add (count_add (count_add (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk31_of (count_add (count_add (count_add (count_add (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk32_of (count_add (count_add (count_add (count_add (count_add (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide))))
  sl_exec
  iapply (wp_assume _ _ _ _ (chk33_of (count_add (count_add (count_add (count_add (count_add (count_add (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide))))
  sl_exec
  sl_for (fun (_ : ℕ) (_ : BitVec 32) => iprop((View.loc (c : Thread nD τ) arg2.view ↦[arg2.view.set]{fullShare} harg2.unread x2) ∗ (View.loc (c : Thread nD τ) arg3.view ↦[arg3.view.set]{fullShare} harg3.unread x3) ∗ (View.loc (c : Thread nD τ) arg4.view ↦[arg4.view.set]{fullShare} harg4.unread x4) ∗ (View.loc (c : Thread nD τ) arg5.view ↦[arg5.view.set]{fullShare} harg5.unread x5) ∗ (∃ g15, (View.loc (c : Thread nD τ) arg15.view ↦[arg15.view.set]{fullShare} g15)) ∗ (∃ g16, (View.loc (c : Thread nD τ) arg16.view ↦[arg16.view.set]{fullShare} g16)) ∗ (∃ f17, (View.loc (c : Thread nD τ) arg17.view ↦[arg17.view.set]{fullShare} f17) ∗ ⌜Listed (run.sl.v2115 c i arg2 harg2 arg3 harg3 arg5 harg5 x2 x3 x5) arg17 f17⌝))) $$ [H2 H3 H4 H5 H15 H16 H17]
  · intro t acc
    exact trip_keeps c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ 0#32 x2 x3 x4 x5 E (count_add (count_add (count_add (count_add (count_add (count_add (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) ⟨⟨(i 1).val, (i 1).isLt⟩, rfl⟩ t acc
  · isplitl [H2]; · iexact H2
    isplitl [H3]; · iexact H3
    isplitl [H4]; · iexact H4
    isplitl [H5]; · iexact H5
    isplitl [H15]; · iexists _; iexact H15
    isplitl [H16]; · iexists _; iexact H16
    iexists _
    isplitl [H17]; · iexact H17
    ipureintro; exact (listed_step (k := 31) (listed_step (k := 30) (listed_step (k := 29) (listed_step (k := 28) (listed_step (k := 27) (listed_step (k := 26) (listed_step (k := 25) (listed_step (k := 24) (listed_step (k := 23) (listed_step (k := 22) (listed_step (k := 21) (listed_step (k := 20) (listed_step (k := 19) (listed_step (k := 18) (listed_step (k := 17) (listed_step (k := 16) (listed_step (k := 15) (listed_step (k := 14) (listed_step (k := 13) (listed_step (k := 12) (listed_step (k := 11) (listed_step (k := 10) (listed_step (k := 9) (listed_step (k := 8) (listed_step (k := 7) (listed_step (k := 6) (listed_step (k := 5) (listed_step (k := 4) (listed_step (k := 3) (listed_step (k := 2) (listed_step (k := 1) (listed_step (k := 0) (listed_zero _ _) count_zero (by decide) rfl (by decide)) (count_add count_zero (by decide)) (by decide) rfl (by decide)) (count_add (count_add count_zero (by decide)) (by decide)) (by decide) rfl (by decide)) (count_add (count_add (count_add count_zero (by decide)) (by decide)) (by decide)) (by decide) rfl (by decide)) (count_add (count_add (count_add (count_add count_zero (by decide)) (by decide)) (by decide)) (by decide)) (by decide) rfl (by decide)) (count_add (count_add (count_add (count_add (count_add count_zero (by decide)) (by decide)) (by decide)) (by decide)) (by decide)) (by decide) rfl (by decide)) (count_add (count_add (count_add (count_add (count_add (count_add count_zero (by decide)) (by decide)) (by decide)) (by decide)) (by decide)) (by decide)) (by decide) rfl (by decide)) (count_add (count_add (count_add (count_add (count_add (count_add (count_add count_zero (by decide)) (by decide)) (by decide)) (by decide)) (by decide)) (by decide)) (by decide)) (by decide) rfl (by decide)) (count_add (count_add (count_add (count_add (count_add (count_add (count_add (count_add count_zero (by decide)) (by decide)) (by decide)) (by decide)) (by decide)) (by decide)) (by decide)) (by decide)) (by decide) rfl (by decide)) (count_add (count_add (count_add (count_add (count_add (count_add (count_add (count_add (count_add count_zero (by decide)) (by decide)) (by decide)) (by decide)) (by decide)) (by decide)) (by decide)) (by decide)) (by decide)) (by decide) rfl (by decide)) (count_add (count_add (count_add (count_add (count_add (count_add (count_add (count_add (count_add (count_add count_zero (by decide)) (by decide)) (by decide)) (by decide)) (by decide)) (by decide)) (by decide)) (by decide)) (by decide)) (by decide)) (by decide) rfl (by decide)) (count_add (count_add (count_add (count_add (count_add (count_add (count_add (count_add (count_add (count_add (count_add count_zero (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide) rfl (by decide)) (count_add (count_add (count_add (count_add (count_add (count_add (count_add (count_add (count_add (count_add (count_add (count_add (count_add (count_add (count_add (count_add (count_add (count_add (count_add (count_add (count_add (count_add (count_add (count_add (count_add (count_add (count_add (count_add (count_add (count_add (count_add count_zero (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide)) (by decide) rfl (by decide))
  iintro %r ⟨H2, H3, H4, H5, ⟨%g15, H15⟩, ⟨%g16, H16⟩, ⟨%g17, H17, -⟩⟩
  sl_exec
  sl_step
  iapply Hk
  isplitl [H2]
  · iexists _
    isplitr; · ipureintro; exact harg2.read_unread _
    iexact H2
  isplitl [H3]
  · iexists _
    isplitr; · ipureintro; exact harg3.read_unread _
    iexact H3
  isplitl [H4]
  · iexists _
    isplitr; · ipureintro; exact harg4.read_unread _
    iexact H4
  isplitl [H5]
  · iexists _
    isplitr; · ipureintro; exact harg5.read_unread _
    iexact H5
  isplitl [H6]
  · iexists _
    isplitr; · ipureintro; exact harg6.read_unread _
    iexact H6
  isplitl [H7]
  · iexists _
    isplitr; · ipureintro; exact harg7.read_unread _
    iexact H7
  isplitl [H8]
  · iexists _
    isplitr; · ipureintro; exact harg8.read_unread _
    iexact H8
  isplitl [H9]
  · iexists _
    isplitr; · ipureintro; exact harg9.read_unread _
    iexact H9
  isplitl [H10]
  · iexists _, _
    isplitr; swap; · iexact H10
    ipureintro; rfl
  isplitl [H11]
  · iexists _, _
    isplitr; swap; · iexact H11
    ipureintro; rfl
  isplitl [H12]
  · iexists _, _
    isplitr; swap; · iexact H12
    ipureintro; rfl
  isplitl [H13]
  · iexists _, _
    isplitr; swap; · iexact H13
    ipureintro; rfl
  isplitl [H14]
  · iexists _, _
    isplitr; swap; · iexact H14
    ipureintro; rfl
  isplitl [H15]
  · iexists _, _
    isplitr; swap; · iexact H15
    ipureintro; rfl
  isplitl [H16]
  · iexists _, _
    isplitr; swap; · iexact H16
    ipureintro; rfl
  isplitl [H17]
  · iexists _, _
    isplitr; swap; · iexact H17
    ipureintro; rfl
  iexists _, _
  isplitr; swap; · iexact H18
  ipureintro; rfl

end Cert.KernelIdeal.Attn

end
-- ==== Proof.AttnIdealFrame.lean ====
/- The attention call's frame. -/
module

public import proofs.«01_k».proof.Proof.AttnIdealRun
public import proofs.«01_k».proof.Proof.AttnIdealKit
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The output windows: this frame says nothing of what they hold. -/
def forgets0 : Fin 13 → Bool := fun w => decide (8 ≤ w.val)

/-- What the launch's windows hold: the arrays as the region finds them, each input's staging buffer at its block
    after every point, the outputs' at contents nothing names. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := (cfg0 (F := F))) ⟨8, h⟩ t
    | ⟨9, h⟩ => Pipeline.Dat.unnamed (cfg := (cfg0 (F := F))) ⟨9, h⟩ t
    | ⟨10, h⟩ => Pipeline.Dat.unnamed (cfg := (cfg0 (F := F))) ⟨10, h⟩ t
    | ⟨11, h⟩ => Pipeline.Dat.unnamed (cfg := (cfg0 (F := F))) ⟨11, h⟩ t
    | ⟨12, h⟩ => Pipeline.Dat.unnamed (cfg := (cfg0 (F := F))) ⟨12, h⟩ t
  Φ _ := Pipeline.ΦA spec0 c
  q _ := fullShare
  owed _ := 0

/-- The windows' arrays are as the region finds them. -/
theorem A_eq (c : Dev nD) (w : Fin (cfg0 (F := F)).W) : (dats m 0 c).A w = V m c (Pipeline.arrRef spec0 w) := by
  dsimp only [dats]

/-- Input 0's buffer after a point. -/
theorem after0_0 (c : Dev nD) (t : Fin (cfg0 (F := F)).N) : (dats m 0 c).after 0 t = iblk m c 0 t := rfl
/-- Input 0's buffer before a point. -/
theorem before0_0 (c : Dev nD) (t : Fin (cfg0 (F := F)).N) (d) : (dats m 0 c).before 0 t d = iblk m c 0 t :=
  before0_0_of m (dats m 0 c) (A_eq m c 0) (after0_0 m c) t d
/-- Input 1's buffer after a point. -/
theorem after0_1 (c : Dev nD) (t : Fin (cfg0 (F := F)).N) : (dats m 0 c).after 1 t = iblk m c 1 t := rfl
/-- Input 1's buffer before a point. -/
theorem before0_1 (c : Dev nD) (t : Fin (cfg0 (F := F)).N) (d) : (dats m 0 c).before 1 t d = iblk m c 1 t :=
  before0_1_of m (dats m 0 c) (A_eq m c 1) (after0_1 m c) t d
/-- Input 2's buffer after a point. -/
theorem after0_2 (c : Dev nD) (t : Fin (cfg0 (F := F)).N) : (dats m 0 c).after 2 t = iblk m c 2 t := rfl
/-- Input 2's buffer before a point. -/
theorem before0_2 (c : Dev nD) (t : Fin (cfg0 (F := F)).N) (d) : (dats m 0 c).before 2 t d = iblk m c 2 t :=
  before0_2_of m (dats m 0 c) (A_eq m c 2) (after0_2 m c) t d
/-- Input 3's buffer after a point. -/
theorem after0_3 (c : Dev nD) (t : Fin (cfg0 (F := F)).N) : (dats m 0 c).after 3 t = iblk m c 3 t := rfl
/-- Input 3's buffer before a point. -/
theorem before0_3 (c : Dev nD) (t : Fin (cfg0 (F := F)).N) (d) : (dats m 0 c).before 3 t d = iblk m c 3 t :=
  before0_3_of m (dats m 0 c) (A_eq m c 3) (after0_3 m c) t d
/-- Input 4's buffer after a point. -/
theorem after0_4 (c : Dev nD) (t : Fin (cfg0 (F := F)).N) : (dats m 0 c).after 4 t = iblk m c 4 t := rfl
/-- Input 4's buffer before a point. -/
theorem before0_4 (c : Dev nD) (t : Fin (cfg0 (F := F)).N) (d) : (dats m 0 c).before 4 t d = iblk m c 4 t :=
  before0_4_of m (dats m 0 c) (A_eq m c 4) (after0_4 m c) t d
/-- Input 5's buffer after a point. -/
theorem after0_5 (c : Dev nD) (t : Fin (cfg0 (F := F)).N) : (dats m 0 c).after 5 t = iblk m c 5 t := rfl
/-- Input 5's buffer before a point. -/
theorem before0_5 (c : Dev nD) (t : Fin (cfg0 (F := F)).N) (d) : (dats m 0 c).before 5 t d = iblk m c 5 t :=
  before0_5_of m (dats m 0 c) (A_eq m c 5) (after0_5 m c) t d
/-- Input 6's buffer after a point. -/
theorem after0_6 (c : Dev nD) (t : Fin (cfg0 (F := F)).N) : (dats m 0 c).after 6 t = iblk m c 6 t := rfl
/-- Input 6's buffer before a point. -/
theorem before0_6 (c : Dev nD) (t : Fin (cfg0 (F := F)).N) (d) : (dats m 0 c).before 6 t d = iblk m c 6 t :=
  before0_6_of m (dats m 0 c) (A_eq m c 6) (after0_6 m c) t d
/-- Input 7's buffer after a point. -/
theorem after0_7 (c : Dev nD) (t : Fin (cfg0 (F := F)).N) : (dats m 0 c).after 7 t = iblk m c 7 t := rfl
/-- Input 7's buffer before a point. -/
theorem before0_7 (c : Dev nD) (t : Fin (cfg0 (F := F)).N) (d) : (dats m 0 c).before 7 t d = iblk m c 7 t :=
  before0_7_of m (dats m 0 c) (A_eq m c 7) (after0_7 m c) t d

/-- The body as the launch calls it at point `t`. -/
abbrev bodyAt0 (t : Fin (cfg0 (F := F)).N) : Prog (TpuEff nD τ sig (Elt F) (Λ₀ F) .tc) PUnit :=
  cc0_stickbreak ((cfg0 (F := F)).grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 1200000 in
/-- The body at any point: the inputs' buffers hold their blocks, so the run applies. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run c ((cfg0 (F := F)).grid.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, H12, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The table's row for the launch is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body's triple at every point, in the launch's words. -/
theorem body_obligation (c : Dev nD) : BodyObligation (dats (F := F) m 0 c) (defs₀ (F := F)) Variants.nat () Set.univ forgets0 := fun t => by
  rw [bigSep_W0, bigSep_W0, defs₀_row]
  exact triple_restated (sound_body m c t) rfl .rfl fun _ => .rfl

set_option backward.isDefEq.respectTransparency.types false in
/-- The launch's run: its arrays afterwards, and every semaphore at zero. -/
theorem run_main_quiescent : θ_run defs (onTc (τ := τ) (main (F := F))) (s₀ m ρ) (fun r => (Pipeline.RDat.FramePost (cfgs (F := F) 0) (fun c => (dats m 0 c).toRForget forgets0) (V m)) r ∧ r.2.sem = fun _ => 0) :=
  Pipeline.θ_run_frame_forget (Q' := _) (cfgs (F := F)) (dats m) (0 : Fin 1) launch0 (defs₀ (F := F)) Variants.nat forgets0 m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) ((θ_run defs _ _).mono (fun _ h => h.1) (run_main_quiescent m ρ))

/-- The frame: every fair execution ends, with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Attn

end
-- ==== Proof.QkvPieces.lean ====
/- The projection call over the reals, one block of rows: what the body leaves in the three output buffers and in the
   scratch holding the weights, as sums over the input block. -/
module

public import proofs.«01_k».proof.Proof.Gen.KernelQkvIdeal.Value
public import Idealize.ShloMosaic.Lib.Tactic
public import Idealize.ShloMosaic.Lib.Pointwise
public import Idealize.ShloMosaic.Lib.IdealHost
public import Idealize.ShloMosaic.Lib.ValueLayout
public import Idealize.ShloMosaic.Lib.Pipeline.ReadBack
public import proofs.«01_k».proof.Defs

@[expose] public section

set_option maxHeartbeats 1600000
noncomputable section
namespace Cert.Projection
open Cert.KernelQkvIdeal Cert.KernelQkvIdeal.Gen Idealize.ShloMosaic Idealize.ShloMosaic.TcCoe Idealize.SL.Sem

/-- One product of a normalised row: row `r` of `X` divided by the root of the mean of its squares (plus the small
    constant), scaled by `g`, multiplied into column `n` of `W`. -/
def dot {R N : ℕ} (X : (⟨2, ![R, 1024]⟩ : Shape).Idx → EReal) (g : S1x1024.Idx → EReal)
    (W : (⟨2, ![1024, N]⟩ : Shape).Idx → EReal) (r : Fin R) (n : Fin N) : EReal :=
  ∑ k : Fin 1024, X (ix2 r k)
    * Ideal.rsqrt (Ideal.div (∑ j : Fin 1024, X (ix2 r j) * X (ix2 r j)) (Ideal.ofBits FTy.f32 1149239296#32)
        + Ideal.ofBits FTy.f32 897988541#32) * g (ix2 0 k) * W (ix2 k n)

/-- `dot` depends on the numbers of its row and its column alone. -/
theorem dot_congr {R N : ℕ} (X : (⟨2, ![R, 1024]⟩ : Shape).Idx → EReal) (g : S1x1024.Idx → EReal)
    (W : (⟨2, ![1024, N]⟩ : Shape).Idx → EReal) {r r' : Fin R} {n n' : Fin N} (hr : r.val = r'.val) (hn : n.val = n'.val) :
    dot X g W r n = dot X g W r' n' := by
  rw [Fin.ext hr, Fin.ext hn]

/-- The column of the projection that head pair `p`, lane `l` of the output starting at column `o` reads. -/
def col (o : ℕ) (ho : o ≤ 1024) (p : Fin 4) (l : Fin 128) : Fin 1536 := ⟨o + 128 * p.val + l.val, by omega⟩

/-- What one block of rows leaves in the queries' buffer. -/
def val3 (X : S2048x1024.Idx → EReal) (g : S1x1024.Idx → EReal) (W : S1024x1536.Idx → EReal) : S4x2048x128.Idx → EReal :=
  fun y => dot X g W (y 1) (col 0 (by omega) (y 0) (y 2)) * Ideal.ofBits FTy.f32 1040187392#32
/-- … in the keys' buffer. -/
def val4 (X : S2048x1024.Idx → EReal) (g : S1x1024.Idx → EReal) (W : S1024x1536.Idx → EReal) : S4x2048x128.Idx → EReal :=
  fun y => dot X g W (y 1) (col 512 (by omega) (y 0) (y 2))
/-- … in the values' buffer. -/
def val5 (X : S2048x1024.Idx → EReal) (g : S1x1024.Idx → EReal) (W : S1024x1536.Idx → EReal) : S4x2048x128.Idx → EReal :=
  fun y => dot X g W (y 1) (col 1024 (by omega) (y 0) (y 2))

/-- The coordinates of a unit-stride rectangle's embedding. -/
theorem emb_val {s : Shape} (off size : Fin s.rank → ℕ) (inb : ∀ a, off a + size a ≤ s.size a)
    (x : (Rect.unit off size inb).shape.Idx) (a : Fin s.rank) : ((Rect.unit off size inb).emb x a).val = off a + 1 * (x a).val := rfl

/-- Zero offsets. -/
theorem hz : (![0, 0] : Fin 2 → ℕ) = fun _ => 0 := funext fun a => by fin_cases a <;> rfl

/-- A load from a scratch that was filled whole reads the fill. -/
theorem readCov_pay5 {κ : Kind} {sp : Space} (v : View sig κ sp S1024x1536 .bf16) (Z : S1024x1536.Idx → Elt Idealize.ShloMosaic.Ideal .bf16)
    (inb : ∀ a, (![0, 0] : Fin 2 → ℕ) a + S1024x1536.size a ≤ S1024x1536.size a) (r : Rect S1024x1536) :
    v.readCov [⟨Rect.unit ![0, 0] (no_index S1024x1536.size) inb, Z⟩] r.toLoadRect = View.ld Z r :=
  View.readCov_fill v inb Z [] r (fun a => by fin_cases a <;> rfl)

/-- Case B: what the body leaves in the queries' buffer. -/
theorem out_B_3 (c : Dev nD) (i : grid0.Coords) (a1 : Memref sig .tc .vmem S2048x1024 .f32) (h1 : a1.IsWhole) (a2 : Memref sig .tc .vmem S1x1024 .f32) (h2 : a2.IsWhole) (a3 : Memref sig .tc .vmem S1024x1536 .f32) (h3 : a3.IsWhole) (a4 : Memref sig .tc .vmem S4x2048x128 .bf16) (h4 : a4.IsWhole) (a5 : Memref sig .tc .vmem S4x2048x128 .bf16) (h5 : a5.IsWhole) (a6 : Memref sig .tc .vmem S4x2048x128 .bf16) (h6 : a6.IsWhole) (a7 : Memref sig .tc .vmem S1024x1536 .bf16) (h7 : a7.IsWhole) (hc : ¬cond0_0 i)
    (x0 : Vec Idealize.ShloMosaic.Ideal S2048x1024 .f32) (x1 : Vec Idealize.ShloMosaic.Ideal S1x1024 .f32) (x2 : Vec Idealize.ShloMosaic.Ideal S1024x1536 .f32) (xs0 : Vec Idealize.ShloMosaic.Ideal S1024x1536 .bf16) :
    out0_B_3 c i a1 h1 a2 h2 a3 h3 a4 h4 a5 h5 a6 h6 a7 h7 hc x0 x1 x2 xs0 = val3 x0 x1 xs0 := by
  unfold out0_B_3
  rw [View.read_writes_eq_canon _ _ _ (cover0_B_3 c i a1 h1 a2 h2 a3 h3 a4 h4 a5 h5 a6 h6 a7 h7 hc x0 x1 x2 xs0)]
  funext y
  refine View.canon_apply_of_pieces (val3 x0 x1 xs0) _ ?_ y (cover0_B_3 c i a1 h1 a2 h2 a3 h3 a4 h4 a5 h5 a6 h6 a7 h7 hc x0 x1 x2 xs0 y)
  unfold kernelRun0_B
  dsimp only
  sl_unfold_words
  simp only [View.readAt_eq_ld, h1.read_unread, h2.read_unread, h7.read_unread]
  generalize x0 = b0; generalize x1 = b1; generalize xs0 = bw
  simp only [List.forall_mem_cons]
  refine ⟨?_, ?_, ?_, ?_, ?_, ?_, ?_, ?_, ?_, ?_, ?_, ?_, ?_, ?_, ?_, ?_, fun p hp => absurd hp List.not_mem_nil⟩
  all_goals
    intro x
    idx_vars x
    pointwise [k0_pay1, k0_pay10, k0_pay11, k0_pay12, k0_pay13, k0_pay14, k0_pay15, k0_pay16, k0_pay17, k0_pay18, k0_pay19, k0_pay2, k0_pay20, k0_pay21, k0_pay22, k0_pay23, k0_pay24, k0_pay25, k0_pay26, k0_pay27, k0_pay28, k0_pay29, k0_pay3, k0_pay30, k0_pay31, k0_pay32, k0_pay33, k0_pay34, k0_pay35, k0_pay36, k0_pay37, k0_pay38, k0_pay39, k0_pay4, k0_pay40, k0_pay41, k0_pay42, k0_pay43, k0_pay44, k0_pay45, k0_pay46, k0_pay47, k0_pay48, k0_pay49, k0_pay5, k0_pay50, k0_pay51, k0_pay52, k0_pay53, k0_pay54, k0_pay55, k0_pay56, k0_pay57, k0_pay58, k0_pay59, k0_pay6, k0_pay60, k0_pay61, k0_pay62, k0_pay63, k0_pay64, k0_pay65, k0_pay66, k0_pay67, k0_pay68, k0_pay69, k0_pay7, k0_pay70, k0_pay71, k0_pay72, k0_pay73, k0_pay74, k0_pay75, k0_pay8, k0_pay9]
    refine congrArg (· * Ideal.ofBits FTy.f32 1040187392#32) (Eq.trans (b := dot (R := 2048) (N := 1536) b0 b1 bw _ _) rfl (dot_congr _ _ _ ?_ ?_))
    · simp only [emb_val]; simp
    · simp only [col, emb_val]; simp <;> omega

/-- Case B: what the body leaves in the keys' buffer. -/
theorem out_B_4 (c : Dev nD) (i : grid0.Coords) (a1 : Memref sig .tc .vmem S2048x1024 .f32) (h1 : a1.IsWhole) (a2 : Memref sig .tc .vmem S1x1024 .f32) (h2 : a2.IsWhole) (a3 : Memref sig .tc .vmem S1024x1536 .f32) (h3 : a3.IsWhole) (a4 : Memref sig .tc .vmem S4x2048x128 .bf16) (h4 : a4.IsWhole) (a5 : Memref sig .tc .vmem S4x2048x128 .bf16) (h5 : a5.IsWhole) (a6 : Memref sig .tc .vmem S4x2048x128 .bf16) (h6 : a6.IsWhole) (a7 : Memref sig .tc .vmem S1024x1536 .bf16) (h7 : a7.IsWhole) (hc : ¬cond0_0 i)
    (x0 : Vec Idealize.ShloMosaic.Ideal S2048x1024 .f32) (x1 : Vec Idealize.ShloMosaic.Ideal S1x1024 .f32) (x2 : Vec Idealize.ShloMosaic.Ideal S1024x1536 .f32) (xs0 : Vec Idealize.ShloMosaic.Ideal S1024x1536 .bf16) :
    out0_B_4 c i a1 h1 a2 h2 a3 h3 a4 h4 a5 h5 a6 h6 a7 h7 hc x0 x1 x2 xs0 = val4 x0 x1 xs0 := by
  unfold out0_B_4
  rw [View.read_writes_eq_canon _ _ _ (cover0_B_4 c i a1 h1 a2 h2 a3 h3 a4 h4 a5 h5 a6 h6 a7 h7 hc x0 x1 x2 xs0)]
  funext y
  refine View.canon_apply_of_pieces (val4 x0 x1 xs0) _ ?_ y (cover0_B_4 c i a1 h1 a2 h2 a3 h3 a4 h4 a5 h5 a6 h6 a7 h7 hc x0 x1 x2 xs0 y)
  unfold kernelRun0_B
  dsimp only
  sl_unfold_words
  simp only [View.readAt_eq_ld, h1.read_unread, h2.read_unread, h7.read_unread]
  generalize x0 = b0; generalize x1 = b1; generalize xs0 = bw
  simp only [List.forall_mem_cons]
  refine ⟨?_, ?_, ?_, ?_, ?_, ?_, ?_, ?_, ?_, ?_, ?_, ?_, ?_, ?_, ?_, ?_, fun p hp => absurd hp List.not_mem_nil⟩
  all_goals
    intro x
    idx_vars x
    pointwise [k0_pay1, k0_pay10, k0_pay11, k0_pay12, k0_pay13, k0_pay14, k0_pay15, k0_pay16, k0_pay17, k0_pay18, k0_pay19, k0_pay2, k0_pay20, k0_pay21, k0_pay22, k0_pay23, k0_pay24, k0_pay25, k0_pay26, k0_pay27, k0_pay28, k0_pay29, k0_pay3, k0_pay30, k0_pay31, k0_pay32, k0_pay33, k0_pay34, k0_pay35, k0_pay36, k0_pay37, k0_pay38, k0_pay39, k0_pay4, k0_pay40, k0_pay41, k0_pay42, k0_pay43, k0_pay44, k0_pay45, k0_pay46, k0_pay47, k0_pay48, k0_pay49, k0_pay5, k0_pay50, k0_pay51, k0_pay52, k0_pay53, k0_pay54, k0_pay55, k0_pay56, k0_pay57, k0_pay58, k0_pay59, k0_pay6, k0_pay60, k0_pay61, k0_pay62, k0_pay63, k0_pay64, k0_pay65, k0_pay66, k0_pay67, k0_pay68, k0_pay69, k0_pay7, k0_pay70, k0_pay71, k0_pay72, k0_pay73, k0_pay74, k0_pay75, k0_pay8, k0_pay9]
    refine Eq.trans (b := dot (R := 2048) (N := 1536) b0 b1 bw _ _) rfl (dot_congr _ _ _ ?_ ?_)
    · simp only [emb_val]; simp
    · simp only [col, emb_val]; simp <;> omega

/-- Case B: what the body leaves in the values' buffer. -/
theorem out_B_5 (c : Dev nD) (i : grid0.Coords) (a1 : Memref sig .tc .vmem S2048x1024 .f32) (h1 : a1.IsWhole) (a2 : Memref sig .tc .vmem S1x1024 .f32) (h2 : a2.IsWhole) (a3 : Memref sig .tc .vmem S1024x1536 .f32) (h3 : a3.IsWhole) (a4 : Memref sig .tc .vmem S4x2048x128 .bf16) (h4 : a4.IsWhole) (a5 : Memref sig .tc .vmem S4x2048x128 .bf16) (h5 : a5.IsWhole) (a6 : Memref sig .tc .vmem S4x2048x128 .bf16) (h6 : a6.IsWhole) (a7 : Memref sig .tc .vmem S1024x1536 .bf16) (h7 : a7.IsWhole) (hc : ¬cond0_0 i)
    (x0 : Vec Idealize.ShloMosaic.Ideal S2048x1024 .f32) (x1 : Vec Idealize.ShloMosaic.Ideal S1x1024 .f32) (x2 : Vec Idealize.ShloMosaic.Ideal S1024x1536 .f32) (xs0 : Vec Idealize.ShloMosaic.Ideal S1024x1536 .bf16) :
    out0_B_5 c i a1 h1 a2 h2 a3 h3 a4 h4 a5 h5 a6 h6 a7 h7 hc x0 x1 x2 xs0 = val5 x0 x1 xs0 := by
  unfold out0_B_5
  rw [View.read_writes_eq_canon _ _ _ (cover0_B_5 c i a1 h1 a2 h2 a3 h3 a4 h4 a5 h5 a6 h6 a7 h7 hc x0 x1 x2 xs0)]
  funext y
  refine View.canon_apply_of_pieces (val5 x0 x1 xs0) _ ?_ y (cover0_B_5 c i a1 h1 a2 h2 a3 h3 a4 h4 a5 h5 a6 h6 a7 h7 hc x0 x1 x2 xs0 y)
  unfold kernelRun0_B
  dsimp only
  sl_unfold_words
  simp only [View.readAt_eq_ld, h1.read_unread, h2.read_unread, h7.read_unread]
  generalize x0 = b0; generalize x1 = b1; generalize xs0 = bw
  simp only [List.forall_mem_cons]
  refine ⟨?_, ?_, ?_, ?_, ?_, ?_, ?_, ?_, ?_, ?_, ?_, ?_, ?_, ?_, ?_, ?_, fun p hp => absurd hp List.not_mem_nil⟩
  all_goals
    intro x
    idx_vars x
    pointwise [k0_pay1, k0_pay10, k0_pay11, k0_pay12, k0_pay13, k0_pay14, k0_pay15, k0_pay16, k0_pay17, k0_pay18, k0_pay19, k0_pay2, k0_pay20, k0_pay21, k0_pay22, k0_pay23, k0_pay24, k0_pay25, k0_pay26, k0_pay27, k0_pay28, k0_pay29, k0_pay3, k0_pay30, k0_pay31, k0_pay32, k0_pay33, k0_pay34, k0_pay35, k0_pay36, k0_pay37, k0_pay38, k0_pay39, k0_pay4, k0_pay40, k0_pay41, k0_pay42, k0_pay43, k0_pay44, k0_pay45, k0_pay46, k0_pay47, k0_pay48, k0_pay49, k0_pay5, k0_pay50, k0_pay51, k0_pay52, k0_pay53, k0_pay54, k0_pay55, k0_pay56, k0_pay57, k0_pay58, k0_pay59, k0_pay6, k0_pay60, k0_pay61, k0_pay62, k0_pay63, k0_pay64, k0_pay65, k0_pay66, k0_pay67, k0_pay68, k0_pay69, k0_pay7, k0_pay70, k0_pay71, k0_pay72, k0_pay73, k0_pay74, k0_pay75, k0_pay8, k0_pay9]
    refine Eq.trans (b := dot (R := 2048) (N := 1536) b0 b1 bw _ _) rfl (dot_congr _ _ _ ?_ ?_)
    · simp only [emb_val]; simp
    · simp only [col, emb_val]; simp <;> omega

/-- At the first point the weights are copied into the scratch. -/
theorem sout_A (c : Dev nD) (i : grid0.Coords) (a1 : Memref sig .tc .vmem S2048x1024 .f32) (h1 : a1.IsWhole) (a2 : Memref sig .tc .vmem S1x1024 .f32) (h2 : a2.IsWhole) (a3 : Memref sig .tc .vmem S1024x1536 .f32) (h3 : a3.IsWhole) (a4 : Memref sig .tc .vmem S4x2048x128 .bf16) (h4 : a4.IsWhole) (a5 : Memref sig .tc .vmem S4x2048x128 .bf16) (h5 : a5.IsWhole) (a6 : Memref sig .tc .vmem S4x2048x128 .bf16) (h6 : a6.IsWhole) (a7 : Memref sig .tc .vmem S1024x1536 .bf16) (h7 : a7.IsWhole) (hc : cond0_0 i)
    (x0 : Vec Idealize.ShloMosaic.Ideal S2048x1024 .f32) (x1 : Vec Idealize.ShloMosaic.Ideal S1x1024 .f32) (x2 : Vec Idealize.ShloMosaic.Ideal S1024x1536 .f32) :
    sout0_A_0 c i a1 h1 a2 h2 a3 h3 a4 h4 a5 h5 a6 h6 a7 h7 hc x0 x1 x2 = x2 := by
  unfold sout0_A_0
  rw [View.read_writes_eq_canon _ _ _ (scover0_A_0 c i a1 h1 a2 h2 a3 h3 a4 h4 a5 h5 a6 h6 a7 h7 hc x0 x1 x2)]
  unfold kernelRun0_A
  dsimp only
  sl_unfold_words
  rw [View.canon_unit_zero hz]
  unfold k0_pay5
  simp only [View.readAt_eq_ld, h3.read_unread, View.ld_unit_zero (S := S1024x1536) hz, shapeCast_self]
  rfl

/-- Case A: what the body leaves in the queries' buffer. -/
theorem out_A_3 (c : Dev nD) (i : grid0.Coords) (a1 : Memref sig .tc .vmem S2048x1024 .f32) (h1 : a1.IsWhole) (a2 : Memref sig .tc .vmem S1x1024 .f32) (h2 : a2.IsWhole) (a3 : Memref sig .tc .vmem S1024x1536 .f32) (h3 : a3.IsWhole) (a4 : Memref sig .tc .vmem S4x2048x128 .bf16) (h4 : a4.IsWhole) (a5 : Memref sig .tc .vmem S4x2048x128 .bf16) (h5 : a5.IsWhole) (a6 : Memref sig .tc .vmem S4x2048x128 .bf16) (h6 : a6.IsWhole) (a7 : Memref sig .tc .vmem S1024x1536 .bf16) (h7 : a7.IsWhole) (hc : cond0_0 i)
    (x0 : Vec Idealize.ShloMosaic.Ideal S2048x1024 .f32) (x1 : Vec Idealize.ShloMosaic.Ideal S1x1024 .f32) (x2 : Vec Idealize.ShloMosaic.Ideal S1024x1536 .f32) :
    out0_A_3 c i a1 h1 a2 h2 a3 h3 a4 h4 a5 h5 a6 h6 a7 h7 hc x0 x1 x2 = val3 x0 x1 x2 := by
  unfold out0_A_3
  rw [View.read_writes_eq_canon _ _ _ (cover0_A_3 c i a1 h1 a2 h2 a3 h3 a4 h4 a5 h5 a6 h6 a7 h7 hc x0 x1 x2)]
  funext y
  refine View.canon_apply_of_pieces (val3 x0 x1 x2) _ ?_ y (cover0_A_3 c i a1 h1 a2 h2 a3 h3 a4 h4 a5 h5 a6 h6 a7 h7 hc x0 x1 x2 y)
  unfold kernelRun0_A
  dsimp only
  sl_unfold_words
  simp only [View.readAt_eq_ld, h1.read_unread, h2.read_unread, h3.read_unread, readCov_pay5]
  generalize x0 = b0; generalize x1 = b1; generalize x2 = bw
  simp only [List.forall_mem_cons]
  refine ⟨?_, ?_, ?_, ?_, ?_, ?_, ?_, ?_, ?_, ?_, ?_, ?_, ?_, ?_, ?_, ?_, fun p hp => absurd hp List.not_mem_nil⟩
  all_goals
    intro x
    idx_vars x
    pointwise [k0_pay1, k0_pay10, k0_pay11, k0_pay12, k0_pay13, k0_pay14, k0_pay15, k0_pay16, k0_pay17, k0_pay18, k0_pay19, k0_pay2, k0_pay20, k0_pay21, k0_pay22, k0_pay23, k0_pay24, k0_pay25, k0_pay26, k0_pay27, k0_pay28, k0_pay29, k0_pay3, k0_pay30, k0_pay31, k0_pay32, k0_pay33, k0_pay34, k0_pay35, k0_pay36, k0_pay37, k0_pay38, k0_pay39, k0_pay4, k0_pay40, k0_pay41, k0_pay42, k0_pay43, k0_pay44, k0_pay45, k0_pay46, k0_pay47, k0_pay48, k0_pay49, k0_pay5, k0_pay50, k0_pay51, k0_pay52, k0_pay53, k0_pay54, k0_pay55, k0_pay56, k0_pay57, k0_pay58, k0_pay59, k0_pay6, k0_pay60, k0_pay61, k0_pay62, k0_pay63, k0_pay64, k0_pay65, k0_pay66, k0_pay67, k0_pay68, k0_pay69, k0_pay7, k0_pay70, k0_pay71, k0_pay72, k0_pay73, k0_pay74, k0_pay75, k0_pay8, k0_pay9]
    refine congrArg (· * Ideal.ofBits FTy.f32 1040187392#32) (Eq.trans (b := dot (R := 2048) (N := 1536) b0 b1 bw _ _) rfl (dot_congr _ _ _ ?_ ?_))
    · simp only [emb_val]; simp
    · simp only [col, emb_val]; simp <;> omega

/-- Case A: what the body leaves in the keys' buffer. -/
theorem out_A_4 (c : Dev nD) (i : grid0.Coords) (a1 : Memref sig .tc .vmem S2048x1024 .f32) (h1 : a1.IsWhole) (a2 : Memref sig .tc .vmem S1x1024 .f32) (h2 : a2.IsWhole) (a3 : Memref sig .tc .vmem S1024x1536 .f32) (h3 : a3.IsWhole) (a4 : Memref sig .tc .vmem S4x2048x128 .bf16) (h4 : a4.IsWhole) (a5 : Memref sig .tc .vmem S4x2048x128 .bf16) (h5 : a5.IsWhole) (a6 : Memref sig .tc .vmem S4x2048x128 .bf16) (h6 : a6.IsWhole) (a7 : Memref sig .tc .vmem S1024x1536 .bf16) (h7 : a7.IsWhole) (hc : cond0_0 i)
    (x0 : Vec Idealize.ShloMosaic.Ideal S2048x1024 .f32) (x1 : Vec Idealize.ShloMosaic.Ideal S1x1024 .f32) (x2 : Vec Idealize.ShloMosaic.Ideal S1024x1536 .f32) :
    out0_A_4 c i a1 h1 a2 h2 a3 h3 a4 h4 a5 h5 a6 h6 a7 h7 hc x0 x1 x2 = val4 x0 x1 x2 := by
  unfold out0_A_4
  rw [View.read_writes_eq_canon _ _ _ (cover0_A_4 c i a1 h1 a2 h2 a3 h3 a4 h4 a5 h5 a6 h6 a7 h7 hc x0 x1 x2)]
  funext y
  refine View.canon_apply_of_pieces (val4 x0 x1 x2) _ ?_ y (cover0_A_4 c i a1 h1 a2 h2 a3 h3 a4 h4 a5 h5 a6 h6 a7 h7 hc x0 x1 x2 y)
  unfold kernelRun0_A
  dsimp only
  sl_unfold_words
  simp only [View.readAt_eq_ld, h1.read_unread, h2.read_unread, h3.read_unread, readCov_pay5]
  generalize x0 = b0; generalize x1 = b1; generalize x2 = bw
  simp only [List.forall_mem_cons]
  refine ⟨?_, ?_, ?_, ?_, ?_, ?_, ?_, ?_, ?_, ?_, ?_, ?_, ?_, ?_, ?_, ?_, fun p hp => absurd hp List.not_mem_nil⟩
  all_goals
    intro x
    idx_vars x
    pointwise [k0_pay1, k0_pay10, k0_pay11, k0_pay12, k0_pay13, k0_pay14, k0_pay15, k0_pay16, k0_pay17, k0_pay18, k0_pay19, k0_pay2, k0_pay20, k0_pay21, k0_pay22, k0_pay23, k0_pay24, k0_pay25, k0_pay26, k0_pay27, k0_pay28, k0_pay29, k0_pay3, k0_pay30, k0_pay31, k0_pay32, k0_pay33, k0_pay34, k0_pay35, k0_pay36, k0_pay37, k0_pay38, k0_pay39, k0_pay4, k0_pay40, k0_pay41, k0_pay42, k0_pay43, k0_pay44, k0_pay45, k0_pay46, k0_pay47, k0_pay48, k0_pay49, k0_pay5, k0_pay50, k0_pay51, k0_pay52, k0_pay53, k0_pay54, k0_pay55, k0_pay56, k0_pay57, k0_pay58, k0_pay59, k0_pay6, k0_pay60, k0_pay61, k0_pay62, k0_pay63, k0_pay64, k0_pay65, k0_pay66, k0_pay67, k0_pay68, k0_pay69, k0_pay7, k0_pay70, k0_pay71, k0_pay72, k0_pay73, k0_pay74, k0_pay75, k0_pay8, k0_pay9]
    refine Eq.trans (b := dot (R := 2048) (N := 1536) b0 b1 bw _ _) rfl (dot_congr _ _ _ ?_ ?_)
    · simp only [emb_val]; simp
    · simp only [col, emb_val]; simp <;> omega

/-- Case A: what the body leaves in the values' buffer. -/
theorem out_A_5 (c : Dev nD) (i : grid0.Coords) (a1 : Memref sig .tc .vmem S2048x1024 .f32) (h1 : a1.IsWhole) (a2 : Memref sig .tc .vmem S1x1024 .f32) (h2 : a2.IsWhole) (a3 : Memref sig .tc .vmem S1024x1536 .f32) (h3 : a3.IsWhole) (a4 : Memref sig .tc .vmem S4x2048x128 .bf16) (h4 : a4.IsWhole) (a5 : Memref sig .tc .vmem S4x2048x128 .bf16) (h5 : a5.IsWhole) (a6 : Memref sig .tc .vmem S4x2048x128 .bf16) (h6 : a6.IsWhole) (a7 : Memref sig .tc .vmem S1024x1536 .bf16) (h7 : a7.IsWhole) (hc : cond0_0 i)
    (x0 : Vec Idealize.ShloMosaic.Ideal S2048x1024 .f32) (x1 : Vec Idealize.ShloMosaic.Ideal S1x1024 .f32) (x2 : Vec Idealize.ShloMosaic.Ideal S1024x1536 .f32) :
    out0_A_5 c i a1 h1 a2 h2 a3 h3 a4 h4 a5 h5 a6 h6 a7 h7 hc x0 x1 x2 = val5 x0 x1 x2 := by
  unfold out0_A_5
  rw [View.read_writes_eq_canon _ _ _ (cover0_A_5 c i a1 h1 a2 h2 a3 h3 a4 h4 a5 h5 a6 h6 a7 h7 hc x0 x1 x2)]
  funext y
  refine View.canon_apply_of_pieces (val5 x0 x1 x2) _ ?_ y (cover0_A_5 c i a1 h1 a2 h2 a3 h3 a4 h4 a5 h5 a6 h6 a7 h7 hc x0 x1 x2 y)
  unfold kernelRun0_A
  dsimp only
  sl_unfold_words
  simp only [View.readAt_eq_ld, h1.read_unread, h2.read_unread, h3.read_unread, readCov_pay5]
  generalize x0 = b0; generalize x1 = b1; generalize x2 = bw
  simp only [List.forall_mem_cons]
  refine ⟨?_, ?_, ?_, ?_, ?_, ?_, ?_, ?_, ?_, ?_, ?_, ?_, ?_, ?_, ?_, ?_, fun p hp => absurd hp List.not_mem_nil⟩
  all_goals
    intro x
    idx_vars x
    pointwise [k0_pay1, k0_pay10, k0_pay11, k0_pay12, k0_pay13, k0_pay14, k0_pay15, k0_pay16, k0_pay17, k0_pay18, k0_pay19, k0_pay2, k0_pay20, k0_pay21, k0_pay22, k0_pay23, k0_pay24, k0_pay25, k0_pay26, k0_pay27, k0_pay28, k0_pay29, k0_pay3, k0_pay30, k0_pay31, k0_pay32, k0_pay33, k0_pay34, k0_pay35, k0_pay36, k0_pay37, k0_pay38, k0_pay39, k0_pay4, k0_pay40, k0_pay41, k0_pay42, k0_pay43, k0_pay44, k0_pay45, k0_pay46, k0_pay47, k0_pay48, k0_pay49, k0_pay5, k0_pay50, k0_pay51, k0_pay52, k0_pay53, k0_pay54, k0_pay55, k0_pay56, k0_pay57, k0_pay58, k0_pay59, k0_pay6, k0_pay60, k0_pay61, k0_pay62, k0_pay63, k0_pay64, k0_pay65, k0_pay66, k0_pay67, k0_pay68, k0_pay69, k0_pay7, k0_pay70, k0_pay71, k0_pay72, k0_pay73, k0_pay74, k0_pay75, k0_pay8, k0_pay9]
    refine Eq.trans (b := dot (R := 2048) (N := 1536) b0 b1 bw _ _) rfl (dot_congr _ _ _ ?_ ?_)
    · simp only [emb_val]; simp
    · simp only [col, emb_val]; simp <;> omega

end Cert.Projection
end
-- ==== Proof.QkvValue.lean ====
/- The projection call over the reals: after the run its three output arrays hold the reference's queries, keys and
   values. -/
module

public import proofs.«01_k».proof.Proof.QkvPieces
public import proofs.«01_k».proof.Proof.Gen.ReferenceQkvIdeal.Run
public import Idealize.ShloMosaic.Lib.Pipeline.ValueKit
public import Idealize.ShloMosaic.Lib.Claim

@[expose] public section

set_option maxHeartbeats 400000
set_option maxRecDepth 16384

noncomputable section
namespace Cert.Projection
open Cert.KernelQkvIdeal Cert.KernelQkvIdeal.Gen Idealize.ShloMosaic Idealize.ShloMosaic.TcCoe Idealize.SL.Sem
open Idealize.ShloMosaic.Pipeline (Dat)

variable (m : (ℓ : Loc nD τ sig) → Buf (Elt Idealize.ShloMosaic.Ideal) ℓ)

/-- The rows the call is given: the activations, one row per token. -/
def rows (c : Dev nD) : S32768x1024.Idx → EReal := V m c main_v0
/-- The scale of the normalisation, as one row. -/
def scale (c : Dev nD) : S1x1024.Idx → EReal := V m c main_v1
/-- The projection's weights: the first 1536 columns. -/
def weights (c : Dev nD) : S1024x1536.Idx → EReal :=
  fun j => m ((c : Thread nD τ).loc main_arg2) (ix2 (j 0) ⟨(j 1).val, Nat.lt_of_lt_of_le (j 1).isLt (by decide)⟩)

/-- The block indices of the three inputs and three outputs. -/
theorem index_eq : ∀ t : Fin grid0.N, win0_0.index t = ![t.val, 0] ∧ win0_1.index t = ![0, 0] ∧ win0_2.index t = ![0, 0]
    ∧ win0_3.index t = ![0, t.val, 0] ∧ win0_4.index t = ![0, t.val, 0] ∧ win0_5.index t = ![0, t.val, 0] := by
  decide +kernel

/-- The number of points. -/
theorem point_lt (t : Fin cfg0.N) : t.val < 16 := lt_of_lt_of_eq t.isLt N_0

/-- Point `t`'s block of rows is rows `2048 t` on. -/
theorem iblk0_apply (c : Dev nD) (t : Fin cfg0.N) (r : Fin 2048) (k : Fin 1024) :
    (iblk m c 0 t : S2048x1024.Idx → EReal) (ix2 r k)
      = rows m c (ix2 ⟨2048 * t.val + r.val, by have := point_lt t; omega⟩ k) := by
  unfold rows
  blk_ext [iblk, index_eq t]

/-- The scale's block is the scale. -/
theorem iblk1_eq (c : Dev nD) (t : Fin cfg0.N) : (iblk m c 1 t : S1x1024.Idx → EReal) = scale m c := by
  unfold scale
  funext y
  blk_ext [iblk, index_eq t]

/-- The weights' block is the first 1536 columns. -/
theorem X0_2_eq (c : Dev nD) (t : Fin cfg0.N) : (X0_2 m c t : S1024x1536.Idx → EReal) = weights m c := by
  funext y
  unfold X0_2 Pipeline.Window.fill weights
  rw [dif_pos (moved0_2 t y)]
  blk_ext [iblk, index_eq t, V_main_arg2]

/-- After every point the output buffers hold that point's products and the scratch the weights. -/
theorem outs_eq (c : Dev nD) : ∀ (n : ℕ) (h : n < cfg0.N),
    outsAt0 m c n h = (val3 (iblk m c 0 ⟨n, h⟩) (scale m c) (weights m c), val4 (iblk m c 0 ⟨n, h⟩) (scale m c) (weights m c),
      val5 (iblk m c 0 ⟨n, h⟩) (scale m c) (weights m c), weights m c) := by
  intro n
  induction n with
  | zero =>
    intro h
    rw [show outsAt0 m c 0 h = _ from outsAt0_A m c ⟨0, h⟩ (Nat.zero_mod 16), out_A_3, out_A_4, out_A_5, sout_A, X0_2_eq, iblk1_eq]
  | succ n ih =>
    intro h
    have hN := lt_of_lt_of_eq h N_0
    have e : outsAt0 m c (n + 1 - 1) (by omega) = _ := ih (by omega)
    rw [show outsAt0 m c (n + 1) h = _ from outsAt0_B m c ⟨n + 1, h⟩ (show ¬(n + 1) % 16 = 0 by omega), out_B_3, out_B_4, out_B_5,
      iblk1_eq]
    unfold sout0_B_0
    dsimp only
    rw [e]

/-- A product of a block's row is the product of the array's row. -/
theorem dot_block (c : Dev nD) (t : Fin cfg0.N) (r : Fin 2048) (R : Fin 32768) (hR : R.val = 2048 * t.val + r.val)
    (g : S1x1024.Idx → EReal) {N : ℕ} (W : (⟨2, ![1024, N]⟩ : Shape).Idx → EReal) (n : Fin N) :
    dot (R := 2048) (iblk m c 0 t) g W r n = dot (rows m c) g W R n := by
  have e : R = ⟨2048 * t.val + r.val, by have := point_lt t; omega⟩ := Fin.ext hR
  rw [e]
  unfold dot
  simp only [iblk0_apply]

/-- The queries' array after the run. -/
def res3 (c : Dev nD) : S4x32768x128.Idx → EReal :=
  fun y => dot (rows m c) (scale m c) (weights m c) (y 1) (col 0 (by omega) (y 0) (y 2)) * Ideal.ofBits FTy.f32 1040187392#32
/-- The keys' array after the run. -/
def res4 (c : Dev nD) : S4x32768x128.Idx → EReal :=
  fun y => dot (rows m c) (scale m c) (weights m c) (y 1) (col 512 (by omega) (y 0) (y 2))
/-- The values' array after the run. -/
def res5 (c : Dev nD) : S4x32768x128.Idx → EReal :=
  fun y => dot (rows m c) (scale m c) (weights m c) (y 1) (col 1024 (by omega) (y 0) (y 2))

/-- The run leaves `res3` in the queries' array. -/
theorem final3 (c : Dev nD) : (dats m 0 c).arrAt 3 cfg0.N = res3 m c := by
  refine (dats m 0 c).arrAt_eq_of_covers 3 _ (by decide +kernel) fun t hf y => ?_
  blk_simp
  rw [after0_3, outs_eq]
  show val3 _ _ _ y = res3 m c (((cfg0.win 3).blk t).view.emb y)
  have e0 : ((((cfg0.win 3).blk t).view.emb y) 0).val = (y 0).val := by blk_simp [index_eq t]; try omega
  have e1 : ((((cfg0.win 3).blk t).view.emb y) 1).val = 2048 * t.val + (y 1).val := by blk_simp [index_eq t]; try omega
  have e2 : ((((cfg0.win 3).blk t).view.emb y) 2).val = (y 2).val := by blk_simp [index_eq t]; try omega
  unfold val3 res3
  rw [dot_block m c t (y 1) _ e1]
  refine congrArg (· * _) (dot_congr _ _ _ rfl ?_)
  show 0 + 128 * (y 0).val + (y 2).val = 0 + 128 * _ + _
  rw [e0, e2]
/-- The run leaves `res4` in the keys' array. -/
theorem final4 (c : Dev nD) : (dats m 0 c).arrAt 4 cfg0.N = res4 m c := by
  refine (dats m 0 c).arrAt_eq_of_covers 4 _ (by decide +kernel) fun t hf y => ?_
  blk_simp
  rw [after0_4, outs_eq]
  show val4 _ _ _ y = res4 m c (((cfg0.win 4).blk t).view.emb y)
  have e0 : ((((cfg0.win 4).blk t).view.emb y) 0).val = (y 0).val := by blk_simp [index_eq t]; try omega
  have e1 : ((((cfg0.win 4).blk t).view.emb y) 1).val = 2048 * t.val + (y 1).val := by blk_simp [index_eq t]; try omega
  have e2 : ((((cfg0.win 4).blk t).view.emb y) 2).val = (y 2).val := by blk_simp [index_eq t]; try omega
  unfold val4 res4
  rw [dot_block m c t (y 1) _ e1]
  refine dot_congr _ _ _ rfl ?_
  show 512 + 128 * (y 0).val + (y 2).val = 512 + 128 * _ + _
  rw [e0, e2]
/-- The run leaves `res5` in the values' array. -/
theorem final5 (c : Dev nD) : (dats m 0 c).arrAt 5 cfg0.N = res5 m c := by
  refine (dats m 0 c).arrAt_eq_of_covers 5 _ (by decide +kernel) fun t hf y => ?_
  blk_simp
  rw [after0_5, outs_eq]
  show val5 _ _ _ y = res5 m c (((cfg0.win 5).blk t).view.emb y)
  have e0 : ((((cfg0.win 5).blk t).view.emb y) 0).val = (y 0).val := by blk_simp [index_eq t]; try omega
  have e1 : ((((cfg0.win 5).blk t).view.emb y) 1).val = 2048 * t.val + (y 1).val := by blk_simp [index_eq t]; try omega
  have e2 : ((((cfg0.win 5).blk t).view.emb y) 2).val = (y 2).val := by blk_simp [index_eq t]; try omega
  unfold val5 res5
  rw [dot_block m c t (y 1) _ e1]
  refine dot_congr _ _ _ rfl ?_
  show 1024 + 128 * (y 0).val + (y 2).val = 1024 + 128 * _ + _
  rw [e0, e2]

/-- A row's entry is the activations' at the row's batch and position. -/
theorem rows_apply (c : Dev nD) (R : Fin 32768) (k : Fin 1024) : rows m c (ix2 R k)
    = m ((c : Thread nD τ).loc main_arg0) (ix3 (⟨R.val / 4096, by omega⟩ : Fin 8) (⟨R.val % 4096, by omega⟩ : Fin 4096) k) := by
  unfold rows
  have e : V m c main_v0 = shapeCast S32768x1024 (m ((c : Thread nD τ).loc main_arg0)) shapeCasts_S8x4096x1024_S32768x1024 := by
    unfold V
    after_results
    rfl
  rw [e]
  generalize m ((c : Thread nD τ).loc main_arg0) = A at *
  clear e
  change S8x4096x1024.Idx → EReal at A
  have h : (shapeCast S32768x1024 A shapeCasts_S8x4096x1024_S32768x1024) (ix2 R k) = A (ix3 (⟨R.val / 4096, by omega⟩ : Fin 8) (⟨R.val % 4096, by omega⟩ : Fin 4096) k) := by
    pointwise
  exact h

/-- The scale's entry. -/
theorem scale_apply (c : Dev nD) (k : Fin 1024) : scale m c (ix2 0 k) = m ((c : Thread nD τ).loc main_arg1) (ix1 k) := by
  unfold scale
  have e : V m c main_v1 = shapeCast S1x1024 (m ((c : Thread nD τ).loc main_arg1)) shapeCasts_S1024_S1x1024 := by
    unfold V
    after_results
    rfl
  rw [e]
  pointwise
/-- The closing step: the two programs over arguments that agree leave the same three arrays. -/
theorem algebraic : Cert.algebraic_KernelQkvIdeal_ReferenceQkvIdeal (hKernelQkvIdeal := Cert.KernelQkvIdeal.Gen.facts)
    (hReferenceQkvIdeal := Cert.ReferenceQkvIdeal.Gen.facts) := by
  intro m ρ m' ρ' _ hagree
  refine ⟨fun c => res3 m c, fun c => res4 m c, fun c => res5 m c, ?_, ?_⟩
  · refine (θ_run Cert.KernelQkvIdeal.defs _ _).mono (fun _ h c => ?_) (Cert.KernelQkvIdeal.Value.run_blocks (F := Idealize.ShloMosaic.Ideal) m ρ)
    obtain ⟨h3, h4, h5, hr⟩ := h c
    exact ⟨h3.trans (final3 m c), h4.trans (final4 m c), h5.trans (final5 m c), hr⟩
  · refine (θ_run Cert.ReferenceQkvIdeal.defs _ _).mono (fun _ h c => ?_) (Cert.ReferenceQkvIdeal.Value.run (F := Idealize.ShloMosaic.Ideal) m' ρ')
    obtain ⟨h3, h4, h5, hr⟩ := h c
    refine ⟨h3.trans ?_, h4.trans ?_, h5.trans ?_, hr⟩
    · rw [(hagree c).1, (hagree c).2.1, (hagree c).2.2]
      funext y
      idx_vars y
      unfold res3 dot col
      simp only [show ∀ k, rows m c (ix2 ((ix3 y0 y1 y2 : S4x32768x128.Idx) 1) k) = _ from fun k => rows_apply m c y1 k, scale_apply]
      unfold weights
      pointwise
      blk_point []
    · rw [(hagree c).1, (hagree c).2.1, (hagree c).2.2]
      funext y
      idx_vars y
      unfold res4 dot col
      simp only [show ∀ k, rows m c (ix2 ((ix3 y0 y1 y2 : S4x32768x128.Idx) 1) k) = _ from fun k => rows_apply m c y1 k, scale_apply]
      unfold weights
      pointwise
      blk_point []
    · rw [(hagree c).1, (hagree c).2.1, (hagree c).2.2]
      funext y
      idx_vars y
      unfold res5 dot col
      simp only [show ∀ k, rows m c (ix2 ((ix3 y0 y1 y2 : S4x32768x128.Idx) 1) k) = _ from fun k => rows_apply m c y1 k, scale_apply]
      unfold weights
      pointwise
      blk_point []

end Cert.Projection
end
-- ==== Proof.TailStages.lean ====
/- What one step of the call after the attention computes of the arrays that it loads: two tiles of 512 rows go through
   the same functions, stated here once over rows and columns. -/
module

public import proofs.«01_k».proof.Proof.Gen.KernelTailIdeal.Frame
public import Idealize.ShloMosaic.Lib.Tactic
public import Idealize.ShloMosaic.Lib.Pointwise
public import Idealize.ShloMosaic.Lib.IdealHost
public import Idealize.ShloMosaic.Lib.ValueLayout
public import proofs.«01_k».proof.Defs

@[expose] public section
set_option maxHeartbeats 1000000
set_option maxRecDepth 16384
noncomputable section
namespace Cert.Tail
open Cert.KernelTailIdeal Cert.KernelTailIdeal.Gen Idealize.ShloMosaic Idealize.ShloMosaic.TcCoe Idealize.SL.Sem

local notation "𝕀" => Idealize.ShloMosaic.Ideal

/-- An array over rows and columns as a function of both. -/
abbrev mk {m n : Nat} (f : Fin m → Fin n → EReal) : FVec 𝕀 (⟨2, ![m, n]⟩ : Shape) .f32 := fun y => f (y 0) (y 1)

/-- One row scaled by the reciprocal root of its mean square, times the gain. -/
def rms (X g : Fin 1024 → EReal) (k : Fin 1024) : EReal :=
  X k * Ideal.rsqrt (Ideal.div (∑ j, X j * X j) (Ideal.ofBits FTy.f32 1149239296#32) + Ideal.ofBits FTy.f32 897988541#32) * g k

/-- The product of a tile with a matrix. -/
def prj {n k m : Nat} (H : Fin n → Fin k → EReal) (W : Fin k → Fin m → EReal) (a : Fin n) (j : Fin m) : EReal :=
  ∑ x, H a x * W x j

/-- The tanh form of the Gaussian unit. -/
def gelu (z : EReal) : EReal :=
  z * (Ideal.ofBits FTy.f32 1056964608#32 * (1 + Ideal.tanh (Ideal.ofBits FTy.f32 1061962282#32 *
    (z + Ideal.ofBits FTy.f32 1027024659#32 * (z * (z * z))))))

/-- A number times its logistic. -/
def silu (z : EReal) : EReal := z * Ideal.logistic z

/-- A tile beside what is left of it after its own value is taken away. -/
def cat (V : Fin 512 → Fin 512 → EReal) (a : Fin 512) (k : Fin 1024) : EReal :=
  if h : k.val < 512 then V a ⟨k.val, h⟩ else V a ⟨k.val - 512, by omega⟩ - V a ⟨k.val - 512, by omega⟩

/-- The tile times the group matrix, each lane spread over the 64 columns of its group. -/
def spr {K : Nat} (S : Fin 512 → Fin K → EReal) (G : Fin K → Fin 128 → EReal) (a j : Fin 512) : EReal :=
  ∑ x, S a x * G x ⟨j.val / 64, by omega⟩

/-- The product of a tile and its remainder with the two halves of the group matrix. -/
def both (V : Fin 512 → Fin 512 → EReal) (G : Fin 1024 → Fin 128 → EReal) (a : Fin 512) (l : Fin 128) : EReal :=
  ∑ x : Fin 512, V a x * G ⟨x.val, by omega⟩ l + ∑ x : Fin 512, (V a x - V a x) * G ⟨512 + x.val, by omega⟩ l

/-- The product of the two side by side is the sum of the two products. -/
theorem sum_cat (V : Fin 512 → Fin 512 → EReal) (G : Fin 1024 → Fin 128 → EReal) (a : Fin 512) (l : Fin 128) :
    ∑ x, cat V a x * G x l = both V G a l := by
  refine (Fin.sum_univ_add (a := 512) (b := 512) fun x => cat V a x * G x l).trans (congrArg₂ (· + ·) ?_ ?_)
  · refine Finset.sum_congr rfl fun x _ => ?_
    show cat V a ⟨x.val, by omega⟩ * G ⟨x.val, by omega⟩ l = _
    rw [cat, dif_pos (show x.val < 512 from x.isLt)]
  · refine Finset.sum_congr rfl fun x _ => ?_
    show cat V a ⟨512 + x.val, by omega⟩ * G ⟨512 + x.val, by omega⟩ l = _
    have e : (⟨512 + x.val - 512, by omega⟩ : Fin 512) = x := Fin.ext (show 512 + x.val - 512 = x.val by omega)
    rw [cat, dif_neg (show ¬ 512 + x.val < 512 by omega), e]

/-- The tile less its group means. -/
def dev (V : Fin 512 → Fin 512 → EReal) (G : Fin 1024 → Fin 128 → EReal) (a j : Fin 512) : EReal :=
  V a j - both V G a ⟨j.val / 64, by omega⟩

/-- Deviations scaled by the group variance, times a gain and plus a bias. -/
def nrm (D : Fin 512 → Fin 512 → EReal) (G : Fin 512 → Fin 128 → EReal) (s b : Fin 512 → EReal) (a j : Fin 512) : EReal :=
  D a j * Ideal.rsqrt (spr (fun a j => D a j * D a j) G a j + Ideal.ofBits FTy.f32 897988541#32) * s j + b j

/-- One block of 128 rows mixed by the masked matrices of two heads. -/
def piece (w : Fin 256 → Fin 128 → EReal) (V : Fin 128 → Fin 128 → EReal) (a j : Fin 128) : EReal :=
  ∑ s : Fin 128, if s.val / 64 ≤ a.val / 64 then w ⟨128 * (j.val / 64) + a.val, by omega⟩ s * V s j else 0

/-- The lane that a column of pair `p` reads. -/
theorem lane (n : Nat) (hn : n ∈ [0, 2, 4, 6]) (y0 : Fin 512) (y1 : Fin 128) :
    (Scalar.select (IntOp.cmpi CmpIPredicate.slt (IntOp.addi (BitVec.ofNat 32 n) (k0_pay2 (ix2 y0 y1))) 0#32)
      (IntOp.addi (IntOp.addi (BitVec.ofNat 32 n) (k0_pay2 (ix2 y0 y1))) 128#32)
      (IntOp.addi (BitVec.ofNat 32 n) (k0_pay2 (ix2 y0 y1)))).toNat % 128 = n + y1.val / 64 := by
  simp only [List.mem_cons, List.not_mem_nil, or_false] at hn
  rcases hn with rfl | rfl | rfl | rfl
  all_goals
    pointwise [k0_pay2]
    revert y1
    decide +kernel

/-- Which rows of two heads take from which columns. -/
def causal := k0_pay5 k0_pay3 (iota Kind.tc S256x128 32 [1] iota_S256x128_d1_w32) (BitVec.ofNat 32 64) k0_pay4

/-- The mask of two heads' causal blocks of 64. -/
theorem mask5 (y0 : Fin 256) (y1 : Fin 128) :
    causal (ix2 y0 y1) = if y1.val / 64 ≤ y0.val % 128 / 64 then 1#1 else 0#1 := by
  pointwise [causal, k0_pay5, k0_pay3, k0_pay4]
  revert y0 y1
  decide +kernel

/-- The mask of the first head's columns. -/
theorem mask6 (y0 y1 : Fin 128) : k0_pay6 (ix2 y0 y1) = if y1.val < 64 then 1#1 else 0#1 := by
  pointwise [k0_pay6]
  revert y1
  decide +kernel

/-- A choice by a condition's bit. -/
theorem sel {c : Prop} [Decidable c] (a b : EReal) : Scalar.select (if c then 1#1 else 0#1) a b = if c then a else b := by
  split <;> rfl

/-- A choice of two heads by column is one head picked by column. -/
theorem heads (f : Fin 256 → Fin 128 → EReal) (y0 y1 : Fin 128) (h : y0.val < 256) (h' : 128 + y0.val < 256) :
    (if y1.val < 64 then ∑ x : Fin 128, (if x.val / 64 ≤ y0.val % 128 / 64 then f ⟨y0.val, h⟩ x else 0)
      else ∑ x : Fin 128, if x.val / 64 ≤ (128 + y0.val) % 128 / 64 then f ⟨128 + y0.val, h'⟩ x else 0)
    = ∑ x : Fin 128, if x.val / 64 ≤ y0.val / 64 then f ⟨128 * (y1.val / 64) + y0.val, by omega⟩ x else 0 := by
  have e1 : y0.val % 128 = y0.val := by omega
  have e2 : (128 + y0.val) % 128 = y0.val := by omega
  rw [e1, e2]
  split
  · have : (⟨128 * (y1.val / 64) + y0.val, by omega⟩ : Fin 256) = ⟨y0.val, h⟩ :=
      Fin.ext (show 128 * (y1.val / 64) + y0.val = y0.val by omega)
    rw [this]
  · have : (⟨128 * (y1.val / 64) + y0.val, by omega⟩ : Fin 256) = ⟨128 + y0.val, h'⟩ :=
      Fin.ext (show 128 * (y1.val / 64) + y0.val = 128 + y0.val by omega)
    rw [this]

/-- Four gathers side by side read, at column `j`, lane `j / 64`. -/
theorem spread (f : Fin 128 → EReal) (y0 y1 : Fin 512) :
    (if h : y1.val < 128 then f ⟨(Scalar.select (IntOp.cmpi CmpIPredicate.slt (IntOp.addi (0#32) (k0_pay2 (ix2 y0 ⟨y1.val, by omega⟩))) 0#32) (IntOp.addi (IntOp.addi (0#32) (k0_pay2 (ix2 y0 ⟨y1.val, by omega⟩))) 128#32) (IntOp.addi (0#32) (k0_pay2 (ix2 y0 ⟨y1.val, by omega⟩)))).toNat % 128, Nat.mod_lt _ (by decide)⟩
      else if h : y1.val - 128 < 128 then f ⟨(Scalar.select (IntOp.cmpi CmpIPredicate.slt (IntOp.addi (2#32) (k0_pay2 (ix2 y0 ⟨y1.val - 128, by omega⟩))) 0#32) (IntOp.addi (IntOp.addi (2#32) (k0_pay2 (ix2 y0 ⟨y1.val - 128, by omega⟩))) 128#32) (IntOp.addi (2#32) (k0_pay2 (ix2 y0 ⟨y1.val - 128, by omega⟩)))).toNat % 128, Nat.mod_lt _ (by decide)⟩
      else if h : y1.val - 128 - 128 < 128 then f ⟨(Scalar.select (IntOp.cmpi CmpIPredicate.slt (IntOp.addi (4#32) (k0_pay2 (ix2 y0 ⟨y1.val - 128 - 128, by omega⟩))) 0#32) (IntOp.addi (IntOp.addi (4#32) (k0_pay2 (ix2 y0 ⟨y1.val - 128 - 128, by omega⟩))) 128#32) (IntOp.addi (4#32) (k0_pay2 (ix2 y0 ⟨y1.val - 128 - 128, by omega⟩)))).toNat % 128, Nat.mod_lt _ (by decide)⟩
      else f ⟨(Scalar.select (IntOp.cmpi CmpIPredicate.slt (IntOp.addi (6#32) (k0_pay2 (ix2 y0 ⟨y1.val - 128 - 128 - 128, by omega⟩))) 0#32) (IntOp.addi (IntOp.addi (6#32) (k0_pay2 (ix2 y0 ⟨y1.val - 128 - 128 - 128, by omega⟩))) 128#32) (IntOp.addi (6#32) (k0_pay2 (ix2 y0 ⟨y1.val - 128 - 128 - 128, by omega⟩)))).toNat % 128, Nat.mod_lt _ (by decide)⟩)
    = f ⟨y1.val / 64, by omega⟩ := by
  split_ifs
  · exact congrArg f (Fin.ext ((lane 0 (by decide) y0 ⟨y1.val, by omega⟩).trans (by dsimp only; omega)))
  · exact congrArg f (Fin.ext ((lane 2 (by decide) y0 ⟨y1.val - 128, by omega⟩).trans (by dsimp only; omega)))
  · exact congrArg f (Fin.ext ((lane 4 (by decide) y0 ⟨y1.val - 128 - 128, by omega⟩).trans (by dsimp only; omega)))
  · exact congrArg f (Fin.ext ((lane 6 (by decide) y0 ⟨y1.val - 128 - 128 - 128, by omega⟩).trans (by dsimp only; omega)))

/-- The normalised rows of a tile. -/
theorem pay8 (X : Vec 𝕀 S512x1024 .f32) (g : Vec 𝕀 S1x1024 .f32) :
    k0_pay8 X g = mk fun a => rms (fun k => X (ix2 a k)) (fun k => g (ix2 0 k)) := by
  funext y
  idx_vars y
  pointwise [k0_pay8, k0_pay7]
  rfl

/-- The normalised rows of a tile. -/
theorem pay16 (X : Vec 𝕀 S512x1024 .f32) (g : Vec 𝕀 S1x1024 .f32) :
    k0_pay16 X g = mk fun a => rms (fun k => X (ix2 a k)) (fun k => g (ix2 0 k)) := by
  funext y
  idx_vars y
  pointwise [k0_pay16, k0_pay15]
  rfl

/-- The first tile of `v`. -/
theorem pay9 (X : Vec 𝕀 S512x1024 .f32) (g : Vec 𝕀 S1x1024 .f32) (W : Vec 𝕀 S1024x512 .bf16) :
    k0_pay9 X g W = mk fun a j => gelu (prj (fun a => rms (fun k => X (ix2 a k)) (fun k => g (ix2 0 k))) (fun k j => W (ix2 k j)) a j) := by
  funext y
  idx_vars y
  pointwise [k0_pay9, k0_pay8, k0_pay7]
  rfl

/-- The first tile of `v` beside its remainder. -/
theorem pay10 (X : Vec 𝕀 S512x1024 .f32) (g : Vec 𝕀 S1x1024 .f32) (W : Vec 𝕀 S1024x512 .bf16) :
    k0_pay10 X g W = mk (cat fun a j => gelu (prj (fun a => rms (fun k => X (ix2 a k)) (fun k => g (ix2 0 k))) (fun k j => W (ix2 k j)) a j)) := by
  funext y
  idx_vars y
  pointwise [k0_pay10, k0_pay9, k0_pay8, k0_pay7]
  rfl

/-- The second tile of `v`. -/
theorem pay19 (X : Vec 𝕀 S512x1024 .f32) (g : Vec 𝕀 S1x1024 .f32) (W : Vec 𝕀 S1024x512 .bf16) :
    k0_pay19 (k0_pay17 X g W) (k0_pay18 X g W) (FloatOps.ofBits .f32 (BitVec.ofNat 32 1065353216)) = mk fun a j => gelu (prj (fun a => rms (fun k => X (ix2 a k)) (fun k => g (ix2 0 k))) (fun k j => W (ix2 k j)) a j) := by
  funext y
  idx_vars y
  pointwise [k0_pay19, k0_pay18, k0_pay17, k0_pay16, k0_pay15]
  rfl

/-- The first tile of `u`. -/
theorem pay14 (H : FVec 𝕀 S512x1024 .bf16) (W : Vec 𝕀 S1024x512 .bf16) :
    k0_pay14 H (k0_pay13 W) = mk fun a j => gelu (prj (fun a k => H (ix2 a k)) (fun k j => W (ix2 k j)) a j) := by
  funext y
  idx_vars y
  pointwise [k0_pay14, k0_pay13]
  rfl

/-- The second tile of `u`. -/
theorem pay34 (H : FVec 𝕀 S512x1024 .bf16) (W : Vec 𝕀 S1024x512 .bf16) :
    k0_pay34 (k0_pay32 H W) (k0_pay33 H W) = mk fun a j => gelu (prj (fun a k => H (ix2 a k)) (fun k j => W (ix2 k j)) a j) := by
  funext y
  idx_vars y
  pointwise [k0_pay34, k0_pay33, k0_pay32]
  rfl

/-- The first tile of the second gate. -/
theorem pay31 (H : FVec 𝕀 S512x1024 .bf16) (W : Vec 𝕀 S1024x512 .bf16) :
    k0_pay31 H W = mk fun a j => silu (prj (fun a k => H (ix2 a k)) (fun k j => W (ix2 k j)) a j) := by
  funext y
  idx_vars y
  pointwise [k0_pay31]
  rfl

/-- The first tile of the first gate. -/
theorem pay35 (H : FVec 𝕀 S512x1024 .bf16) (W : Vec 𝕀 S1024x512 .bf16) :
    k0_pay35 H W = mk fun a j => silu (prj (fun a k => H (ix2 a k)) (fun k j => W (ix2 k j)) a j) := by
  funext y
  idx_vars y
  pointwise [k0_pay35]
  rfl

/-- The second tile of the second gate. -/
theorem pay72 (H : FVec 𝕀 S512x1024 .bf16) (W : Vec 𝕀 S1024x512 .bf16) :
    k0_pay72 H W = mk fun a j => silu (prj (fun a k => H (ix2 a k)) (fun k j => W (ix2 k j)) a j) := by
  funext y
  idx_vars y
  pointwise [k0_pay72]
  rfl

/-- The second tile of the first gate. -/
theorem pay73 (H : FVec 𝕀 S512x1024 .bf16) (W : Vec 𝕀 S1024x512 .bf16) :
    k0_pay73 H W = mk fun a j => silu (prj (fun a k => H (ix2 a k)) (fun k j => W (ix2 k j)) a j) := by
  funext y
  idx_vars y
  pointwise [k0_pay73]
  rfl

/-- The first tile of `v` less its group means. -/
theorem pay12 (V : FVec 𝕀 S512x512 .f32) (v : Fin 512 → Fin 512 → EReal) (e : V = mk v) (G : FVec 𝕀 S1024x128 .bf16) :
    k0_pay12 k0_pay2 V (mk (cat v)) G = mk (dev v fun k l => G (ix2 k l)) := by
  funext y
  idx_vars y
  pointwise [k0_pay12]
  rw [e]
  exact congrArg (v y0 y1 - ·) ((spread (fun q => ∑ x, cat v y0 x * G (ix2 x q)) y0 y1).trans
    (sum_cat v (fun k l => G (ix2 k l)) y0 _))

/-- The second tile of `v` less its group means. -/
theorem pay30 (v : Fin 512 → Fin 512 → EReal) (G : FVec 𝕀 S1024x128 .bf16) :
    k0_pay30 k0_pay2 (mk v) (k0_pay27 (mk v) G) (k0_pay28 k0_pay2 (mk v) G) (k0_pay29 k0_pay2) = mk (dev v fun k l => G (ix2 k l)) := by
  funext y
  idx_vars y
  pointwise [k0_pay30, k0_pay29, k0_pay28, k0_pay27]
  exact congrArg (v y0 y1 - ·) (spread (fun q => both v (fun k l => G (ix2 k l)) y0 q) y0 y1)

/-- The first tile normalised over its groups. -/
theorem pay26 (D : FVec 𝕀 S512x512 .f32) (G : Vec 𝕀 S512x128 .bf16) (s b : Vec 𝕀 S1x512 .f32) :
    k0_pay26 D (k0_pay20 D G) (k0_pay21 k0_pay2 D G) (k0_pay22 k0_pay2 D G) (k0_pay23 k0_pay2 D G) (k0_pay24 k0_pay2) (k0_pay25 k0_pay2) (BitVec.ofNat 32 128) s b = mk (nrm (fun a j => D (ix2 a j)) (fun k l => G (ix2 k l)) (fun j => s (ix2 0 j)) fun j => b (ix2 0 j)) := by
  funext y
  idx_vars y
  pointwise [k0_pay26, k0_pay25, k0_pay24, k0_pay23, k0_pay22, k0_pay21, k0_pay20]
  exact congrArg (fun v => D (ix2 y0 y1) * Ideal.rsqrt (v + Ideal.ofBits FTy.f32 897988541#32) * s (ix2 0 y1) + b (ix2 0 y1))
    (spread (fun q => ∑ x, D (ix2 y0 x) * D (ix2 y0 x) * G (ix2 x q)) y0 y1)

/-- The second tile normalised over its groups. -/
theorem pay41 (D : FVec 𝕀 S512x512 .f32) (G : Vec 𝕀 S512x128 .bf16) (s b : Vec 𝕀 S1x512 .f32) :
    k0_pay41 D (k0_pay36 D G) (k0_pay37 k0_pay2 D G) (k0_pay38 k0_pay2 D G) (k0_pay39 k0_pay2 D G) (k0_pay40 k0_pay2) (BitVec.ofNat 32 0) s b = mk (nrm (fun a j => D (ix2 a j)) (fun k l => G (ix2 k l)) (fun j => s (ix2 0 j)) fun j => b (ix2 0 j)) := by
  funext y
  idx_vars y
  pointwise [k0_pay41, k0_pay40, k0_pay39, k0_pay38, k0_pay37, k0_pay36]
  exact congrArg (fun v => D (ix2 y0 y1) * Ideal.rsqrt (v + Ideal.ofBits FTy.f32 897988541#32) * s (ix2 0 y1) + b (ix2 0 y1))
    (spread (fun q => ∑ x, D (ix2 y0 x) * D (ix2 y0 x) * G (ix2 x q)) y0 y1)

/-- Rows 0 to 127 of the columns of pair 0, mixed. -/
theorem pay44 (V : FVec 𝕀 S512x512 .bf16) (w : Vec 𝕀 S1x256x128 .f32) :
    k0_pay44 causal k0_pay6 V w = mk (piece (fun t s => w (ix3 0 t s)) fun s j => V (ix2 ⟨s.val, by omega⟩ ⟨j.val, by omega⟩)) := by
  funext y
  idx_vars y
  pointwise [k0_pay44, k0_pay43, k0_pay42]
  simp only [mask5, mask6, sel]
  exact heads (fun t s => w (ix3 0 t s) * V (ix2 ⟨s.val, by omega⟩ ⟨y1.val, by omega⟩)) y0 y1 (by omega) (by omega)

/-- Rows 128 to 255 of the columns of pair 0, mixed. -/
theorem pay46 (V : FVec 𝕀 S512x512 .bf16) (w : Vec 𝕀 S1x256x128 .f32) :
    k0_pay46 (k0_pay45 causal k0_pay6 V w) = mk (piece (fun t s => w (ix3 0 t s)) fun s j => V (ix2 ⟨128 + s.val, by omega⟩ ⟨j.val, by omega⟩)) := by
  funext y
  idx_vars y
  pointwise [k0_pay46, k0_pay45, k0_pay43, k0_pay42]
  simp only [mask5, mask6, sel]
  exact heads (fun t s => w (ix3 0 t s) * V (ix2 ⟨128 + s.val, by omega⟩ ⟨y1.val, by omega⟩)) y0 y1 (by omega) (by omega)

/-- Rows 256 to 383 of the columns of pair 0, mixed. -/
theorem pay48 (V : FVec 𝕀 S512x512 .bf16) (w : Vec 𝕀 S1x256x128 .f32) :
    k0_pay48 k0_pay6 V (k0_pay42 causal w) = mk (piece (fun t s => w (ix3 0 t s)) fun s j => V (ix2 ⟨256 + s.val, by omega⟩ ⟨j.val, by omega⟩)) := by
  funext y
  idx_vars y
  pointwise [k0_pay48, k0_pay47, k0_pay42]
  simp only [mask5, mask6, sel]
  exact heads (fun t s => w (ix3 0 t s) * V (ix2 ⟨256 + s.val, by omega⟩ ⟨y1.val, by omega⟩)) y0 y1 (by omega) (by omega)

/-- Rows 384 to 511 of the columns of pair 0, mixed. -/
theorem pay49 (V : FVec 𝕀 S512x512 .bf16) (w : Vec 𝕀 S1x256x128 .f32) :
    k0_pay49 k0_pay6 V (k0_pay42 causal w) = mk (piece (fun t s => w (ix3 0 t s)) fun s j => V (ix2 ⟨384 + s.val, by omega⟩ ⟨j.val, by omega⟩)) := by
  funext y
  idx_vars y
  pointwise [k0_pay49, k0_pay47, k0_pay42]
  simp only [mask5, mask6, sel]
  exact heads (fun t s => w (ix3 0 t s) * V (ix2 ⟨384 + s.val, by omega⟩ ⟨y1.val, by omega⟩)) y0 y1 (by omega) (by omega)

/-- Rows 0 to 127 of the columns of pair 1, mixed. -/
theorem pay52 (V : FVec 𝕀 S512x512 .bf16) (w : Vec 𝕀 S1x256x128 .f32) :
    k0_pay52 causal k0_pay6 V w = mk (piece (fun t s => w (ix3 0 t s)) fun s j => V (ix2 ⟨s.val, by omega⟩ ⟨128 + j.val, by omega⟩)) := by
  funext y
  idx_vars y
  pointwise [k0_pay52, k0_pay51, k0_pay50]
  simp only [mask5, mask6, sel]
  exact heads (fun t s => w (ix3 0 t s) * V (ix2 ⟨s.val, by omega⟩ ⟨128 + y1.val, by omega⟩)) y0 y1 (by omega) (by omega)

/-- Rows 128 to 255 of the columns of pair 1, mixed. -/
theorem pay53 (V : FVec 𝕀 S512x512 .bf16) (w : Vec 𝕀 S1x256x128 .f32) :
    k0_pay53 causal k0_pay6 V w = mk (piece (fun t s => w (ix3 0 t s)) fun s j => V (ix2 ⟨128 + s.val, by omega⟩ ⟨128 + j.val, by omega⟩)) := by
  funext y
  idx_vars y
  pointwise [k0_pay53, k0_pay51, k0_pay50]
  simp only [mask5, mask6, sel]
  exact heads (fun t s => w (ix3 0 t s) * V (ix2 ⟨128 + s.val, by omega⟩ ⟨128 + y1.val, by omega⟩)) y0 y1 (by omega) (by omega)

/-- Rows 256 to 383 of the columns of pair 1, mixed. -/
theorem pay55 (V : FVec 𝕀 S512x512 .bf16) (w : Vec 𝕀 S1x256x128 .f32) :
    k0_pay55 k0_pay6 V (k0_pay50 causal w) = mk (piece (fun t s => w (ix3 0 t s)) fun s j => V (ix2 ⟨256 + s.val, by omega⟩ ⟨128 + j.val, by omega⟩)) := by
  funext y
  idx_vars y
  pointwise [k0_pay55, k0_pay54, k0_pay50]
  simp only [mask5, mask6, sel]
  exact heads (fun t s => w (ix3 0 t s) * V (ix2 ⟨256 + s.val, by omega⟩ ⟨128 + y1.val, by omega⟩)) y0 y1 (by omega) (by omega)

/-- Rows 384 to 511 of the columns of pair 1, mixed. -/
theorem pay56 (V : FVec 𝕀 S512x512 .bf16) (w : Vec 𝕀 S1x256x128 .f32) :
    k0_pay56 k0_pay6 V (k0_pay50 causal w) = mk (piece (fun t s => w (ix3 0 t s)) fun s j => V (ix2 ⟨384 + s.val, by omega⟩ ⟨128 + j.val, by omega⟩)) := by
  funext y
  idx_vars y
  pointwise [k0_pay56, k0_pay54, k0_pay50]
  simp only [mask5, mask6, sel]
  exact heads (fun t s => w (ix3 0 t s) * V (ix2 ⟨384 + s.val, by omega⟩ ⟨128 + y1.val, by omega⟩)) y0 y1 (by omega) (by omega)

/-- Rows 0 to 127 of the columns of pair 2, mixed. -/
theorem pay59 (V : FVec 𝕀 S512x512 .bf16) (w : Vec 𝕀 S1x256x128 .f32) :
    k0_pay59 causal k0_pay6 V w = mk (piece (fun t s => w (ix3 0 t s)) fun s j => V (ix2 ⟨s.val, by omega⟩ ⟨256 + j.val, by omega⟩)) := by
  funext y
  idx_vars y
  pointwise [k0_pay59, k0_pay58, k0_pay57]
  simp only [mask5, mask6, sel]
  exact heads (fun t s => w (ix3 0 t s) * V (ix2 ⟨s.val, by omega⟩ ⟨256 + y1.val, by omega⟩)) y0 y1 (by omega) (by omega)

/-- Rows 128 to 255 of the columns of pair 2, mixed. -/
theorem pay60 (V : FVec 𝕀 S512x512 .bf16) (w : Vec 𝕀 S1x256x128 .f32) :
    k0_pay60 causal k0_pay6 V w = mk (piece (fun t s => w (ix3 0 t s)) fun s j => V (ix2 ⟨128 + s.val, by omega⟩ ⟨256 + j.val, by omega⟩)) := by
  funext y
  idx_vars y
  pointwise [k0_pay60, k0_pay58, k0_pay57]
  simp only [mask5, mask6, sel]
  exact heads (fun t s => w (ix3 0 t s) * V (ix2 ⟨128 + s.val, by omega⟩ ⟨256 + y1.val, by omega⟩)) y0 y1 (by omega) (by omega)

/-- Rows 256 to 383 of the columns of pair 2, mixed. -/
theorem pay62 (V : FVec 𝕀 S512x512 .bf16) (w : Vec 𝕀 S1x256x128 .f32) :
    k0_pay62 k0_pay6 V (k0_pay57 causal w) = mk (piece (fun t s => w (ix3 0 t s)) fun s j => V (ix2 ⟨256 + s.val, by omega⟩ ⟨256 + j.val, by omega⟩)) := by
  funext y
  idx_vars y
  pointwise [k0_pay62, k0_pay61, k0_pay57]
  simp only [mask5, mask6, sel]
  exact heads (fun t s => w (ix3 0 t s) * V (ix2 ⟨256 + s.val, by omega⟩ ⟨256 + y1.val, by omega⟩)) y0 y1 (by omega) (by omega)

/-- Rows 384 to 511 of the columns of pair 2, mixed. -/
theorem pay63 (V : FVec 𝕀 S512x512 .bf16) (w : Vec 𝕀 S1x256x128 .f32) :
    k0_pay63 k0_pay6 V (k0_pay57 causal w) = mk (piece (fun t s => w (ix3 0 t s)) fun s j => V (ix2 ⟨384 + s.val, by omega⟩ ⟨256 + j.val, by omega⟩)) := by
  funext y
  idx_vars y
  pointwise [k0_pay63, k0_pay61, k0_pay57]
  simp only [mask5, mask6, sel]
  exact heads (fun t s => w (ix3 0 t s) * V (ix2 ⟨384 + s.val, by omega⟩ ⟨256 + y1.val, by omega⟩)) y0 y1 (by omega) (by omega)

/-- Rows 0 to 127 of the columns of pair 3, mixed. -/
theorem pay66 (V : FVec 𝕀 S512x512 .bf16) (w : Vec 𝕀 S1x256x128 .f32) :
    k0_pay66 causal k0_pay6 V w = mk (piece (fun t s => w (ix3 0 t s)) fun s j => V (ix2 ⟨s.val, by omega⟩ ⟨384 + j.val, by omega⟩)) := by
  funext y
  idx_vars y
  pointwise [k0_pay66, k0_pay65, k0_pay64]
  simp only [mask5, mask6, sel]
  exact heads (fun t s => w (ix3 0 t s) * V (ix2 ⟨s.val, by omega⟩ ⟨384 + y1.val, by omega⟩)) y0 y1 (by omega) (by omega)

/-- Rows 128 to 255 of the columns of pair 3, mixed. -/
theorem pay67 (V : FVec 𝕀 S512x512 .bf16) (w : Vec 𝕀 S1x256x128 .f32) :
    k0_pay67 causal k0_pay6 V w = mk (piece (fun t s => w (ix3 0 t s)) fun s j => V (ix2 ⟨128 + s.val, by omega⟩ ⟨384 + j.val, by omega⟩)) := by
  funext y
  idx_vars y
  pointwise [k0_pay67, k0_pay65, k0_pay64]
  simp only [mask5, mask6, sel]
  exact heads (fun t s => w (ix3 0 t s) * V (ix2 ⟨128 + s.val, by omega⟩ ⟨384 + y1.val, by omega⟩)) y0 y1 (by omega) (by omega)

/-- Rows 256 to 383 of the columns of pair 3, mixed. -/
theorem pay70 (V : FVec 𝕀 S512x512 .bf16) (w : Vec 𝕀 S1x256x128 .f32) :
    k0_pay70 k0_pay6 V (k0_pay64 causal w) (k0_pay68 V) = mk (piece (fun t s => w (ix3 0 t s)) fun s j => V (ix2 ⟨256 + s.val, by omega⟩ ⟨384 + j.val, by omega⟩)) := by
  funext y
  idx_vars y
  pointwise [k0_pay70, k0_pay69, k0_pay68, k0_pay64]
  simp only [mask5, mask6, sel]
  exact heads (fun t s => w (ix3 0 t s) * V (ix2 ⟨256 + s.val, by omega⟩ ⟨384 + y1.val, by omega⟩)) y0 y1 (by omega) (by omega)

/-- Rows 384 to 511 of the columns of pair 3, mixed. -/
theorem pay71 (V : FVec 𝕀 S512x512 .bf16) (w : Vec 𝕀 S1x256x128 .f32) :
    k0_pay71 k0_pay6 V (k0_pay64 causal w) (k0_pay68 V) = mk (piece (fun t s => w (ix3 0 t s)) fun s j => V (ix2 ⟨384 + s.val, by omega⟩ ⟨384 + j.val, by omega⟩)) := by
  funext y
  idx_vars y
  pointwise [k0_pay71, k0_pay69, k0_pay68, k0_pay64]
  simp only [mask5, mask6, sel]
  exact heads (fun t s => w (ix3 0 t s) * V (ix2 ⟨384 + s.val, by omega⟩ ⟨384 + y1.val, by omega⟩)) y0 y1 (by omega) (by omega)

/-- Rows 0 to 127 of the columns of pair 0, mixed. -/
theorem pay77 (V : FVec 𝕀 S512x512 .bf16) (w : Vec 𝕀 S1x256x128 .f32) :
    k0_pay77 causal k0_pay6 V w = mk (piece (fun t s => w (ix3 0 t s)) fun s j => V (ix2 ⟨s.val, by omega⟩ ⟨j.val, by omega⟩)) := by
  funext y
  idx_vars y
  pointwise [k0_pay77, k0_pay76, k0_pay75]
  simp only [mask5, mask6, sel]
  exact heads (fun t s => w (ix3 0 t s) * V (ix2 ⟨s.val, by omega⟩ ⟨y1.val, by omega⟩)) y0 y1 (by omega) (by omega)

/-- Rows 128 to 255 of the columns of pair 0, mixed. -/
theorem pay78 (V : FVec 𝕀 S512x512 .bf16) (w : Vec 𝕀 S1x256x128 .f32) :
    k0_pay78 causal k0_pay6 V w = mk (piece (fun t s => w (ix3 0 t s)) fun s j => V (ix2 ⟨128 + s.val, by omega⟩ ⟨j.val, by omega⟩)) := by
  funext y
  idx_vars y
  pointwise [k0_pay78, k0_pay76, k0_pay75]
  simp only [mask5, mask6, sel]
  exact heads (fun t s => w (ix3 0 t s) * V (ix2 ⟨128 + s.val, by omega⟩ ⟨y1.val, by omega⟩)) y0 y1 (by omega) (by omega)

/-- Rows 256 to 383 of the columns of pair 0, mixed. -/
theorem pay80 (V : FVec 𝕀 S512x512 .bf16) (w : Vec 𝕀 S1x256x128 .f32) :
    k0_pay80 causal k0_pay6 V w = mk (piece (fun t s => w (ix3 0 t s)) fun s j => V (ix2 ⟨256 + s.val, by omega⟩ ⟨j.val, by omega⟩)) := by
  funext y
  idx_vars y
  pointwise [k0_pay80, k0_pay79, k0_pay75]
  simp only [mask5, mask6, sel]
  exact heads (fun t s => w (ix3 0 t s) * V (ix2 ⟨256 + s.val, by omega⟩ ⟨y1.val, by omega⟩)) y0 y1 (by omega) (by omega)

/-- Rows 384 to 511 of the columns of pair 0, mixed. -/
theorem pay81 (V : FVec 𝕀 S512x512 .bf16) (w : Vec 𝕀 S1x256x128 .f32) :
    k0_pay81 causal k0_pay6 V w = mk (piece (fun t s => w (ix3 0 t s)) fun s j => V (ix2 ⟨384 + s.val, by omega⟩ ⟨j.val, by omega⟩)) := by
  funext y
  idx_vars y
  pointwise [k0_pay81, k0_pay79, k0_pay75]
  simp only [mask5, mask6, sel]
  exact heads (fun t s => w (ix3 0 t s) * V (ix2 ⟨384 + s.val, by omega⟩ ⟨y1.val, by omega⟩)) y0 y1 (by omega) (by omega)

/-- Rows 0 to 127 of the columns of pair 1, mixed. -/
theorem pay84 (V : FVec 𝕀 S512x512 .bf16) (w : Vec 𝕀 S1x256x128 .f32) :
    k0_pay84 causal k0_pay6 V w = mk (piece (fun t s => w (ix3 0 t s)) fun s j => V (ix2 ⟨s.val, by omega⟩ ⟨128 + j.val, by omega⟩)) := by
  funext y
  idx_vars y
  pointwise [k0_pay84, k0_pay83, k0_pay82]
  simp only [mask5, mask6, sel]
  exact heads (fun t s => w (ix3 0 t s) * V (ix2 ⟨s.val, by omega⟩ ⟨128 + y1.val, by omega⟩)) y0 y1 (by omega) (by omega)

/-- Rows 128 to 255 of the columns of pair 1, mixed. -/
theorem pay85 (V : FVec 𝕀 S512x512 .bf16) (w : Vec 𝕀 S1x256x128 .f32) :
    k0_pay85 causal k0_pay6 V w = mk (piece (fun t s => w (ix3 0 t s)) fun s j => V (ix2 ⟨128 + s.val, by omega⟩ ⟨128 + j.val, by omega⟩)) := by
  funext y
  idx_vars y
  pointwise [k0_pay85, k0_pay83, k0_pay82]
  simp only [mask5, mask6, sel]
  exact heads (fun t s => w (ix3 0 t s) * V (ix2 ⟨128 + s.val, by omega⟩ ⟨128 + y1.val, by omega⟩)) y0 y1 (by omega) (by omega)

/-- Rows 256 to 383 of the columns of pair 1, mixed. -/
theorem pay87 (V : FVec 𝕀 S512x512 .bf16) (w : Vec 𝕀 S1x256x128 .f32) :
    k0_pay87 causal k0_pay6 V w = mk (piece (fun t s => w (ix3 0 t s)) fun s j => V (ix2 ⟨256 + s.val, by omega⟩ ⟨128 + j.val, by omega⟩)) := by
  funext y
  idx_vars y
  pointwise [k0_pay87, k0_pay86, k0_pay82]
  simp only [mask5, mask6, sel]
  exact heads (fun t s => w (ix3 0 t s) * V (ix2 ⟨256 + s.val, by omega⟩ ⟨128 + y1.val, by omega⟩)) y0 y1 (by omega) (by omega)

/-- Rows 384 to 511 of the columns of pair 1, mixed. -/
theorem pay88 (V : FVec 𝕀 S512x512 .bf16) (w : Vec 𝕀 S1x256x128 .f32) :
    k0_pay88 causal k0_pay6 V w = mk (piece (fun t s => w (ix3 0 t s)) fun s j => V (ix2 ⟨384 + s.val, by omega⟩ ⟨128 + j.val, by omega⟩)) := by
  funext y
  idx_vars y
  pointwise [k0_pay88, k0_pay86, k0_pay82]
  simp only [mask5, mask6, sel]
  exact heads (fun t s => w (ix3 0 t s) * V (ix2 ⟨384 + s.val, by omega⟩ ⟨128 + y1.val, by omega⟩)) y0 y1 (by omega) (by omega)

/-- Rows 0 to 127 of the columns of pair 2, mixed. -/
theorem pay91 (V : FVec 𝕀 S512x512 .bf16) (w : Vec 𝕀 S1x256x128 .f32) :
    k0_pay91 causal k0_pay6 V w = mk (piece (fun t s => w (ix3 0 t s)) fun s j => V (ix2 ⟨s.val, by omega⟩ ⟨256 + j.val, by omega⟩)) := by
  funext y
  idx_vars y
  pointwise [k0_pay91, k0_pay90, k0_pay89]
  simp only [mask5, mask6, sel]
  exact heads (fun t s => w (ix3 0 t s) * V (ix2 ⟨s.val, by omega⟩ ⟨256 + y1.val, by omega⟩)) y0 y1 (by omega) (by omega)

/-- Rows 128 to 255 of the columns of pair 2, mixed. -/
theorem pay92 (V : FVec 𝕀 S512x512 .bf16) (w : Vec 𝕀 S1x256x128 .f32) :
    k0_pay92 causal k0_pay6 V w = mk (piece (fun t s => w (ix3 0 t s)) fun s j => V (ix2 ⟨128 + s.val, by omega⟩ ⟨256 + j.val, by omega⟩)) := by
  funext y
  idx_vars y
  pointwise [k0_pay92, k0_pay90, k0_pay89]
  simp only [mask5, mask6, sel]
  exact heads (fun t s => w (ix3 0 t s) * V (ix2 ⟨128 + s.val, by omega⟩ ⟨256 + y1.val, by omega⟩)) y0 y1 (by omega) (by omega)

/-- Rows 256 to 383 of the columns of pair 2, mixed. -/
theorem pay94 (V : FVec 𝕀 S512x512 .bf16) (w : Vec 𝕀 S1x256x128 .f32) :
    k0_pay94 causal k0_pay6 V w = mk (piece (fun t s => w (ix3 0 t s)) fun s j => V (ix2 ⟨256 + s.val, by omega⟩ ⟨256 + j.val, by omega⟩)) := by
  funext y
  idx_vars y
  pointwise [k0_pay94, k0_pay93, k0_pay89]
  simp only [mask5, mask6, sel]
  exact heads (fun t s => w (ix3 0 t s) * V (ix2 ⟨256 + s.val, by omega⟩ ⟨256 + y1.val, by omega⟩)) y0 y1 (by omega) (by omega)

/-- Rows 384 to 511 of the columns of pair 2, mixed. -/
theorem pay95 (V : FVec 𝕀 S512x512 .bf16) (w : Vec 𝕀 S1x256x128 .f32) :
    k0_pay95 causal k0_pay6 V w = mk (piece (fun t s => w (ix3 0 t s)) fun s j => V (ix2 ⟨384 + s.val, by omega⟩ ⟨256 + j.val, by omega⟩)) := by
  funext y
  idx_vars y
  pointwise [k0_pay95, k0_pay93, k0_pay89]
  simp only [mask5, mask6, sel]
  exact heads (fun t s => w (ix3 0 t s) * V (ix2 ⟨384 + s.val, by omega⟩ ⟨256 + y1.val, by omega⟩)) y0 y1 (by omega) (by omega)

/-- Rows 0 to 127 of the columns of pair 3, mixed. -/
theorem pay98 (V : FVec 𝕀 S512x512 .bf16) (w : Vec 𝕀 S1x256x128 .f32) :
    k0_pay98 causal k0_pay6 V w = mk (piece (fun t s => w (ix3 0 t s)) fun s j => V (ix2 ⟨s.val, by omega⟩ ⟨384 + j.val, by omega⟩)) := by
  funext y
  idx_vars y
  pointwise [k0_pay98, k0_pay97, k0_pay96]
  simp only [mask5, mask6, sel]
  exact heads (fun t s => w (ix3 0 t s) * V (ix2 ⟨s.val, by omega⟩ ⟨384 + y1.val, by omega⟩)) y0 y1 (by omega) (by omega)

/-- Rows 128 to 255 of the columns of pair 3, mixed. -/
theorem pay99 (V : FVec 𝕀 S512x512 .bf16) (w : Vec 𝕀 S1x256x128 .f32) :
    k0_pay99 causal k0_pay6 V w = mk (piece (fun t s => w (ix3 0 t s)) fun s j => V (ix2 ⟨128 + s.val, by omega⟩ ⟨384 + j.val, by omega⟩)) := by
  funext y
  idx_vars y
  pointwise [k0_pay99, k0_pay97, k0_pay96]
  simp only [mask5, mask6, sel]
  exact heads (fun t s => w (ix3 0 t s) * V (ix2 ⟨128 + s.val, by omega⟩ ⟨384 + y1.val, by omega⟩)) y0 y1 (by omega) (by omega)

/-- Rows 256 to 383 of the columns of pair 3, mixed. -/
theorem pay101 (V : FVec 𝕀 S512x512 .bf16) (w : Vec 𝕀 S1x256x128 .f32) :
    k0_pay101 causal k0_pay6 V w = mk (piece (fun t s => w (ix3 0 t s)) fun s j => V (ix2 ⟨256 + s.val, by omega⟩ ⟨384 + j.val, by omega⟩)) := by
  funext y
  idx_vars y
  pointwise [k0_pay101, k0_pay100, k0_pay96]
  simp only [mask5, mask6, sel]
  exact heads (fun t s => w (ix3 0 t s) * V (ix2 ⟨256 + s.val, by omega⟩ ⟨384 + y1.val, by omega⟩)) y0 y1 (by omega) (by omega)

/-- Rows 384 to 511 of the columns of pair 3, mixed. -/
theorem pay102 (V : FVec 𝕀 S512x512 .bf16) (w : Vec 𝕀 S1x256x128 .f32) :
    k0_pay102 causal k0_pay6 V w = mk (piece (fun t s => w (ix3 0 t s)) fun s j => V (ix2 ⟨384 + s.val, by omega⟩ ⟨384 + j.val, by omega⟩)) := by
  funext y
  idx_vars y
  pointwise [k0_pay102, k0_pay100, k0_pay96]
  simp only [mask5, mask6, sel]
  exact heads (fun t s => w (ix3 0 t s) * V (ix2 ⟨384 + s.val, by omega⟩ ⟨384 + y1.val, by omega⟩)) y0 y1 (by omega) (by omega)

/-- A path's projection up, gated: the part of the sum that one path adds. -/
def path {n : Nat} (H : Fin n → Fin 1024 → EReal) (W : Fin 1024 → Fin 1024 → EReal) (Y : Fin n → Fin 512 → EReal)
    (U : Fin 512 → Fin 1024 → EReal) (a : Fin n) (j : Fin 1024) : EReal :=
  Ideal.logistic (prj H W a j) * prj Y U a j

/-- Four copies of 128 rows one below the other. -/
theorem rep (b : Vec 𝕀 S128x512 .f32) (y0 x : Fin 512) :
    (if h : y0.val < 128 then b (ix2 ⟨y0.val, by omega⟩ x)
      else if h : y0.val - 128 < 128 then b (ix2 ⟨y0.val - 128, by omega⟩ x)
      else if h : y0.val - 128 - 128 < 128 then b (ix2 ⟨y0.val - 128 - 128, by omega⟩ x)
      else b (ix2 ⟨y0.val - 128 - 128 - 128, by omega⟩ x)) = b (ix2 ⟨y0.val % 128, by omega⟩ x) := by
  split_ifs <;> exact congrArg (fun r => b (ix2 r x)) (Fin.ext (by dsimp only; omega))

/-- The attention path of the first tile. -/
theorem pay74 (H : FVec 𝕀 S512x1024 .bf16) (z : FVec 𝕀 S512x512 .f32) (o : Vec 𝕀 S512x512 .f32) (u : Vec 𝕀 S512x1024 .bf16) (W : Vec 𝕀 S1024x1024 .bf16) :
    k0_pay74 H z o u W = mk (path (fun a k => H (ix2 a k)) (fun k j => W (ix2 k j)) (fun a x => o (ix2 a x) * z (ix2 a x)) fun x j => u (ix2 x j)) := by
  funext y
  idx_vars y
  pointwise [k0_pay74]
  rfl

/-- The attention path of the second tile. -/
theorem pay104 (H : FVec 𝕀 S512x1024 .bf16) (z : FVec 𝕀 S512x512 .f32) (o : Vec 𝕀 S512x512 .f32) (u : Vec 𝕀 S512x1024 .bf16) (W : Vec 𝕀 S1024x1024 .bf16) :
    k0_pay104 H z o u W = mk (path (fun a k => H (ix2 a k)) (fun k j => W (ix2 k j)) (fun a x => o (ix2 a x) * z (ix2 a x)) fun x j => u (ix2 x j)) := by
  funext y
  idx_vars y
  pointwise [k0_pay104]
  rfl

/-- The residual sum of the first tile. -/
theorem pay105 (X : FVec 𝕀 S512x1024 .f32) (H : FVec 𝕀 S512x1024 .bf16) (u z : FVec 𝕀 S512x512 .f32) (m : FVec 𝕀 S512x1024 .f32) (b : Vec 𝕀 S128x512 .f32)
    (M : Vec 𝕀 S512x512 .f32) (U : Vec 𝕀 S512x1024 .bf16) (W V : Vec 𝕀 S1024x1024 .bf16) :
    k0_pay105 X H u z m (k0_pay103 b) M U W V = mk (fun a k => X (ix2 a k) + prj (fun a j => m (ix2 a j) + path (fun a k => H (ix2 a k)) (fun k j => W (ix2 k j))
      (fun a x => u (ix2 a x) * (M (ix2 a x) + b (ix2 ⟨a.val % 128, by omega⟩ x)) * z (ix2 a x)) (fun x j => U (ix2 x j)) a j)
      (fun k j => V (ix2 k j)) a k) := by
  funext y
  idx_vars y
  pointwise [k0_pay105, k0_pay103]
  refine congrArg (X (ix2 y0 y1) + ·) (Finset.sum_congr rfl fun x _ => ?_)
  refine congrArg (fun q => (m (ix2 y0 x) + Ideal.logistic (∑ t, H (ix2 y0 t) * W (ix2 t x)) * q) * V (ix2 x y1)) ?_
  exact Finset.sum_congr rfl fun t _ => congrArg (fun q => u (ix2 y0 t) * (M (ix2 y0 t) + q) * z (ix2 y0 t) * U (ix2 t x)) (rep b y0 t)

/-- The residual sum of the second tile. -/
theorem pay109 (X : FVec 𝕀 S512x1024 .f32) (H : FVec 𝕀 S512x1024 .bf16) (u z : FVec 𝕀 S512x512 .f32) (m : FVec 𝕀 S512x1024 .f32) (b : Vec 𝕀 S128x512 .f32)
    (M : Vec 𝕀 S512x512 .f32) (U : Vec 𝕀 S512x1024 .bf16) (W V : Vec 𝕀 S1024x1024 .bf16) :
    k0_pay109 X H u z m b M U W V = mk (fun a k => X (ix2 a k) + prj (fun a j => m (ix2 a j) + path (fun a k => H (ix2 a k)) (fun k j => W (ix2 k j))
      (fun a x => u (ix2 a x) * (M (ix2 a x) + b (ix2 ⟨a.val % 128, by omega⟩ x)) * z (ix2 a x)) (fun x j => U (ix2 x j)) a j)
      (fun k j => V (ix2 k j)) a k) := by
  funext y
  idx_vars y
  pointwise [k0_pay109]
  refine congrArg (X (ix2 y0 y1) + ·) (Finset.sum_congr rfl fun x _ => ?_)
  refine congrArg (fun q => (m (ix2 y0 x) + Ideal.logistic (∑ t, H (ix2 y0 t) * W (ix2 t x)) * q) * V (ix2 x y1)) ?_
  exact Finset.sum_congr rfl fun t _ => congrArg (fun q => u (ix2 y0 t) * (M (ix2 y0 t) + q) * z (ix2 y0 t) * U (ix2 t x)) (rep b y0 t)

/-- The result rows of the first tile. -/
theorem pay108 (X : FVec 𝕀 S512x1024 .f32) (H : FVec 𝕀 S512x1024 .bf16) (u z : FVec 𝕀 S512x512 .f32) (m : FVec 𝕀 S512x1024 .f32) (b : Vec 𝕀 S128x512 .f32)
    (M : Vec 𝕀 S512x512 .f32) (U : Vec 𝕀 S512x1024 .bf16) (W V : Vec 𝕀 S1024x1024 .bf16) (g : Vec 𝕀 S1x1024 .f32) :
    k0_pay108 (k0_pay105 X H u z m (k0_pay103 b) M U W V) (k0_pay106 X H u z m (k0_pay103 b) M U W V) k0_pay107 g = mk fun a => rms ((fun a k => X (ix2 a k) + prj (fun a j => m (ix2 a j) + path (fun a k => H (ix2 a k)) (fun k j => W (ix2 k j))
      (fun a x => u (ix2 a x) * (M (ix2 a x) + b (ix2 ⟨a.val % 128, by omega⟩ x)) * z (ix2 a x)) (fun x j => U (ix2 x j)) a j)
      (fun k j => V (ix2 k j)) a k) a) fun k => g (ix2 0 k) := by
  unfold k0_pay106
  rw [pay105]
  generalize (fun a k => X (ix2 a k) + prj (fun a j => m (ix2 a j) + path (fun a k => H (ix2 a k)) (fun k j => W (ix2 k j))
      (fun a x => u (ix2 a x) * (M (ix2 a x) + b (ix2 ⟨a.val % 128, by omega⟩ x)) * z (ix2 a x)) (fun x j => U (ix2 x j)) a j)
      (fun k j => V (ix2 k j)) a k) = f
  funext y
  idx_vars y
  pointwise [k0_pay108, k0_pay107]
  rfl

/-- The result rows of the second tile. -/
theorem pay1 (X : FVec 𝕀 S512x1024 .f32) (H : FVec 𝕀 S512x1024 .bf16) (u z : FVec 𝕀 S512x512 .f32) (m : FVec 𝕀 S512x1024 .f32) (b : Vec 𝕀 S128x512 .f32)
    (M : Vec 𝕀 S512x512 .f32) (U : Vec 𝕀 S512x1024 .bf16) (W V : Vec 𝕀 S1024x1024 .bf16) (g : Vec 𝕀 S1x1024 .f32) :
    k0_pay1 (k0_pay109 X H u z m b M U W V) (k0_pay110 X H u z m b M U W V) g = mk fun a => rms ((fun a k => X (ix2 a k) + prj (fun a j => m (ix2 a j) + path (fun a k => H (ix2 a k)) (fun k j => W (ix2 k j))
      (fun a x => u (ix2 a x) * (M (ix2 a x) + b (ix2 ⟨a.val % 128, by omega⟩ x)) * z (ix2 a x)) (fun x j => U (ix2 x j)) a j)
      (fun k j => V (ix2 k j)) a k) a) fun k => g (ix2 0 k) := by
  unfold k0_pay110
  rw [pay109]
  generalize (fun a k => X (ix2 a k) + prj (fun a j => m (ix2 a j) + path (fun a k => H (ix2 a k)) (fun k j => W (ix2 k j))
      (fun a x => u (ix2 a x) * (M (ix2 a x) + b (ix2 ⟨a.val % 128, by omega⟩ x)) * z (ix2 a x)) (fun x j => U (ix2 x j)) a j)
      (fun k j => V (ix2 k j)) a k) = f
  funext y
  idx_vars y
  pointwise [k0_pay1]
  rfl

/-- The rows as they are. -/
theorem pay7 (X : Vec 𝕀 S512x1024 .f32) :
    k0_pay7 X = X := by
  funext y
  idx_vars y
  pointwise [k0_pay7]

/-- The rows as they are. -/
theorem pay15 (X : Vec 𝕀 S512x1024 .f32) :
    k0_pay15 X = X := by
  funext y
  idx_vars y
  pointwise [k0_pay15]

/-- The group matrix as it is. -/
theorem pay11 (X : Vec 𝕀 S1024x128 .bf16) :
    k0_pay11 X = X := by
  funext y
  idx_vars y
  pointwise [k0_pay11]

/-- A function of rows and columns at a row and a column. -/
theorem mk_ix2 {m n : Nat} (f : Fin m → Fin n → EReal) (a : Fin m) (b : Fin n) : mk f (ix2 a b) = f a b := rfl

end Cert.Tail
end
-- ==== Proof.TailPieces.lean ====
/- What one step of the call after the attention leaves in its output block: each of its two tiles of 512 rows goes
   through the same function of the rows, the attention's output and the weights. -/
module

public import proofs.«01_k».proof.Proof.TailStages
public import Idealize.ShloMosaic.Lib.Pipeline.ReadBack

@[expose] public section
set_option maxHeartbeats 4000000
set_option maxRecDepth 16384
noncomputable section
namespace Cert.Tail
open Cert.KernelTailIdeal Cert.KernelTailIdeal.Gen Idealize.ShloMosaic Idealize.ShloMosaic.TcCoe Idealize.SL.Sem

local notation "𝕀" => Idealize.ShloMosaic.Ideal

/-- The coordinates of a unit-stride rectangle's embedding. -/
theorem emb_val {s : Shape} (off size : Fin s.rank → ℕ) (inb : ∀ a, off a + size a ≤ s.size a)
    (x : (Rect.unit off size inb).shape.Idx) (a : Fin s.rank) : ((Rect.unit off size inb).emb x a).val = off a + 1 * (x a).val := rfl

/-- The part of an array from row `o` and column `p` on. -/
def sub {M N : Nat} (m n : Nat) (X : (⟨2, ![M, N]⟩ : Shape).Idx → EReal) (o p : Nat) (ho : o + m ≤ M) (hp : p + n ≤ N)
    (a : Fin m) (b : Fin n) : EReal :=
  X (ix2 ⟨o + a.val, by omega⟩ ⟨p + b.val, by omega⟩)

/-- A load of a rectangle of an array is that part of it. -/
theorem ld2 {M N m n : Nat} (X : (⟨2, ![M, N]⟩ : Shape).Idx → EReal) (o p : Nat)
    (inb : ∀ a, (![o, p] : Fin 2 → ℕ) a + (![m, n] : Fin 2 → ℕ) a ≤ (![M, N] : Fin 2 → ℕ) a) :
    @View.ld (Elt 𝕀) (⟨2, ![M, N]⟩ : Shape) .f32 X (Rect.unit ![o, p] ![m, n] inb)
      = mk (sub m n X o p (inb 0) (inb 1)) := by
  funext y
  exact congrArg X (funext fun a => by fin_cases a <;> exact Fin.ext (by simp [emb_val]))

/-- The load of 512 rows from 0 and 1024 columns from 0. -/
theorem ld_1024_1024_512_1024_0_0 (x : Vec 𝕀 S1024x1024 .f32) :
    View.ld x (Rect.unit ![0, 0] ![512, 1024] inb_S1024x1024_S512x1024_0_0) = mk (sub 512 1024 x 0 0 (by decide) (by decide)) :=
  ld2 x 0 0 inb_S1024x1024_S512x1024_0_0
/-- The load of 512 rows from 512 and 1024 columns from 0. -/
theorem ld_1024_1024_512_1024_512_0 (x : Vec 𝕀 S1024x1024 .f32) :
    View.ld x (Rect.unit ![512, 0] ![512, 1024] inb_S1024x1024_S512x1024_512_0) = mk (sub 512 1024 x 512 0 (by decide) (by decide)) :=
  ld2 x 512 0 inb_S1024x1024_S512x1024_512_0
/-- The load of 512 rows from 0 and 512 columns from 0. -/
theorem ld_1024_512_512_512_0_0 (x : Vec 𝕀 S1024x512 .f32) :
    View.ld x (Rect.unit ![0, 0] ![512, 512] inb_S1024x512_S512x512_0_0) = mk (sub 512 512 x 0 0 (by decide) (by decide)) :=
  ld2 x 0 0 inb_S1024x512_S512x512_0_0
/-- The load of 512 rows from 512 and 512 columns from 0. -/
theorem ld_1024_512_512_512_512_0 (x : Vec 𝕀 S1024x512 .f32) :
    View.ld x (Rect.unit ![512, 0] ![512, 512] inb_S1024x512_S512x512_512_0) = mk (sub 512 512 x 512 0 (by decide) (by decide)) :=
  ld2 x 512 0 inb_S1024x512_S512x512_512_0
/-- The load of 1 rows from 0 and 1024 columns from 0. -/
theorem ld_1_1024_1_1024_0_0 (x : Vec 𝕀 S1x1024 .f32) :
    View.ld x (Rect.unit ![0, 0] ![1, 1024] inb_S1x1024_S1x1024_0_0) = mk (sub 1 1024 x 0 0 (by decide) (by decide)) :=
  ld2 x 0 0 inb_S1x1024_S1x1024_0_0
/-- The load of 1024 rows from 0 and 512 columns from 0. -/
theorem ld_1024_4096_1024_512_0_0 (x : Vec 𝕀 S1024x4096 .bf16) :
    View.ld x (Rect.unit ![0, 0] ![1024, 512] inb_S1024x4096_S1024x512_0_0) = mk (sub 1024 512 x 0 0 (by decide) (by decide)) :=
  ld2 x 0 0 inb_S1024x4096_S1024x512_0_0
/-- The load of 1024 rows from 0 and 512 columns from 512. -/
theorem ld_1024_4096_1024_512_0_512 (x : Vec 𝕀 S1024x4096 .bf16) :
    View.ld x (Rect.unit ![0, 512] ![1024, 512] inb_S1024x4096_S1024x512_0_512) = mk (sub 1024 512 x 0 512 (by decide) (by decide)) :=
  ld2 x 0 512 inb_S1024x4096_S1024x512_0_512
/-- The load of 1024 rows from 0 and 512 columns from 1024. -/
theorem ld_1024_4096_1024_512_0_1024 (x : Vec 𝕀 S1024x4096 .bf16) :
    View.ld x (Rect.unit ![0, 1024] ![1024, 512] inb_S1024x4096_S1024x512_0_1024) = mk (sub 1024 512 x 0 1024 (by decide) (by decide)) :=
  ld2 x 0 1024 inb_S1024x4096_S1024x512_0_1024
/-- The load of 1024 rows from 0 and 512 columns from 1536. -/
theorem ld_1024_4096_1024_512_0_1536 (x : Vec 𝕀 S1024x4096 .bf16) :
    View.ld x (Rect.unit ![0, 1536] ![1024, 512] inb_S1024x4096_S1024x512_0_1536) = mk (sub 1024 512 x 0 1536 (by decide) (by decide)) :=
  ld2 x 0 1536 inb_S1024x4096_S1024x512_0_1536
/-- The load of 1024 rows from 0 and 1024 columns from 2048. -/
theorem ld_1024_4096_1024_1024_0_2048 (x : Vec 𝕀 S1024x4096 .bf16) :
    View.ld x (Rect.unit ![0, 2048] ![1024, 1024] inb_S1024x4096_S1024x1024_0_2048) = mk (sub 1024 1024 x 0 2048 (by decide) (by decide)) :=
  ld2 x 0 2048 inb_S1024x4096_S1024x1024_0_2048
/-- The load of 1024 rows from 0 and 1024 columns from 3072. -/
theorem ld_1024_4096_1024_1024_0_3072 (x : Vec 𝕀 S1024x4096 .bf16) :
    View.ld x (Rect.unit ![0, 3072] ![1024, 1024] inb_S1024x4096_S1024x1024_0_3072) = mk (sub 1024 1024 x 0 3072 (by decide) (by decide)) :=
  ld2 x 0 3072 inb_S1024x4096_S1024x1024_0_3072
/-- The load of 1 rows from 0 and 512 columns from 0. -/
theorem ld_1_512_1_512_0_0 (x : Vec 𝕀 S1x512 .f32) :
    View.ld x (Rect.unit ![0, 0] ![1, 512] inb_S1x512_S1x512_0_0) = mk (sub 1 512 x 0 0 (by decide) (by decide)) :=
  ld2 x 0 0 inb_S1x512_S1x512_0_0
/-- The load of 128 rows from 0 and 512 columns from 0. -/
theorem ld_128_512_128_512_0_0 (x : Vec 𝕀 S128x512 .f32) :
    View.ld x (Rect.unit ![0, 0] ![128, 512] inb_S128x512_S128x512_0_0) = mk (sub 128 512 x 0 0 (by decide) (by decide)) :=
  ld2 x 0 0 inb_S128x512_S128x512_0_0
/-- The load of 1024 rows from 0 and 128 columns from 0. -/
theorem ld_1024_128_1024_128_0_0 (x : Vec 𝕀 S1024x128 .bf16) :
    View.ld x (Rect.unit ![0, 0] ![1024, 128] inb_S1024x128_S1024x128_0_0) = mk (sub 1024 128 x 0 0 (by decide) (by decide)) :=
  ld2 x 0 0 inb_S1024x128_S1024x128_0_0
/-- The load of 512 rows from 0 and 128 columns from 0. -/
theorem ld_1024_128_512_128_0_0 (x : Vec 𝕀 S1024x128 .bf16) :
    View.ld x (Rect.unit ![0, 0] ![512, 128] inb_S1024x128_S512x128_0_0) = mk (sub 512 128 x 0 0 (by decide) (by decide)) :=
  ld2 x 0 0 inb_S1024x128_S512x128_0_0
/-- The load of 512 rows from 0 and 1024 columns from 0. -/
theorem ld_512_1024_512_1024_0_0 (x : Vec 𝕀 S512x1024 .bf16) :
    View.ld x (Rect.unit ![0, 0] ![512, 1024] inb_S512x1024_S512x1024_0_0) = mk (sub 512 1024 x 0 0 (by decide) (by decide)) :=
  ld2 x 0 0 inb_S512x1024_S512x1024_0_0
/-- The load of 1024 rows from 0 and 1024 columns from 0. -/
theorem ld_1024_1024_1024_1024_0_0 (x : Vec 𝕀 S1024x1024 .bf16) :
    View.ld x (Rect.unit ![0, 0] ![1024, 1024] inb_S1024x1024_S1024x1024_0_0) = mk (sub 1024 1024 x 0 0 (by decide) (by decide)) :=
  ld2 x 0 0 inb_S1024x1024_S1024x1024_0_0
/-- The load of the matrices of head pair 0. -/
theorem ld_ws_0 (x : Vec 𝕀 S4x256x128 .f32) (t : Fin 256) (s : Fin 128) :
    View.ld x (Rect.unit ![0, 0, 0] ![1, 256, 128] inb_S4x256x128_S1x256x128_0_0_0) (ix3 (0 : Fin 1) t s) = x (ix3 (0 : Fin 4) t s) :=
  congrArg x (funext fun a => by fin_cases a <;> exact Fin.ext (by simp [emb_val]))
/-- The load of the matrices of head pair 1. -/
theorem ld_ws_1 (x : Vec 𝕀 S4x256x128 .f32) (t : Fin 256) (s : Fin 128) :
    View.ld x (Rect.unit ![1, 0, 0] ![1, 256, 128] inb_S4x256x128_S1x256x128_1_0_0) (ix3 (0 : Fin 1) t s) = x (ix3 (1 : Fin 4) t s) :=
  congrArg x (funext fun a => by fin_cases a <;> exact Fin.ext (by simp [emb_val]))
/-- The load of the matrices of head pair 2. -/
theorem ld_ws_2 (x : Vec 𝕀 S4x256x128 .f32) (t : Fin 256) (s : Fin 128) :
    View.ld x (Rect.unit ![2, 0, 0] ![1, 256, 128] inb_S4x256x128_S1x256x128_2_0_0) (ix3 (0 : Fin 1) t s) = x (ix3 (2 : Fin 4) t s) :=
  congrArg x (funext fun a => by fin_cases a <;> exact Fin.ext (by simp [emb_val]))
/-- The load of the matrices of head pair 3. -/
theorem ld_ws_3 (x : Vec 𝕀 S4x256x128 .f32) (t : Fin 256) (s : Fin 128) :
    View.ld x (Rect.unit ![3, 0, 0] ![1, 256, 128] inb_S4x256x128_S1x256x128_3_0_0) (ix3 (0 : Fin 1) t s) = x (ix3 (3 : Fin 4) t s) :=
  congrArg x (funext fun a => by fin_cases a <;> exact Fin.ext (by simp [emb_val]))

/-- The normalised values of a tile. -/
def vnorm (H : Fin 512 → Fin 1024 → EReal) (W : Fin 1024 → Fin 512 → EReal) (G : Fin 1024 → Fin 128 → EReal) (G' : Fin 512 → Fin 128 → EReal)
    (s b : Fin 512 → EReal) : Fin 512 → Fin 512 → EReal :=
  nrm (dev (fun a j => gelu (prj H W a j)) G) G' s b

/-- A tile mixed over chunks of 128 rows: each column's head mixes the rows of the chunk. -/
def mixed (ws : Fin 4 → Fin 256 → Fin 128 → EReal) (V : Fin 512 → Fin 512 → EReal) (a j : Fin 512) : EReal :=
  piece (ws ⟨j.val / 128, by omega⟩) (fun s l => V ⟨128 * (a.val / 128) + s.val, by omega⟩ ⟨128 * (j.val / 128) + l.val, by omega⟩)
    ⟨a.val % 128, by omega⟩ ⟨j.val % 128, by omega⟩

/-- What a tile of 512 rows becomes. -/
def tile (X : Fin 512 → Fin 1024 → EReal) (O : Fin 512 → Fin 512 → EReal) (g : Fin 1024 → EReal) (Wz Wu Wv Wy : Fin 1024 → Fin 512 → EReal)
    (Wa Wb : Fin 1024 → Fin 1024 → EReal) (s b : Fin 512 → EReal) (ws : Fin 4 → Fin 256 → Fin 128 → EReal) (bias : Fin 128 → Fin 512 → EReal)
    (G : Fin 1024 → Fin 128 → EReal) (G' : Fin 512 → Fin 128 → EReal) (ua ub : Fin 512 → Fin 1024 → EReal) (wo : Fin 1024 → Fin 1024 → EReal)
    (fg : Fin 1024 → EReal) (a : Fin 512) : Fin 1024 → EReal :=
  rms (fun k => X a k + prj (fun a j =>
      path (fun a => rms (X a) g) Wa (fun a x => O a x * silu (prj (fun a => rms (X a) g) Wz a x)) ua a j
      + path (fun a => rms (X a) g) Wb (fun a x => gelu (prj (fun a => rms (X a) g) Wu a x)
          * (mixed ws (vnorm (fun a => rms (X a) g) Wv G G' s b) a x + bias ⟨a.val % 128, by omega⟩ x)
          * silu (prj (fun a => rms (X a) g) Wy a x)) ub a j) wo a k) fg

/-- The first tile's normalised values. -/
theorem word18 (c : Dev nD) (arg1 : Memref sig .tc .vmem S1024x1024 .f32) (h1 : arg1.IsWhole) (arg3 : Memref sig .tc .vmem S1x1024 .f32) (h3 : arg3.IsWhole) (arg4 : Memref sig .tc .vmem S1024x4096 .bf16) (h4 : arg4.IsWhole) (arg5 : Memref sig .tc .vmem S1x512 .f32) (h5 : arg5.IsWhole) (arg6 : Memref sig .tc .vmem S1x512 .f32) (h6 : arg6.IsWhole) (arg9 : Memref sig .tc .vmem S1024x128 .bf16) (h9 : arg9.IsWhole)
    (x0 : Vec 𝕀 S1024x1024 .f32) (x2 : Vec 𝕀 S1x1024 .f32) (x3 : Vec 𝕀 S1024x4096 .bf16) (x4 : Vec 𝕀 S1x512 .f32) (x5 : Vec 𝕀 S1x512 .f32) (x8 : Vec 𝕀 S1024x128 .bf16) :
    kernelRun0_A.sl.r_18 c arg1 h1 arg3 h3 arg4 h4 arg5 h5 arg6 h6 arg9 h9 x0 x2 x3 x4 x5 x8 = mk (vnorm (fun a => rms ((sub 512 1024 x0 0 0 (by decide) (by decide)) a) (sub 1 1024 x2 0 0 (by decide) (by decide) 0)) (sub 1024 512 x3 0 1024 (by decide) (by decide))
      (sub 1024 128 x8 0 0 (by decide) (by decide)) (sub 512 128 x8 0 0 (by decide) (by decide)) (sub 1 512 x4 0 0 (by decide) (by decide) 0)
      (sub 1 512 x5 0 0 (by decide) (by decide) 0)) := by
  simp only [kernelRun0_A.sl.r_18, kernelRun0_A.sl.r_17, kernelRun0_A.sl.r_16, kernelRun0_A.sl.r_15, kernelRun0_A.sl.r_14, kernelRun0_A.sl.r_6, kernelRun0_A.sl.r_5, kernelRun0_A.sl.r_4, kernelRun0_A.sl.r_3, View.readAt_eq_ld, h1.read_unread, h3.read_unread, h4.read_unread, h5.read_unread, h6.read_unread, h9.read_unread]
  rw [ld_1024_1024_512_1024_0_0 x0, ld_1_1024_1_1024_0_0 x2, ld_1024_4096_1024_512_0_1024 x3, ld_1024_128_1024_128_0_0 x8, ld_1024_128_512_128_0_0 x8, ld_1_512_1_512_0_0 x4, ld_1_512_1_512_0_0 x5]
  rw [pay10, pay9, pay11, pay12 _ _ rfl, pay26]
  rfl

/-- The second tile's normalised values. -/
theorem word31 (c : Dev nD) (arg1 : Memref sig .tc .vmem S1024x1024 .f32) (h1 : arg1.IsWhole) (arg3 : Memref sig .tc .vmem S1x1024 .f32) (h3 : arg3.IsWhole) (arg4 : Memref sig .tc .vmem S1024x4096 .bf16) (h4 : arg4.IsWhole) (arg5 : Memref sig .tc .vmem S1x512 .f32) (h5 : arg5.IsWhole) (arg6 : Memref sig .tc .vmem S1x512 .f32) (h6 : arg6.IsWhole) (arg9 : Memref sig .tc .vmem S1024x128 .bf16) (h9 : arg9.IsWhole)
    (x0 : Vec 𝕀 S1024x1024 .f32) (x2 : Vec 𝕀 S1x1024 .f32) (x3 : Vec 𝕀 S1024x4096 .bf16) (x4 : Vec 𝕀 S1x512 .f32) (x5 : Vec 𝕀 S1x512 .f32) (x8 : Vec 𝕀 S1024x128 .bf16) :
    kernelRun0_A.sl.r_31 c arg1 h1 arg3 h3 arg4 h4 arg5 h5 arg6 h6 arg9 h9 x0 x2 x3 x4 x5 x8 = mk (vnorm (fun a => rms ((sub 512 1024 x0 512 0 (by decide) (by decide)) a) (sub 1 1024 x2 0 0 (by decide) (by decide) 0)) (sub 1024 512 x3 0 1024 (by decide) (by decide))
      (sub 1024 128 x8 0 0 (by decide) (by decide)) (sub 512 128 x8 0 0 (by decide) (by decide)) (sub 1 512 x4 0 0 (by decide) (by decide) 0)
      (sub 1 512 x5 0 0 (by decide) (by decide) 0)) := by
  simp only [kernelRun0_A.sl.r_31, kernelRun0_A.sl.r_30, kernelRun0_A.sl.r_29, kernelRun0_A.sl.r_28, kernelRun0_A.sl.r_27, kernelRun0_A.sl.r_21, kernelRun0_A.sl.r_20, kernelRun0_A.sl.r_19, kernelRun0_A.sl.r_13, kernelRun0_A.sl.r_12, kernelRun0_A.sl.r_11, kernelRun0_A.sl.cst_65, View.readAt_eq_ld, h1.read_unread, h3.read_unread, h4.read_unread, h5.read_unread, h6.read_unread, h9.read_unread]
  rw [ld_1024_1024_512_1024_512_0 x0, ld_1_1024_1_1024_0_0 x2, ld_1024_4096_1024_512_0_1024 x3, ld_1024_128_1024_128_0_0 x8, ld_1024_128_512_128_0_0 x8, ld_1_512_1_512_0_0 x4, ld_1_512_1_512_0_0 x5]
  rw [pay19, pay30, pay41]
  rfl

/-- A block of a tile's mix, at its place in the tile. -/
theorem piece_at (ws : Fin 4 → Fin 256 → Fin 128 → EReal) (V : Fin 512 → Fin 512 → EReal) (w : Fin 256 → Fin 128 → EReal)
    (f : Fin 128 → Fin 128 → EReal) (c p : Nat) (hc : c < 4) (hp : p < 4) (hw : ∀ t s, w t s = ws ⟨p, hp⟩ t s)
    (hf : ∀ s l : Fin 128, f s l = V ⟨128 * c + s.val, by omega⟩ ⟨128 * p + l.val, by omega⟩) (a j : Fin 128) (y0 y1 : Fin 512)
    (h0 : y0.val = 128 * c + a.val) (h1 : y1.val = 128 * p + j.val) : piece w f a j = mixed ws V y0 y1 := by
  obtain rfl : w = ws ⟨p, hp⟩ := funext fun t => funext fun s => hw t s
  obtain rfl : f = fun s l => V ⟨128 * c + s.val, by omega⟩ ⟨128 * p + l.val, by omega⟩ := funext fun s => funext fun l => hf s l
  have q0 : y0.val / 128 = c := by omega
  have q1 : y1.val / 128 = p := by omega
  have e0 : (⟨y0.val % 128, by omega⟩ : Fin 128) = a := Fin.ext (by dsimp only; omega)
  have e1 : (⟨y1.val % 128, by omega⟩ : Fin 128) = j := Fin.ext (by dsimp only; omega)
  unfold mixed
  subst q0 q1
  rw [e0, e1]

/-- The mixed values of both tiles, one below the other. -/
def mixes (ws : Fin 4 → Fin 256 → Fin 128 → EReal) (V V' : Fin 512 → Fin 512 → EReal) (y : S1024x512.Idx) : EReal :=
  if h : (y 0).val < 512 then mixed ws V ⟨(y 0).val, h⟩ ⟨(y 1).val, (y 1).isLt⟩
  else mixed ws V' ⟨(y 0).val - 512, by have h : (y 0).val < 1024 := (y 0).isLt; omega⟩ ⟨(y 1).val, (y 1).isLt⟩

/-- The first tile's rows of the two mixed tiles. -/
theorem mixes_fst (ws : Fin 4 → Fin 256 → Fin 128 → EReal) (V V' : Fin 512 → Fin 512 → EReal) (y : S1024x512.Idx) (h : (y 0).val < 512) :
    mixes ws V V' y = mixed ws V ⟨(y 0).val, h⟩ ⟨(y 1).val, (y 1).isLt⟩ := dif_pos h

/-- The second tile's rows of the two mixed tiles. -/
theorem mixes_snd (ws : Fin 4 → Fin 256 → Fin 128 → EReal) (V V' : Fin 512 → Fin 512 → EReal) (y : S1024x512.Idx) (h : ¬ (y 0).val < 512) :
    mixes ws V V' y = mixed ws V' ⟨(y 0).val - 512, by have h : (y 0).val < 1024 := (y 0).isLt; omega⟩ ⟨(y 1).val, (y 1).isLt⟩ := dif_neg h

/-- The mask's word. -/
theorem word0 : kernelRun0_A.sl.r = causal := by
  unfold kernelRun0_A.sl.r kernelRun0_A.sl.v42 causal
  with_reducible rfl

/-- The scratch's contents: both tiles' mixed values. -/
theorem scratch (c : Dev nD) (arg1 : Memref sig .tc .vmem S1024x1024 .f32) (h1 : arg1.IsWhole) (arg3 : Memref sig .tc .vmem S1x1024 .f32) (h3 : arg3.IsWhole) (arg4 : Memref sig .tc .vmem S1024x4096 .bf16) (h4 : arg4.IsWhole) (arg5 : Memref sig .tc .vmem S1x512 .f32) (h5 : arg5.IsWhole) (arg6 : Memref sig .tc .vmem S1x512 .f32) (h6 : arg6.IsWhole) (arg7 : Memref sig .tc .vmem S4x256x128 .f32) (h7 : arg7.IsWhole) (arg9 : Memref sig .tc .vmem S1024x128 .bf16) (h9 : arg9.IsWhole)
    (x0 : Vec 𝕀 S1024x1024 .f32) (x2 : Vec 𝕀 S1x1024 .f32) (x3 : Vec 𝕀 S1024x4096 .bf16) (x4 : Vec 𝕀 S1x512 .f32) (x5 : Vec 𝕀 S1x512 .f32) (x6 : Vec 𝕀 S4x256x128 .f32) (x8 : Vec 𝕀 S1024x128 .bf16)
    (y : S1024x512.Idx) :
    View.canon (Val := Elt 𝕀) (e := .f32) (kernelRun0_A.sl.HS0_32 c arg1 h1 arg3 h3 arg4 h4 arg5 h5 arg6 h6 arg7 h7 arg9 h9 x0 x2 x3 x4 x5 x6 x8) y = mixes (fun p t s => x6 (ix3 p t s)) (fun a j => kernelRun0_A.sl.r_18 c arg1 h1 arg3 h3 arg4 h4 arg5 h5 arg6 h6 arg9 h9 x0 x2 x3 x4 x5 x8 (ix2 a j)) (fun a j => kernelRun0_A.sl.r_31 c arg1 h1 arg3 h3 arg4 h4 arg5 h5 arg6 h6 arg9 h9 x0 x2 x3 x4 x5 x8 (ix2 a j)) y := by
  refine View.canon_apply_of_pieces (mixes (fun p t s => x6 (ix3 p t s)) (fun a j => kernelRun0_A.sl.r_18 c arg1 h1 arg3 h3 arg4 h4 arg5 h5 arg6 h6 arg9 h9 x0 x2 x3 x4 x5 x8 (ix2 a j)) (fun a j => kernelRun0_A.sl.r_31 c arg1 h1 arg3 h3 arg4 h4 arg5 h5 arg6 h6 arg9 h9 x0 x2 x3 x4 x5 x8 (ix2 a j))) _ ?_ y
    (View.cover_of_tiledL (kernelRun0_A.sl.HS0_32 c arg1 h1 arg3 h3 arg4 h4 arg5 h5 arg6 h6 arg7 h7 arg9 h9 x0 x2 x3 x4 x5 x6 x8) S128x128.size (by sl_kernel_rfl) y)
  simp only [kernelRun0_A.sl.HS0_32, kernelRun0_A.sl.r_32, kernelRun0_A.sl.r_33, kernelRun0_A.sl.r_34, kernelRun0_A.sl.r_35, kernelRun0_A.sl.r_36, kernelRun0_A.sl.r_37, kernelRun0_A.sl.r_38, word0, View.readAt_eq_ld, h7.read_unread]
  generalize kernelRun0_A.sl.r_18 c arg1 h1 arg3 h3 arg4 h4 arg5 h5 arg6 h6 arg9 h9 x0 x2 x3 x4 x5 x8 = VA
  generalize kernelRun0_A.sl.r_31 c arg1 h1 arg3 h3 arg4 h4 arg5 h5 arg6 h6 arg9 h9 x0 x2 x3 x4 x5 x8 = VB
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
  · intro x
    idx_vars x
    have e0 : ((Rect.unit (s := S1024x512) ![896, 384] ![128, 128] inb_S1024x512_S128x128_896_384).emb (ix2 x0 x1) 0).val = 896 + 1 * x0.val := rfl
    have e1 : ((Rect.unit (s := S1024x512) ![896, 384] ![128, 128] inb_S1024x512_S128x128_896_384).emb (ix2 x0 x1) 1).val = 384 + 1 * x1.val := rfl
    exact (congrFun (pay102 VB _) (ix2 x0 x1)).trans ((piece_at (fun p t s => x6 (ix3 p t s)) (fun a j => VB (ix2 a j)) _ _ 3 3 (by decide) (by decide) (ld_ws_3 x6) (fun s l => congrArg₂ (fun a j => VB (ix2 a j)) rfl rfl)
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![768, 384] ![128, 128] inb_S1024x512_S128x128_768_384).emb (ix2 x0 x1) 0).val = 768 + 1 * x0.val := rfl
    have e1 : ((Rect.unit (s := S1024x512) ![768, 384] ![128, 128] inb_S1024x512_S128x128_768_384).emb (ix2 x0 x1) 1).val = 384 + 1 * x1.val := rfl
    exact (congrFun (pay101 VB _) (ix2 x0 x1)).trans ((piece_at (fun p t s => x6 (ix3 p t s)) (fun a j => VB (ix2 a j)) _ _ 2 3 (by decide) (by decide) (ld_ws_3 x6) (fun s l => congrArg₂ (fun a j => VB (ix2 a j)) rfl rfl)
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![640, 384] ![128, 128] inb_S1024x512_S128x128_640_384).emb (ix2 x0 x1) 0).val = 640 + 1 * x0.val := rfl
    have e1 : ((Rect.unit (s := S1024x512) ![640, 384] ![128, 128] inb_S1024x512_S128x128_640_384).emb (ix2 x0 x1) 1).val = 384 + 1 * x1.val := rfl
    exact (congrFun (pay99 VB _) (ix2 x0 x1)).trans ((piece_at (fun p t s => x6 (ix3 p t s)) (fun a j => VB (ix2 a j)) _ _ 1 3 (by decide) (by decide) (ld_ws_3 x6) (fun s l => congrArg₂ (fun a j => VB (ix2 a j)) rfl rfl)
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![512, 384] ![128, 128] inb_S1024x512_S128x128_512_384).emb (ix2 x0 x1) 0).val = 512 + 1 * x0.val := rfl
    have e1 : ((Rect.unit (s := S1024x512) ![512, 384] ![128, 128] inb_S1024x512_S128x128_512_384).emb (ix2 x0 x1) 1).val = 384 + 1 * x1.val := rfl
    exact (congrFun (pay98 VB _) (ix2 x0 x1)).trans ((piece_at (fun p t s => x6 (ix3 p t s)) (fun a j => VB (ix2 a j)) _ _ 0 3 (by decide) (by decide) (ld_ws_3 x6) (fun s l => congrArg₂ (fun a j => VB (ix2 a j)) (Fin.ext (Nat.zero_add _).symm) rfl)
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![896, 256] ![128, 128] inb_S1024x512_S128x128_896_256).emb (ix2 x0 x1) 0).val = 896 + 1 * x0.val := rfl
    have e1 : ((Rect.unit (s := S1024x512) ![896, 256] ![128, 128] inb_S1024x512_S128x128_896_256).emb (ix2 x0 x1) 1).val = 256 + 1 * x1.val := rfl
    exact (congrFun (pay95 VB _) (ix2 x0 x1)).trans ((piece_at (fun p t s => x6 (ix3 p t s)) (fun a j => VB (ix2 a j)) _ _ 3 2 (by decide) (by decide) (ld_ws_2 x6) (fun s l => congrArg₂ (fun a j => VB (ix2 a j)) rfl rfl)
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![768, 256] ![128, 128] inb_S1024x512_S128x128_768_256).emb (ix2 x0 x1) 0).val = 768 + 1 * x0.val := rfl
    have e1 : ((Rect.unit (s := S1024x512) ![768, 256] ![128, 128] inb_S1024x512_S128x128_768_256).emb (ix2 x0 x1) 1).val = 256 + 1 * x1.val := rfl
    exact (congrFun (pay94 VB _) (ix2 x0 x1)).trans ((piece_at (fun p t s => x6 (ix3 p t s)) (fun a j => VB (ix2 a j)) _ _ 2 2 (by decide) (by decide) (ld_ws_2 x6) (fun s l => congrArg₂ (fun a j => VB (ix2 a j)) rfl rfl)
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![640, 256] ![128, 128] inb_S1024x512_S128x128_640_256).emb (ix2 x0 x1) 0).val = 640 + 1 * x0.val := rfl
    have e1 : ((Rect.unit (s := S1024x512) ![640, 256] ![128, 128] inb_S1024x512_S128x128_640_256).emb (ix2 x0 x1) 1).val = 256 + 1 * x1.val := rfl
    exact (congrFun (pay92 VB _) (ix2 x0 x1)).trans ((piece_at (fun p t s => x6 (ix3 p t s)) (fun a j => VB (ix2 a j)) _ _ 1 2 (by decide) (by decide) (ld_ws_2 x6) (fun s l => congrArg₂ (fun a j => VB (ix2 a j)) rfl rfl)
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![512, 256] ![128, 128] inb_S1024x512_S128x128_512_256).emb (ix2 x0 x1) 0).val = 512 + 1 * x0.val := rfl
    have e1 : ((Rect.unit (s := S1024x512) ![512, 256] ![128, 128] inb_S1024x512_S128x128_512_256).emb (ix2 x0 x1) 1).val = 256 + 1 * x1.val := rfl
    exact (congrFun (pay91 VB _) (ix2 x0 x1)).trans ((piece_at (fun p t s => x6 (ix3 p t s)) (fun a j => VB (ix2 a j)) _ _ 0 2 (by decide) (by decide) (ld_ws_2 x6) (fun s l => congrArg₂ (fun a j => VB (ix2 a j)) (Fin.ext (Nat.zero_add _).symm) rfl)
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![896, 128] ![128, 128] inb_S1024x512_S128x128_896_128).emb (ix2 x0 x1) 0).val = 896 + 1 * x0.val := rfl
    have e1 : ((Rect.unit (s := S1024x512) ![896, 128] ![128, 128] inb_S1024x512_S128x128_896_128).emb (ix2 x0 x1) 1).val = 128 + 1 * x1.val := rfl
    exact (congrFun (pay88 VB _) (ix2 x0 x1)).trans ((piece_at (fun p t s => x6 (ix3 p t s)) (fun a j => VB (ix2 a j)) _ _ 3 1 (by decide) (by decide) (ld_ws_1 x6) (fun s l => congrArg₂ (fun a j => VB (ix2 a j)) rfl rfl)
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![768, 128] ![128, 128] inb_S1024x512_S128x128_768_128).emb (ix2 x0 x1) 0).val = 768 + 1 * x0.val := rfl
    have e1 : ((Rect.unit (s := S1024x512) ![768, 128] ![128, 128] inb_S1024x512_S128x128_768_128).emb (ix2 x0 x1) 1).val = 128 + 1 * x1.val := rfl
    exact (congrFun (pay87 VB _) (ix2 x0 x1)).trans ((piece_at (fun p t s => x6 (ix3 p t s)) (fun a j => VB (ix2 a j)) _ _ 2 1 (by decide) (by decide) (ld_ws_1 x6) (fun s l => congrArg₂ (fun a j => VB (ix2 a j)) rfl rfl)
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![640, 128] ![128, 128] inb_S1024x512_S128x128_640_128).emb (ix2 x0 x1) 0).val = 640 + 1 * x0.val := rfl
    have e1 : ((Rect.unit (s := S1024x512) ![640, 128] ![128, 128] inb_S1024x512_S128x128_640_128).emb (ix2 x0 x1) 1).val = 128 + 1 * x1.val := rfl
    exact (congrFun (pay85 VB _) (ix2 x0 x1)).trans ((piece_at (fun p t s => x6 (ix3 p t s)) (fun a j => VB (ix2 a j)) _ _ 1 1 (by decide) (by decide) (ld_ws_1 x6) (fun s l => congrArg₂ (fun a j => VB (ix2 a j)) rfl rfl)
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![512, 128] ![128, 128] inb_S1024x512_S128x128_512_128).emb (ix2 x0 x1) 0).val = 512 + 1 * x0.val := rfl
    have e1 : ((Rect.unit (s := S1024x512) ![512, 128] ![128, 128] inb_S1024x512_S128x128_512_128).emb (ix2 x0 x1) 1).val = 128 + 1 * x1.val := rfl
    exact (congrFun (pay84 VB _) (ix2 x0 x1)).trans ((piece_at (fun p t s => x6 (ix3 p t s)) (fun a j => VB (ix2 a j)) _ _ 0 1 (by decide) (by decide) (ld_ws_1 x6) (fun s l => congrArg₂ (fun a j => VB (ix2 a j)) (Fin.ext (Nat.zero_add _).symm) rfl)
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![896, 0] ![128, 128] inb_S1024x512_S128x128_896_0).emb (ix2 x0 x1) 0).val = 896 + 1 * x0.val := rfl
    have e1 : ((Rect.unit (s := S1024x512) ![896, 0] ![128, 128] inb_S1024x512_S128x128_896_0).emb (ix2 x0 x1) 1).val = 0 + 1 * x1.val := rfl
    exact (congrFun (pay81 VB _) (ix2 x0 x1)).trans ((piece_at (fun p t s => x6 (ix3 p t s)) (fun a j => VB (ix2 a j)) _ _ 3 0 (by decide) (by decide) (ld_ws_0 x6) (fun s l => congrArg₂ (fun a j => VB (ix2 a j)) rfl (Fin.ext (Nat.zero_add _).symm))
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![768, 0] ![128, 128] inb_S1024x512_S128x128_768_0).emb (ix2 x0 x1) 0).val = 768 + 1 * x0.val := rfl
    have e1 : ((Rect.unit (s := S1024x512) ![768, 0] ![128, 128] inb_S1024x512_S128x128_768_0).emb (ix2 x0 x1) 1).val = 0 + 1 * x1.val := rfl
    exact (congrFun (pay80 VB _) (ix2 x0 x1)).trans ((piece_at (fun p t s => x6 (ix3 p t s)) (fun a j => VB (ix2 a j)) _ _ 2 0 (by decide) (by decide) (ld_ws_0 x6) (fun s l => congrArg₂ (fun a j => VB (ix2 a j)) rfl (Fin.ext (Nat.zero_add _).symm))
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![640, 0] ![128, 128] inb_S1024x512_S128x128_640_0).emb (ix2 x0 x1) 0).val = 640 + 1 * x0.val := rfl
    have e1 : ((Rect.unit (s := S1024x512) ![640, 0] ![128, 128] inb_S1024x512_S128x128_640_0).emb (ix2 x0 x1) 1).val = 0 + 1 * x1.val := rfl
    exact (congrFun (pay78 VB _) (ix2 x0 x1)).trans ((piece_at (fun p t s => x6 (ix3 p t s)) (fun a j => VB (ix2 a j)) _ _ 1 0 (by decide) (by decide) (ld_ws_0 x6) (fun s l => congrArg₂ (fun a j => VB (ix2 a j)) rfl (Fin.ext (Nat.zero_add _).symm))
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![512, 0] ![128, 128] inb_S1024x512_S128x128_512_0).emb (ix2 x0 x1) 0).val = 512 + 1 * x0.val := rfl
    have e1 : ((Rect.unit (s := S1024x512) ![512, 0] ![128, 128] inb_S1024x512_S128x128_512_0).emb (ix2 x0 x1) 1).val = 0 + 1 * x1.val := rfl
    exact (congrFun (pay77 VB _) (ix2 x0 x1)).trans ((piece_at (fun p t s => x6 (ix3 p t s)) (fun a j => VB (ix2 a j)) _ _ 0 0 (by decide) (by decide) (ld_ws_0 x6) (fun s l => congrArg₂ (fun a j => VB (ix2 a j)) (Fin.ext (Nat.zero_add _).symm) (Fin.ext (Nat.zero_add _).symm))
      x0 x1 _ _ (by dsimp only; rw [e0]; omega) (by dsimp only; rw [e1]; omega)).trans (mixes_snd (fun p t s => x6 (ix3 p t s)) (fun a j => VA (ix2 a j)) (fun a j => VB (ix2 a j)) _ (by rw [e0]; omega)).symm)
  · intro x
    idx_vars x
    have e0 : ((Rect.unit (s := S1024x512) ![384, 384] ![128, 128] inb_S1024x512_S128x128_384_384).emb (ix2 x0 x1) 0).val = 384 + 1 * x0.val := rfl
    have e1 : ((Rect.unit (s := S1024x512) ![384, 384] ![128, 128] inb_S1024x512_S128x128_384_384).emb (ix2 x0 x1) 1).val = 384 + 1 * x1.val := rfl
    exact (congrFun (pay71 VA _) (ix2 x0 x1)).trans ((piece_at (fun p t s => x6 (ix3 p t s)) (fun a j => VA (ix2 a j)) _ _ 3 3 (by decide) (by decide) (ld_ws_3 x6) (fun s l => congrArg₂ (fun a j => VA (ix2 a j)) rfl rfl)
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![256, 384] ![128, 128] inb_S1024x512_S128x128_256_384).emb (ix2 x0 x1) 0).val = 256 + 1 * x0.val := rfl
    have e1 : ((Rect.unit (s := S1024x512) ![256, 384] ![128, 128] inb_S1024x512_S128x128_256_384).emb (ix2 x0 x1) 1).val = 384 + 1 * x1.val := rfl
    exact (congrFun (pay70 VA _) (ix2 x0 x1)).trans ((piece_at (fun p t s => x6 (ix3 p t s)) (fun a j => VA (ix2 a j)) _ _ 2 3 (by decide) (by decide) (ld_ws_3 x6) (fun s l => congrArg₂ (fun a j => VA (ix2 a j)) rfl rfl)
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![128, 384] ![128, 128] inb_S1024x512_S128x128_128_384).emb (ix2 x0 x1) 0).val = 128 + 1 * x0.val := rfl
    have e1 : ((Rect.unit (s := S1024x512) ![128, 384] ![128, 128] inb_S1024x512_S128x128_128_384).emb (ix2 x0 x1) 1).val = 384 + 1 * x1.val := rfl
    exact (congrFun (pay67 VA _) (ix2 x0 x1)).trans ((piece_at (fun p t s => x6 (ix3 p t s)) (fun a j => VA (ix2 a j)) _ _ 1 3 (by decide) (by decide) (ld_ws_3 x6) (fun s l => congrArg₂ (fun a j => VA (ix2 a j)) rfl rfl)
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![0, 384] ![128, 128] inb_S1024x512_S128x128_0_384).emb (ix2 x0 x1) 0).val = 0 + 1 * x0.val := rfl
    have e1 : ((Rect.unit (s := S1024x512) ![0, 384] ![128, 128] inb_S1024x512_S128x128_0_384).emb (ix2 x0 x1) 1).val = 384 + 1 * x1.val := rfl
    exact (congrFun (pay66 VA _) (ix2 x0 x1)).trans ((piece_at (fun p t s => x6 (ix3 p t s)) (fun a j => VA (ix2 a j)) _ _ 0 3 (by decide) (by decide) (ld_ws_3 x6) (fun s l => congrArg₂ (fun a j => VA (ix2 a j)) (Fin.ext (Nat.zero_add _).symm) rfl)
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![384, 256] ![128, 128] inb_S1024x512_S128x128_384_256).emb (ix2 x0 x1) 0).val = 384 + 1 * x0.val := rfl
    have e1 : ((Rect.unit (s := S1024x512) ![384, 256] ![128, 128] inb_S1024x512_S128x128_384_256).emb (ix2 x0 x1) 1).val = 256 + 1 * x1.val := rfl
    exact (congrFun (pay63 VA _) (ix2 x0 x1)).trans ((piece_at (fun p t s => x6 (ix3 p t s)) (fun a j => VA (ix2 a j)) _ _ 3 2 (by decide) (by decide) (ld_ws_2 x6) (fun s l => congrArg₂ (fun a j => VA (ix2 a j)) rfl rfl)
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![256, 256] ![128, 128] inb_S1024x512_S128x128_256_256).emb (ix2 x0 x1) 0).val = 256 + 1 * x0.val := rfl
    have e1 : ((Rect.unit (s := S1024x512) ![256, 256] ![128, 128] inb_S1024x512_S128x128_256_256).emb (ix2 x0 x1) 1).val = 256 + 1 * x1.val := rfl
    exact (congrFun (pay62 VA _) (ix2 x0 x1)).trans ((piece_at (fun p t s => x6 (ix3 p t s)) (fun a j => VA (ix2 a j)) _ _ 2 2 (by decide) (by decide) (ld_ws_2 x6) (fun s l => congrArg₂ (fun a j => VA (ix2 a j)) rfl rfl)
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![128, 256] ![128, 128] inb_S1024x512_S128x128_128_256).emb (ix2 x0 x1) 0).val = 128 + 1 * x0.val := rfl
    have e1 : ((Rect.unit (s := S1024x512) ![128, 256] ![128, 128] inb_S1024x512_S128x128_128_256).emb (ix2 x0 x1) 1).val = 256 + 1 * x1.val := rfl
    exact (congrFun (pay60 VA _) (ix2 x0 x1)).trans ((piece_at (fun p t s => x6 (ix3 p t s)) (fun a j => VA (ix2 a j)) _ _ 1 2 (by decide) (by decide) (ld_ws_2 x6) (fun s l => congrArg₂ (fun a j => VA (ix2 a j)) rfl rfl)
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![0, 256] ![128, 128] inb_S1024x512_S128x128_0_256).emb (ix2 x0 x1) 0).val = 0 + 1 * x0.val := rfl
    have e1 : ((Rect.unit (s := S1024x512) ![0, 256] ![128, 128] inb_S1024x512_S128x128_0_256).emb (ix2 x0 x1) 1).val = 256 + 1 * x1.val := rfl
    exact (congrFun (pay59 VA _) (ix2 x0 x1)).trans ((piece_at (fun p t s => x6 (ix3 p t s)) (fun a j => VA (ix2 a j)) _ _ 0 2 (by decide) (by decide) (ld_ws_2 x6) (fun s l => congrArg₂ (fun a j => VA (ix2 a j)) (Fin.ext (Nat.zero_add _).symm) rfl)
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![384, 128] ![128, 128] inb_S1024x512_S128x128_384_128).emb (ix2 x0 x1) 0).val = 384 + 1 * x0.val := rfl
    have e1 : ((Rect.unit (s := S1024x512) ![384, 128] ![128, 128] inb_S1024x512_S128x128_384_128).emb (ix2 x0 x1) 1).val = 128 + 1 * x1.val := rfl
    exact (congrFun (pay56 VA _) (ix2 x0 x1)).trans ((piece_at (fun p t s => x6 (ix3 p t s)) (fun a j => VA (ix2 a j)) _ _ 3 1 (by decide) (by decide) (ld_ws_1 x6) (fun s l => congrArg₂ (fun a j => VA (ix2 a j)) rfl rfl)
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![256, 128] ![128, 128] inb_S1024x512_S128x128_256_128).emb (ix2 x0 x1) 0).val = 256 + 1 * x0.val := rfl
    have e1 : ((Rect.unit (s := S1024x512) ![256, 128] ![128, 128] inb_S1024x512_S128x128_256_128).emb (ix2 x0 x1) 1).val = 128 + 1 * x1.val := rfl
    exact (congrFun (pay55 VA _) (ix2 x0 x1)).trans ((piece_at (fun p t s => x6 (ix3 p t s)) (fun a j => VA (ix2 a j)) _ _ 2 1 (by decide) (by decide) (ld_ws_1 x6) (fun s l => congrArg₂ (fun a j => VA (ix2 a j)) rfl rfl)
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![128, 128] ![128, 128] inb_S1024x512_S128x128_128_128).emb (ix2 x0 x1) 0).val = 128 + 1 * x0.val := rfl
    have e1 : ((Rect.unit (s := S1024x512) ![128, 128] ![128, 128] inb_S1024x512_S128x128_128_128).emb (ix2 x0 x1) 1).val = 128 + 1 * x1.val := rfl
    exact (congrFun (pay53 VA _) (ix2 x0 x1)).trans ((piece_at (fun p t s => x6 (ix3 p t s)) (fun a j => VA (ix2 a j)) _ _ 1 1 (by decide) (by decide) (ld_ws_1 x6) (fun s l => congrArg₂ (fun a j => VA (ix2 a j)) rfl rfl)
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![0, 128] ![128, 128] inb_S1024x512_S128x128_0_128).emb (ix2 x0 x1) 0).val = 0 + 1 * x0.val := rfl
    have e1 : ((Rect.unit (s := S1024x512) ![0, 128] ![128, 128] inb_S1024x512_S128x128_0_128).emb (ix2 x0 x1) 1).val = 128 + 1 * x1.val := rfl
    exact (congrFun (pay52 VA _) (ix2 x0 x1)).trans ((piece_at (fun p t s => x6 (ix3 p t s)) (fun a j => VA (ix2 a j)) _ _ 0 1 (by decide) (by decide) (ld_ws_1 x6) (fun s l => congrArg₂ (fun a j => VA (ix2 a j)) (Fin.ext (Nat.zero_add _).symm) rfl)
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![384, 0] ![128, 128] inb_S1024x512_S128x128_384_0).emb (ix2 x0 x1) 0).val = 384 + 1 * x0.val := rfl
    have e1 : ((Rect.unit (s := S1024x512) ![384, 0] ![128, 128] inb_S1024x512_S128x128_384_0).emb (ix2 x0 x1) 1).val = 0 + 1 * x1.val := rfl
    exact (congrFun (pay49 VA _) (ix2 x0 x1)).trans ((piece_at (fun p t s => x6 (ix3 p t s)) (fun a j => VA (ix2 a j)) _ _ 3 0 (by decide) (by decide) (ld_ws_0 x6) (fun s l => congrArg₂ (fun a j => VA (ix2 a j)) rfl (Fin.ext (Nat.zero_add _).symm))
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![256, 0] ![128, 128] inb_S1024x512_S128x128_256_0).emb (ix2 x0 x1) 0).val = 256 + 1 * x0.val := rfl
    have e1 : ((Rect.unit (s := S1024x512) ![256, 0] ![128, 128] inb_S1024x512_S128x128_256_0).emb (ix2 x0 x1) 1).val = 0 + 1 * x1.val := rfl
    exact (congrFun (pay48 VA _) (ix2 x0 x1)).trans ((piece_at (fun p t s => x6 (ix3 p t s)) (fun a j => VA (ix2 a j)) _ _ 2 0 (by decide) (by decide) (ld_ws_0 x6) (fun s l => congrArg₂ (fun a j => VA (ix2 a j)) rfl (Fin.ext (Nat.zero_add _).symm))
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![128, 0] ![128, 128] inb_S1024x512_S128x128_128_0).emb (ix2 x0 x1) 0).val = 128 + 1 * x0.val := rfl
    have e1 : ((Rect.unit (s := S1024x512) ![128, 0] ![128, 128] inb_S1024x512_S128x128_128_0).emb (ix2 x0 x1) 1).val = 0 + 1 * x1.val := rfl
    exact (congrFun (pay46 VA _) (ix2 x0 x1)).trans ((piece_at (fun p t s => x6 (ix3 p t s)) (fun a j => VA (ix2 a j)) _ _ 1 0 (by decide) (by decide) (ld_ws_0 x6) (fun s l => congrArg₂ (fun a j => VA (ix2 a j)) rfl (Fin.ext (Nat.zero_add _).symm))
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)
  · intro x
    idx_vars x
    have e0 : ((Rect.unit (s := S1024x512) ![0, 0] ![128, 128] inb_S1024x512_S128x128_0_0).emb (ix2 x0 x1) 0).val = 0 + 1 * x0.val := rfl
    have e1 : ((Rect.unit (s := S1024x512) ![0, 0] ![128, 128] inb_S1024x512_S128x128_0_0).emb (ix2 x0 x1) 1).val = 0 + 1 * x1.val := rfl
    exact (congrFun (pay44 VA _) (ix2 x0 x1)).trans ((piece_at (fun p t s => x6 (ix3 p t s)) (fun a j => VA (ix2 a j)) _ _ 0 0 (by decide) (by decide) (ld_ws_0 x6) (fun s l => congrArg₂ (fun a j => VA (ix2 a j)) (Fin.ext (Nat.zero_add _).symm) (Fin.ext (Nat.zero_add _).symm))
      x0 x1 _ _ (by dsimp only; rw [e0]; omega) (by dsimp only; rw [e1]; omega)).trans (mixes_fst (fun p t s => x6 (ix3 p t s)) (fun a j => VA (ix2 a j)) (fun a j => VB (ix2 a j)) _ (by rw [e0]; omega)).symm)

/-- The load of a tile of the scratch: the tile's mixed values. -/
theorem word774 (c : Dev nD) (arg1 : Memref sig .tc .vmem S1024x1024 .f32) (h1 : arg1.IsWhole) (arg3 : Memref sig .tc .vmem S1x1024 .f32) (h3 : arg3.IsWhole) (arg4 : Memref sig .tc .vmem S1024x4096 .bf16) (h4 : arg4.IsWhole) (arg5 : Memref sig .tc .vmem S1x512 .f32) (h5 : arg5.IsWhole) (arg6 : Memref sig .tc .vmem S1x512 .f32) (h6 : arg6.IsWhole) (arg7 : Memref sig .tc .vmem S4x256x128 .f32) (h7 : arg7.IsWhole) (arg9 : Memref sig .tc .vmem S1024x128 .bf16) (h9 : arg9.IsWhole) (arg15 : Memref sig .tc .vmem S1024x512 .f32)
    (x0 : Vec 𝕀 S1024x1024 .f32) (x2 : Vec 𝕀 S1x1024 .f32) (x3 : Vec 𝕀 S1024x4096 .bf16) (x4 : Vec 𝕀 S1x512 .f32) (x5 : Vec 𝕀 S1x512 .f32) (x6 : Vec 𝕀 S4x256x128 .f32) (x8 : Vec 𝕀 S1024x128 .bf16) :
    kernelRun0_A.sl.v774 c arg1 h1 arg3 h3 arg4 h4 arg5 h5 arg6 h6 arg7 h7 arg9 h9 arg15 x0 x2 x3 x4 x5 x6 x8 = mk (mixed (fun p t s => x6 (ix3 p t s)) (vnorm (fun a => rms ((sub 512 1024 x0 0 0 (by decide) (by decide)) a) (sub 1 1024 x2 0 0 (by decide) (by decide) 0)) (sub 1024 512 x3 0 1024 (by decide) (by decide))
      (sub 1024 128 x8 0 0 (by decide) (by decide)) (sub 512 128 x8 0 0 (by decide) (by decide)) (sub 1 512 x4 0 0 (by decide) (by decide) 0)
      (sub 1 512 x5 0 0 (by decide) (by decide) 0))) := by
  unfold kernelRun0_A.sl.v774
  rw [View.readCov_eq_canon']
  funext y
  idx_vars y
  have e0 : ((Rect.unit (s := S1024x512) ![0, 0] ![512, 512] inb_S1024x512_S512x512_0_0).toLoadRect.idx (ix2 y0 y1) 0).val = 0 + 1 * y0.val := rfl
  have e1 : ((Rect.unit (s := S1024x512) ![0, 0] ![512, 512] inb_S1024x512_S512x512_0_0).toLoadRect.idx (ix2 y0 y1) 1).val = 0 + 1 * y1.val := rfl
  refine (scratch c arg1 h1 arg3 h3 arg4 h4 arg5 h5 arg6 h6 arg7 h7 arg9 h9 x0 x2 x3 x4 x5 x6 x8 _).trans ?_
  refine (mixes_fst _ _ _ _ (by rw [e0]; omega)).trans ?_
  rw [word18]
  exact congrArg₂ (mixed (fun p t s => x6 (ix3 p t s)) (vnorm (fun a => rms ((sub 512 1024 x0 0 0 (by decide) (by decide)) a) (sub 1 1024 x2 0 0 (by decide) (by decide) 0)) (sub 1024 512 x3 0 1024 (by decide) (by decide))
      (sub 1024 128 x8 0 0 (by decide) (by decide)) (sub 512 128 x8 0 0 (by decide) (by decide)) (sub 1 512 x4 0 0 (by decide) (by decide) 0)
      (sub 1 512 x5 0 0 (by decide) (by decide) 0))) (Fin.ext (e0.trans (show 0 + 1 * y0.val = y0.val by omega))) (Fin.ext (e1.trans (show 0 + 1 * y1.val = y1.val by omega)))

/-- The load of a tile of the scratch: the tile's mixed values. -/
theorem word823 (c : Dev nD) (arg1 : Memref sig .tc .vmem S1024x1024 .f32) (h1 : arg1.IsWhole) (arg3 : Memref sig .tc .vmem S1x1024 .f32) (h3 : arg3.IsWhole) (arg4 : Memref sig .tc .vmem S1024x4096 .bf16) (h4 : arg4.IsWhole) (arg5 : Memref sig .tc .vmem S1x512 .f32) (h5 : arg5.IsWhole) (arg6 : Memref sig .tc .vmem S1x512 .f32) (h6 : arg6.IsWhole) (arg7 : Memref sig .tc .vmem S4x256x128 .f32) (h7 : arg7.IsWhole) (arg9 : Memref sig .tc .vmem S1024x128 .bf16) (h9 : arg9.IsWhole) (arg15 : Memref sig .tc .vmem S1024x512 .f32)
    (x0 : Vec 𝕀 S1024x1024 .f32) (x2 : Vec 𝕀 S1x1024 .f32) (x3 : Vec 𝕀 S1024x4096 .bf16) (x4 : Vec 𝕀 S1x512 .f32) (x5 : Vec 𝕀 S1x512 .f32) (x6 : Vec 𝕀 S4x256x128 .f32) (x8 : Vec 𝕀 S1024x128 .bf16) :
    kernelRun0_A.sl.v823 c arg1 h1 arg3 h3 arg4 h4 arg5 h5 arg6 h6 arg7 h7 arg9 h9 arg15 x0 x2 x3 x4 x5 x6 x8 = mk (mixed (fun p t s => x6 (ix3 p t s)) (vnorm (fun a => rms ((sub 512 1024 x0 512 0 (by decide) (by decide)) a) (sub 1 1024 x2 0 0 (by decide) (by decide) 0)) (sub 1024 512 x3 0 1024 (by decide) (by decide))
      (sub 1024 128 x8 0 0 (by decide) (by decide)) (sub 512 128 x8 0 0 (by decide) (by decide)) (sub 1 512 x4 0 0 (by decide) (by decide) 0)
      (sub 1 512 x5 0 0 (by decide) (by decide) 0))) := by
  unfold kernelRun0_A.sl.v823
  rw [View.readCov_eq_canon']
  funext y
  idx_vars y
  have e0 : ((Rect.unit (s := S1024x512) ![512, 0] ![512, 512] inb_S1024x512_S512x512_512_0).toLoadRect.idx (ix2 y0 y1) 0).val = 512 + 1 * y0.val := rfl
  have e1 : ((Rect.unit (s := S1024x512) ![512, 0] ![512, 512] inb_S1024x512_S512x512_512_0).toLoadRect.idx (ix2 y0 y1) 1).val = 0 + 1 * y1.val := rfl
  refine (scratch c arg1 h1 arg3 h3 arg4 h4 arg5 h5 arg6 h6 arg7 h7 arg9 h9 x0 x2 x3 x4 x5 x6 x8 _).trans ?_
  refine (mixes_snd _ _ _ _ (by rw [e0]; omega)).trans ?_
  rw [word31]
  exact congrArg₂ (mixed (fun p t s => x6 (ix3 p t s)) (vnorm (fun a => rms ((sub 512 1024 x0 512 0 (by decide) (by decide)) a) (sub 1 1024 x2 0 0 (by decide) (by decide) 0)) (sub 1024 512 x3 0 1024 (by decide) (by decide))
      (sub 1024 128 x8 0 0 (by decide) (by decide)) (sub 512 128 x8 0 0 (by decide) (by decide)) (sub 1 512 x4 0 0 (by decide) (by decide) 0)
      (sub 1 512 x5 0 0 (by decide) (by decide) 0))) (Fin.ext ((congrArg (· - 512) e0).trans (show 512 + 1 * y0.val - 512 = y0.val by omega))) (Fin.ext (e1.trans (show 0 + 1 * y1.val = y1.val by omega)))

/-- The first tile's result rows. -/
theorem rowsA (c : Dev nD) (arg1 : Memref sig .tc .vmem S1024x1024 .f32) (h1 : arg1.IsWhole) (arg2 : Memref sig .tc .vmem S1024x512 .f32) (h2 : arg2.IsWhole) (arg3 : Memref sig .tc .vmem S1x1024 .f32) (h3 : arg3.IsWhole) (arg4 : Memref sig .tc .vmem S1024x4096 .bf16) (h4 : arg4.IsWhole) (arg5 : Memref sig .tc .vmem S1x512 .f32) (h5 : arg5.IsWhole) (arg6 : Memref sig .tc .vmem S1x512 .f32) (h6 : arg6.IsWhole) (arg7 : Memref sig .tc .vmem S4x256x128 .f32) (h7 : arg7.IsWhole) (arg8 : Memref sig .tc .vmem S128x512 .f32) (h8 : arg8.IsWhole) (arg9 : Memref sig .tc .vmem S1024x128 .bf16) (h9 : arg9.IsWhole) (arg10 : Memref sig .tc .vmem S512x1024 .bf16) (h10 : arg10.IsWhole) (arg11 : Memref sig .tc .vmem S512x1024 .bf16) (h11 : arg11.IsWhole) (arg12 : Memref sig .tc .vmem S1024x1024 .bf16) (h12 : arg12.IsWhole) (arg15 : Memref sig .tc .vmem S1024x512 .f32)
    (x0 : Vec 𝕀 S1024x1024 .f32) (x1 : Vec 𝕀 S1024x512 .f32) (x2 : Vec 𝕀 S1x1024 .f32) (x3 : Vec 𝕀 S1024x4096 .bf16) (x4 : Vec 𝕀 S1x512 .f32) (x5 : Vec 𝕀 S1x512 .f32) (x6 : Vec 𝕀 S4x256x128 .f32) (x7 : Vec 𝕀 S128x512 .f32) (x8 : Vec 𝕀 S1024x128 .bf16) (x9 : Vec 𝕀 S512x1024 .bf16) (x10 : Vec 𝕀 S512x1024 .bf16) (x11 : Vec 𝕀 S1024x1024 .bf16) (x12 : Vec 𝕀 S1x1024 .f32) :
    k0_pay108 (kernelRun0_A.sl.r_44 c arg1 h1 arg2 h2 arg3 h3 arg4 h4 arg5 h5 arg6 h6 arg7 h7 arg8 h8 arg9 h9 arg10 h10 arg11 h11 arg12 h12 arg15 x0 x1 x2 x3 x4 x5 x6 x7 x8 x9 x10 x11) (kernelRun0_A.sl.r_45 c arg1 h1 arg2 h2 arg3 h3 arg4 h4 arg5 h5 arg6 h6 arg7 h7 arg8 h8 arg9 h9 arg10 h10 arg11 h11 arg12 h12 arg15 x0 x1 x2 x3 x4 x5 x6 x7 x8 x9 x10 x11) k0_pay107 (View.ld x12 (Rect.unit ![0, 0] ![1, 1024] inb_S1x1024_S1x1024_0_0)) = mk (tile (sub 512 1024 x0 0 0 (by decide) (by decide)) (sub 512 512 x1 0 0 (by decide) (by decide)) (sub 1 1024 x2 0 0 (by decide) (by decide) 0)
      (sub 1024 512 x3 0 0 (by decide) (by decide)) (sub 1024 512 x3 0 512 (by decide) (by decide)) (sub 1024 512 x3 0 1024 (by decide) (by decide))
      (sub 1024 512 x3 0 1536 (by decide) (by decide)) (sub 1024 1024 x3 0 2048 (by decide) (by decide)) (sub 1024 1024 x3 0 3072 (by decide) (by decide))
      (sub 1 512 x4 0 0 (by decide) (by decide) 0) (sub 1 512 x5 0 0 (by decide) (by decide) 0) (fun p t s => x6 (ix3 p t s))
      (sub 128 512 x7 0 0 (by decide) (by decide)) (sub 1024 128 x8 0 0 (by decide) (by decide)) (sub 512 128 x8 0 0 (by decide) (by decide))
      (sub 512 1024 x9 0 0 (by decide) (by decide)) (sub 512 1024 x10 0 0 (by decide) (by decide)) (sub 1024 1024 x11 0 0 (by decide) (by decide))
      (sub 1 1024 x12 0 0 (by decide) (by decide) 0)) := by
  simp only [kernelRun0_A.sl.r_44, kernelRun0_A.sl.r_45, kernelRun0_A.sl.r_42, kernelRun0_A.sl.r_41, kernelRun0_A.sl.r_26, kernelRun0_A.sl.r_22, kernelRun0_A.sl.r_8, kernelRun0_A.sl.r_7, kernelRun0_A.sl.r_2, kernelRun0_A.sl.r_1, View.readAt_eq_ld, h1.read_unread, h2.read_unread, h3.read_unread, h4.read_unread, h8.read_unread, h10.read_unread, h11.read_unread, h12.read_unread]
  rw [word774, ld_1024_1024_512_1024_0_0 x0, ld_1024_512_512_512_0_0 x1, ld_1_1024_1_1024_0_0 x2, ld_1024_4096_1024_512_0_0 x3, ld_1024_4096_1024_512_0_512 x3, ld_1024_4096_1024_512_0_1536 x3, ld_1024_4096_1024_1024_0_2048 x3, ld_1024_4096_1024_1024_0_3072 x3, ld_128_512_128_512_0_0 x7, ld_512_1024_512_1024_0_0 x9, ld_512_1024_512_1024_0_0 x10, ld_1024_1024_1024_1024_0_0 x11, ld_1_1024_1_1024_0_0 x12]
  rw [pay108, pay74, pay35, pay31, pay14, pay8, pay7]
  rfl

/-- The second tile's result rows. -/
theorem rowsB (c : Dev nD) (arg1 : Memref sig .tc .vmem S1024x1024 .f32) (h1 : arg1.IsWhole) (arg2 : Memref sig .tc .vmem S1024x512 .f32) (h2 : arg2.IsWhole) (arg3 : Memref sig .tc .vmem S1x1024 .f32) (h3 : arg3.IsWhole) (arg4 : Memref sig .tc .vmem S1024x4096 .bf16) (h4 : arg4.IsWhole) (arg5 : Memref sig .tc .vmem S1x512 .f32) (h5 : arg5.IsWhole) (arg6 : Memref sig .tc .vmem S1x512 .f32) (h6 : arg6.IsWhole) (arg7 : Memref sig .tc .vmem S4x256x128 .f32) (h7 : arg7.IsWhole) (arg8 : Memref sig .tc .vmem S128x512 .f32) (h8 : arg8.IsWhole) (arg9 : Memref sig .tc .vmem S1024x128 .bf16) (h9 : arg9.IsWhole) (arg10 : Memref sig .tc .vmem S512x1024 .bf16) (h10 : arg10.IsWhole) (arg11 : Memref sig .tc .vmem S512x1024 .bf16) (h11 : arg11.IsWhole) (arg12 : Memref sig .tc .vmem S1024x1024 .bf16) (h12 : arg12.IsWhole) (arg15 : Memref sig .tc .vmem S1024x512 .f32)
    (x0 : Vec 𝕀 S1024x1024 .f32) (x1 : Vec 𝕀 S1024x512 .f32) (x2 : Vec 𝕀 S1x1024 .f32) (x3 : Vec 𝕀 S1024x4096 .bf16) (x4 : Vec 𝕀 S1x512 .f32) (x5 : Vec 𝕀 S1x512 .f32) (x6 : Vec 𝕀 S4x256x128 .f32) (x7 : Vec 𝕀 S128x512 .f32) (x8 : Vec 𝕀 S1024x128 .bf16) (x9 : Vec 𝕀 S512x1024 .bf16) (x10 : Vec 𝕀 S512x1024 .bf16) (x11 : Vec 𝕀 S1024x1024 .bf16) (x12 : Vec 𝕀 S1x1024 .f32) :
    k0_pay1 (kernelRun0_A.sl.r_46 c arg1 h1 arg2 h2 arg3 h3 arg4 h4 arg5 h5 arg6 h6 arg7 h7 arg8 h8 arg9 h9 arg10 h10 arg11 h11 arg12 h12 arg15 x0 x1 x2 x3 x4 x5 x6 x7 x8 x9 x10 x11) (kernelRun0_A.sl.r_47 c arg1 h1 arg2 h2 arg3 h3 arg4 h4 arg5 h5 arg6 h6 arg7 h7 arg8 h8 arg9 h9 arg10 h10 arg11 h11 arg12 h12 arg15 x0 x1 x2 x3 x4 x5 x6 x7 x8 x9 x10 x11) (View.ld x12 (Rect.unit ![0, 0] ![1, 1024] inb_S1x1024_S1x1024_0_0)) = mk (tile (sub 512 1024 x0 512 0 (by decide) (by decide)) (sub 512 512 x1 512 0 (by decide) (by decide)) (sub 1 1024 x2 0 0 (by decide) (by decide) 0)
      (sub 1024 512 x3 0 0 (by decide) (by decide)) (sub 1024 512 x3 0 512 (by decide) (by decide)) (sub 1024 512 x3 0 1024 (by decide) (by decide))
      (sub 1024 512 x3 0 1536 (by decide) (by decide)) (sub 1024 1024 x3 0 2048 (by decide) (by decide)) (sub 1024 1024 x3 0 3072 (by decide) (by decide))
      (sub 1 512 x4 0 0 (by decide) (by decide) 0) (sub 1 512 x5 0 0 (by decide) (by decide) 0) (fun p t s => x6 (ix3 p t s))
      (sub 128 512 x7 0 0 (by decide) (by decide)) (sub 1024 128 x8 0 0 (by decide) (by decide)) (sub 512 128 x8 0 0 (by decide) (by decide))
      (sub 512 1024 x9 0 0 (by decide) (by decide)) (sub 512 1024 x10 0 0 (by decide) (by decide)) (sub 1024 1024 x11 0 0 (by decide) (by decide))
      (sub 1 1024 x12 0 0 (by decide) (by decide) 0)) := by
  simp only [kernelRun0_A.sl.r_46, kernelRun0_A.sl.r_47, kernelRun0_A.sl.r_43, kernelRun0_A.sl.r_40, kernelRun0_A.sl.r_39, kernelRun0_A.sl.r_25, kernelRun0_A.sl.r_24, kernelRun0_A.sl.r_23, kernelRun0_A.sl.r_10, kernelRun0_A.sl.r_9, View.readAt_eq_ld, h1.read_unread, h2.read_unread, h3.read_unread, h4.read_unread, h8.read_unread, h10.read_unread, h11.read_unread, h12.read_unread]
  rw [word823, ld_1024_1024_512_1024_512_0 x0, ld_1024_512_512_512_512_0 x1, ld_1_1024_1_1024_0_0 x2, ld_1024_4096_1024_512_0_0 x3, ld_1024_4096_1024_512_0_512 x3, ld_1024_4096_1024_512_0_1536 x3, ld_1024_4096_1024_1024_0_2048 x3, ld_1024_4096_1024_1024_0_3072 x3, ld_128_512_128_512_0_0 x7, ld_512_1024_512_1024_0_0 x9, ld_512_1024_512_1024_0_0 x10, ld_1024_1024_1024_1024_0_0 x11, ld_1_1024_1_1024_0_0 x12]
  rw [pay1, pay104, pay73, pay72, pay34, pay16, pay15]
  rfl

/-- What a step leaves in its output block. -/
def block (x0 : Vec 𝕀 S1024x1024 .f32) (x1 : Vec 𝕀 S1024x512 .f32) (x2 : Vec 𝕀 S1x1024 .f32) (x3 : Vec 𝕀 S1024x4096 .bf16) (x4 : Vec 𝕀 S1x512 .f32) (x5 : Vec 𝕀 S1x512 .f32) (x6 : Vec 𝕀 S4x256x128 .f32) (x7 : Vec 𝕀 S128x512 .f32) (x8 : Vec 𝕀 S1024x128 .bf16) (x9 : Vec 𝕀 S512x1024 .bf16) (x10 : Vec 𝕀 S512x1024 .bf16) (x11 : Vec 𝕀 S1024x1024 .bf16) (x12 : Vec 𝕀 S1x1024 .f32) : S1024x1024.Idx → EReal := fun y =>
  if h : (y 0).val < 512 then (tile (sub 512 1024 x0 0 0 (by decide) (by decide)) (sub 512 512 x1 0 0 (by decide) (by decide)) (sub 1 1024 x2 0 0 (by decide) (by decide) 0)
      (sub 1024 512 x3 0 0 (by decide) (by decide)) (sub 1024 512 x3 0 512 (by decide) (by decide)) (sub 1024 512 x3 0 1024 (by decide) (by decide))
      (sub 1024 512 x3 0 1536 (by decide) (by decide)) (sub 1024 1024 x3 0 2048 (by decide) (by decide)) (sub 1024 1024 x3 0 3072 (by decide) (by decide))
      (sub 1 512 x4 0 0 (by decide) (by decide) 0) (sub 1 512 x5 0 0 (by decide) (by decide) 0) (fun p t s => x6 (ix3 p t s))
      (sub 128 512 x7 0 0 (by decide) (by decide)) (sub 1024 128 x8 0 0 (by decide) (by decide)) (sub 512 128 x8 0 0 (by decide) (by decide))
      (sub 512 1024 x9 0 0 (by decide) (by decide)) (sub 512 1024 x10 0 0 (by decide) (by decide)) (sub 1024 1024 x11 0 0 (by decide) (by decide))
      (sub 1 1024 x12 0 0 (by decide) (by decide) 0)) ⟨(y 0).val, h⟩ ⟨(y 1).val, (y 1).isLt⟩
  else (tile (sub 512 1024 x0 512 0 (by decide) (by decide)) (sub 512 512 x1 512 0 (by decide) (by decide)) (sub 1 1024 x2 0 0 (by decide) (by decide) 0)
      (sub 1024 512 x3 0 0 (by decide) (by decide)) (sub 1024 512 x3 0 512 (by decide) (by decide)) (sub 1024 512 x3 0 1024 (by decide) (by decide))
      (sub 1024 512 x3 0 1536 (by decide) (by decide)) (sub 1024 1024 x3 0 2048 (by decide) (by decide)) (sub 1024 1024 x3 0 3072 (by decide) (by decide))
      (sub 1 512 x4 0 0 (by decide) (by decide) 0) (sub 1 512 x5 0 0 (by decide) (by decide) 0) (fun p t s => x6 (ix3 p t s))
      (sub 128 512 x7 0 0 (by decide) (by decide)) (sub 1024 128 x8 0 0 (by decide) (by decide)) (sub 512 128 x8 0 0 (by decide) (by decide))
      (sub 512 1024 x9 0 0 (by decide) (by decide)) (sub 512 1024 x10 0 0 (by decide) (by decide)) (sub 1024 1024 x11 0 0 (by decide) (by decide))
      (sub 1 1024 x12 0 0 (by decide) (by decide) 0)) ⟨(y 0).val - 512, by have h : (y 0).val < 1024 := (y 0).isLt; omega⟩ ⟨(y 1).val, (y 1).isLt⟩

/-- The output block after a step. -/
theorem out_A (i : grid0.Coords) (c : Dev nD) (arg1 : Memref sig .tc .vmem S1024x1024 .f32) (h1 : arg1.IsWhole) (arg2 : Memref sig .tc .vmem S1024x512 .f32) (h2 : arg2.IsWhole) (arg3 : Memref sig .tc .vmem S1x1024 .f32) (h3 : arg3.IsWhole) (arg4 : Memref sig .tc .vmem S1024x4096 .bf16) (h4 : arg4.IsWhole) (arg5 : Memref sig .tc .vmem S1x512 .f32) (h5 : arg5.IsWhole) (arg6 : Memref sig .tc .vmem S1x512 .f32) (h6 : arg6.IsWhole) (arg7 : Memref sig .tc .vmem S4x256x128 .f32) (h7 : arg7.IsWhole) (arg8 : Memref sig .tc .vmem S128x512 .f32) (h8 : arg8.IsWhole) (arg9 : Memref sig .tc .vmem S1024x128 .bf16) (h9 : arg9.IsWhole) (arg10 : Memref sig .tc .vmem S512x1024 .bf16) (h10 : arg10.IsWhole) (arg11 : Memref sig .tc .vmem S512x1024 .bf16) (h11 : arg11.IsWhole) (arg12 : Memref sig .tc .vmem S1024x1024 .bf16) (h12 : arg12.IsWhole) (arg13 : Memref sig .tc .vmem S1x1024 .f32) (h13 : arg13.IsWhole) (arg14 : Memref sig .tc .vmem S1024x1024 .f32) (h14 : arg14.IsWhole) (arg15 : Memref sig .tc .vmem S1024x512 .f32) (h15 : arg15.IsWhole)
    (x0 : Vec 𝕀 S1024x1024 .f32) (x1 : Vec 𝕀 S1024x512 .f32) (x2 : Vec 𝕀 S1x1024 .f32) (x3 : Vec 𝕀 S1024x4096 .bf16) (x4 : Vec 𝕀 S1x512 .f32) (x5 : Vec 𝕀 S1x512 .f32) (x6 : Vec 𝕀 S4x256x128 .f32) (x7 : Vec 𝕀 S128x512 .f32) (x8 : Vec 𝕀 S1024x128 .bf16) (x9 : Vec 𝕀 S512x1024 .bf16) (x10 : Vec 𝕀 S512x1024 .bf16) (x11 : Vec 𝕀 S1024x1024 .bf16) (x12 : Vec 𝕀 S1x1024 .f32) :
    out0_A_13 c i arg1 h1 arg2 h2 arg3 h3 arg4 h4 arg5 h5 arg6 h6 arg7 h7 arg8 h8 arg9 h9 arg10 h10 arg11 h11 arg12 h12 arg13 h13 arg14 h14 arg15 h15 x0 x1 x2 x3 x4 x5 x6 x7 x8 x9 x10 x11 x12 = block x0 x1 x2 x3 x4 x5 x6 x7 x8 x9 x10 x11 x12 := by
  unfold out0_A_13
  rw [View.read_writes_eq_canon _ _ _ (cover0_A_13 c i arg1 h1 arg2 h2 arg3 h3 arg4 h4 arg5 h5 arg6 h6 arg7 h7 arg8 h8 arg9 h9 arg10 h10 arg11 h11 arg12 h12 arg13 h13 arg14 h14 arg15 h15 x0 x1 x2 x3 x4 x5 x6 x7 x8 x9 x10 x11 x12)]
  funext y
  refine View.canon_apply_of_pieces (Val := Elt 𝕀) (e := .f32) (block x0 x1 x2 x3 x4 x5 x6 x7 x8 x9 x10 x11 x12) _ ?_ y (cover0_A_13 c i arg1 h1 arg2 h2 arg3 h3 arg4 h4 arg5 h5 arg6 h6 arg7 h7 arg8 h8 arg9 h9 arg10 h10 arg11 h11 arg12 h12 arg13 h13 arg14 h14 arg15 h15 x0 x1 x2 x3 x4 x5 x6 x7 x8 x9 x10 x11 x12 y)
  unfold kernelRun0_A
  dsimp only
  simp only [View.readAt_eq_ld, h13.read_unread]
  rw [rowsA, rowsB]
  generalize x0 = b0
  generalize x1 = b1
  simp only [List.forall_mem_cons]
  refine ⟨?_, ?_, fun p hp => absurd hp List.not_mem_nil⟩
  · intro x
    idx_vars x
    have e0 : ((Rect.unit (s := S1024x1024) ![512, 0] ![512, 1024] inb_S1024x1024_S512x1024_512_0).emb (ix2 x0 x1) 0).val = 512 + 1 * x0.val := rfl
    have e1 : ((Rect.unit (s := S1024x1024) ![512, 0] ![512, 1024] inb_S1024x1024_S512x1024_512_0).emb (ix2 x0 x1) 1).val = 0 + 1 * x1.val := rfl
    refine Eq.trans ?_ (dif_neg (by rw [e0]; omega)).symm
    exact congrArg₂ (tile (sub 512 1024 b0 512 0 (by decide) (by decide)) (sub 512 512 b1 512 0 (by decide) (by decide)) (sub 1 1024 x2 0 0 (by decide) (by decide) 0)
      (sub 1024 512 x3 0 0 (by decide) (by decide)) (sub 1024 512 x3 0 512 (by decide) (by decide)) (sub 1024 512 x3 0 1024 (by decide) (by decide))
      (sub 1024 512 x3 0 1536 (by decide) (by decide)) (sub 1024 1024 x3 0 2048 (by decide) (by decide)) (sub 1024 1024 x3 0 3072 (by decide) (by decide))
      (sub 1 512 x4 0 0 (by decide) (by decide) 0) (sub 1 512 x5 0 0 (by decide) (by decide) 0) (fun p t s => x6 (ix3 p t s))
      (sub 128 512 x7 0 0 (by decide) (by decide)) (sub 1024 128 x8 0 0 (by decide) (by decide)) (sub 512 128 x8 0 0 (by decide) (by decide))
      (sub 512 1024 x9 0 0 (by decide) (by decide)) (sub 512 1024 x10 0 0 (by decide) (by decide)) (sub 1024 1024 x11 0 0 (by decide) (by decide))
      (sub 1 1024 x12 0 0 (by decide) (by decide) 0)) (Fin.ext ((congrArg (· - 512) e0).trans (show 512 + 1 * x0.val - 512 = x0.val by omega)).symm) (Fin.ext (e1.trans (show 0 + 1 * x1.val = x1.val by omega)).symm)
  · intro x
    idx_vars x
    have e0 : ((Rect.unit (s := S1024x1024) ![0, 0] ![512, 1024] inb_S1024x1024_S512x1024_0_0).emb (ix2 x0 x1) 0).val = 0 + 1 * x0.val := rfl
    have e1 : ((Rect.unit (s := S1024x1024) ![0, 0] ![512, 1024] inb_S1024x1024_S512x1024_0_0).emb (ix2 x0 x1) 1).val = 0 + 1 * x1.val := rfl
    refine Eq.trans ?_ (dif_pos (by rw [e0]; omega)).symm
    exact congrArg₂ (tile (sub 512 1024 b0 0 0 (by decide) (by decide)) (sub 512 512 b1 0 0 (by decide) (by decide)) (sub 1 1024 x2 0 0 (by decide) (by decide) 0)
      (sub 1024 512 x3 0 0 (by decide) (by decide)) (sub 1024 512 x3 0 512 (by decide) (by decide)) (sub 1024 512 x3 0 1024 (by decide) (by decide))
      (sub 1024 512 x3 0 1536 (by decide) (by decide)) (sub 1024 1024 x3 0 2048 (by decide) (by decide)) (sub 1024 1024 x3 0 3072 (by decide) (by decide))
      (sub 1 512 x4 0 0 (by decide) (by decide) 0) (sub 1 512 x5 0 0 (by decide) (by decide) 0) (fun p t s => x6 (ix3 p t s))
      (sub 128 512 x7 0 0 (by decide) (by decide)) (sub 1024 128 x8 0 0 (by decide) (by decide)) (sub 512 128 x8 0 0 (by decide) (by decide))
      (sub 512 1024 x9 0 0 (by decide) (by decide)) (sub 512 1024 x10 0 0 (by decide) (by decide)) (sub 1024 1024 x11 0 0 (by decide) (by decide))
      (sub 1 1024 x12 0 0 (by decide) (by decide) 0)) (Fin.ext (e0.trans (show 0 + 1 * x0.val = x0.val by omega)).symm) (Fin.ext (e1.trans (show 0 + 1 * x1.val = x1.val by omega)).symm)
end Cert.Tail
end
-- ==== Proof.TailValue.lean ====
/- After the run of the call that follows the attention: every row of its output array. -/
module

public import proofs.«01_k».proof.Proof.TailPieces
public import proofs.«01_k».proof.Proof.Gen.KernelTailIdeal.Value
public import Idealize.ShloMosaic.Lib.Pipeline.ValueKit

@[expose] public section
set_option maxHeartbeats 1000000
set_option maxRecDepth 16384
noncomputable section
namespace Cert.Tail
open Cert.KernelTailIdeal Cert.KernelTailIdeal.Gen Idealize.ShloMosaic Idealize.ShloMosaic.TcCoe Idealize.SL.Sem
open Idealize.ShloMosaic.Pipeline (Dat)

local notation "𝕀" => Idealize.ShloMosaic.Ideal

/-- What row `R` of the output becomes: its tile of 512 rows worked through. -/
def whole (X : S32768x1024.Idx → EReal) (O : S32768x512.Idx → EReal) (x2 : Vec 𝕀 S1x1024 .f32) (x3 : Vec 𝕀 S1024x4096 .bf16) (x4 : Vec 𝕀 S1x512 .f32) (x5 : Vec 𝕀 S1x512 .f32) (x6 : Vec 𝕀 S4x256x128 .f32) (x7 : Vec 𝕀 S128x512 .f32) (x8 : Vec 𝕀 S1024x128 .bf16) (x9 : Vec 𝕀 S512x1024 .bf16) (x10 : Vec 𝕀 S512x1024 .bf16) (x11 : Vec 𝕀 S1024x1024 .bf16) (x12 : Vec 𝕀 S1x1024 .f32) (R : Fin 32768) (k : Fin 1024) : EReal :=
  tile (fun a k => X (ix2 ⟨512 * (R.val / 512) + a.val, by omega⟩ k)) (fun a k => O (ix2 ⟨512 * (R.val / 512) + a.val, by omega⟩ k))
      (sub 1 1024 x2 0 0 (by decide) (by decide) 0)
      (sub 1024 512 x3 0 0 (by decide) (by decide)) (sub 1024 512 x3 0 512 (by decide) (by decide)) (sub 1024 512 x3 0 1024 (by decide) (by decide))
      (sub 1024 512 x3 0 1536 (by decide) (by decide)) (sub 1024 1024 x3 0 2048 (by decide) (by decide)) (sub 1024 1024 x3 0 3072 (by decide) (by decide))
      (sub 1 512 x4 0 0 (by decide) (by decide) 0) (sub 1 512 x5 0 0 (by decide) (by decide) 0) (fun p t s => x6 (ix3 p t s))
      (sub 128 512 x7 0 0 (by decide) (by decide)) (sub 1024 128 x8 0 0 (by decide) (by decide)) (sub 512 128 x8 0 0 (by decide) (by decide))
      (sub 512 1024 x9 0 0 (by decide) (by decide)) (sub 512 1024 x10 0 0 (by decide) (by decide)) (sub 1024 1024 x11 0 0 (by decide) (by decide))
      (sub 1 1024 x12 0 0 (by decide) (by decide) 0) ⟨R.val % 512, by omega⟩ k

/-- A step's block is those rows of the array. -/
theorem block_eq (n : Nat) (hn : n < 32) (X : S32768x1024.Idx → EReal) (O : S32768x512.Idx → EReal) (x0 : Vec 𝕀 S1024x1024 .f32) (x1 : Vec 𝕀 S1024x512 .f32) (x2 : Vec 𝕀 S1x1024 .f32) (x3 : Vec 𝕀 S1024x4096 .bf16) (x4 : Vec 𝕀 S1x512 .f32) (x5 : Vec 𝕀 S1x512 .f32) (x6 : Vec 𝕀 S4x256x128 .f32) (x7 : Vec 𝕀 S128x512 .f32) (x8 : Vec 𝕀 S1024x128 .bf16) (x9 : Vec 𝕀 S512x1024 .bf16) (x10 : Vec 𝕀 S512x1024 .bf16) (x11 : Vec 𝕀 S1024x1024 .bf16) (x12 : Vec 𝕀 S1x1024 .f32)
    (h0 : ∀ (r : Fin 1024) (k : Fin 1024), x0 (ix2 r k) = X (ix2 ⟨1024 * n + r.val, by omega⟩ k))
    (h1 : ∀ (r : Fin 1024) (k : Fin 512), x1 (ix2 r k) = O (ix2 ⟨1024 * n + r.val, by omega⟩ k))
    (y : S1024x1024.Idx) (R : Fin 32768) (k : Fin 1024) (hR : R.val = 1024 * n + (y 0).val) (hk : k.val = (y 1).val) :
    block x0 x1 x2 x3 x4 x5 x6 x7 x8 x9 x10 x11 x12 y = whole X O x2 x3 x4 x5 x6 x7 x8 x9 x10 x11 x12 R k := by
  have hy : (y 0).val < 1024 := (y 0).isLt
  have key : ∀ (o : Nat) (ho : o + 512 ≤ 1024) (hd : 512 * (R.val / 512) = 1024 * n + o),
      sub 512 1024 x0 o 0 ho (by decide) = (fun a k => X (ix2 ⟨512 * (R.val / 512) + a.val, by omega⟩ k))
      ∧ sub 512 512 x1 o 0 ho (by decide) = (fun a k => O (ix2 ⟨512 * (R.val / 512) + a.val, by omega⟩ k)) := by
    intro o ho hd
    constructor <;> funext a k <;> unfold sub
    · rw [h0]; exact congrArg X (congrArg₂ ix2 (Fin.ext (by dsimp only; omega)) (Fin.ext (by simp)))
    · rw [h1]; exact congrArg O (congrArg₂ ix2 (Fin.ext (by dsimp only; omega)) (Fin.ext (by simp)))
  have ek : k = ⟨(y 1).val, (y 1).isLt⟩ := Fin.ext hk
  unfold block whole
  split
  · rename_i h
    obtain ⟨e0, e1⟩ := key 0 (by decide) (by omega)
    have ea : (⟨R.val % 512, by omega⟩ : Fin 512) = ⟨(y 0).val, h⟩ := Fin.ext (show R.val % 512 = (y 0).val by omega)
    rw [e0, e1, ea, ek]
  · rename_i h
    obtain ⟨e0, e1⟩ := key 512 (by decide) (by omega)
    have ea : (⟨R.val % 512, by omega⟩ : Fin 512) = ⟨(y 0).val - 512, by omega⟩ := Fin.ext (show R.val % 512 = (y 0).val - 512 by omega)
    rw [e0, e1, ea, ek]

variable (m : (ℓ : Loc nD τ sig) → Buf (Elt Idealize.ShloMosaic.Ideal) ℓ)

/-- The activations' array. -/
def rows (c : Dev nD) : S32768x1024.Idx → EReal := V m c main_v0
/-- The attention's output's array. -/
def outcome (c : Dev nD) : S32768x512.Idx → EReal := V m c main_v18

/-- The block indices of the inputs and the output. -/
theorem index_eq : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![t.val, 0] := by
  decide +kernel

/-- The number of points. -/
theorem point_lt (t : Fin cfg0.N) : t.val < 32 := lt_of_lt_of_eq t.isLt N_0

/-- Point `t`'s block of the activations. -/
theorem iblk0_apply (c : Dev nD) (t : Fin cfg0.N) (r : Fin 1024) (k : Fin 1024) :
    (iblk m c 0 t : S1024x1024.Idx → EReal) (ix2 r k)
      = rows m c (ix2 ⟨1024 * t.val + r.val, by have := point_lt t; omega⟩ k) := by
  unfold rows
  blk_ext [iblk, index_eq t]
/-- Point `t`'s block of the attention's output. -/
theorem iblk1_apply (c : Dev nD) (t : Fin cfg0.N) (r : Fin 1024) (k : Fin 512) :
    (iblk m c 1 t : S1024x512.Idx → EReal) (ix2 r k)
      = outcome m c (ix2 ⟨1024 * t.val + r.val, by have := point_lt t; omega⟩ k) := by
  unfold outcome
  blk_ext [iblk, index_eq t]
/-- Window 2's block is its whole array. -/
theorem iblk2_eq (c : Dev nD) (t : Fin cfg0.N) : (iblk m c 2 t : S1x1024.Idx → EReal) = (V m c main_v19 : S1x1024.Idx → EReal) := by
  funext y
  blk_ext [iblk, index_eq t]
/-- Window 3's block is its whole array. -/
theorem iblk3_eq (c : Dev nD) (t : Fin cfg0.N) : (iblk m c 3 t : S1024x4096.Idx → EReal) = (V m c main_v21 : S1024x4096.Idx → EReal) := by
  funext y
  blk_ext [iblk, index_eq t]
/-- Window 4's block is its whole array. -/
theorem iblk4_eq (c : Dev nD) (t : Fin cfg0.N) : (iblk m c 4 t : S1x512.Idx → EReal) = (V m c main_v22 : S1x512.Idx → EReal) := by
  funext y
  blk_ext [iblk, index_eq t]
/-- Window 5's block is its whole array. -/
theorem iblk5_eq (c : Dev nD) (t : Fin cfg0.N) : (iblk m c 5 t : S1x512.Idx → EReal) = (V m c main_v23 : S1x512.Idx → EReal) := by
  funext y
  blk_ext [iblk, index_eq t]
/-- Window 6's block is its whole array. -/
theorem iblk6_eq (c : Dev nD) (t : Fin cfg0.N) : (iblk m c 6 t : S4x256x128.Idx → EReal) = (V m c main_v24 : S4x256x128.Idx → EReal) := by
  funext y
  blk_ext [iblk, index_eq t]
/-- Window 7's block is its whole array. -/
theorem iblk7_eq (c : Dev nD) (t : Fin cfg0.N) : (iblk m c 7 t : S128x512.Idx → EReal) = (V m c main_v17 : S128x512.Idx → EReal) := by
  funext y
  blk_ext [iblk, index_eq t]
/-- Window 8's block is its whole array. -/
theorem iblk8_eq (c : Dev nD) (t : Fin cfg0.N) : (iblk m c 8 t : S1024x128.Idx → EReal) = (V m c main_v14 : S1024x128.Idx → EReal) := by
  funext y
  blk_ext [iblk, index_eq t]
/-- Window 9's block is its whole array. -/
theorem iblk9_eq (c : Dev nD) (t : Fin cfg0.N) : (iblk m c 9 t : S512x1024.Idx → EReal) = (V m c main_v25 : S512x1024.Idx → EReal) := by
  funext y
  blk_ext [iblk, index_eq t]
/-- Window 10's block is its whole array. -/
theorem iblk10_eq (c : Dev nD) (t : Fin cfg0.N) : (iblk m c 10 t : S512x1024.Idx → EReal) = (V m c main_v26 : S512x1024.Idx → EReal) := by
  funext y
  blk_ext [iblk, index_eq t]
/-- Window 11's block is its whole array. -/
theorem iblk11_eq (c : Dev nD) (t : Fin cfg0.N) : (iblk m c 11 t : S1024x1024.Idx → EReal) = (V m c main_v27 : S1024x1024.Idx → EReal) := by
  funext y
  blk_ext [iblk, index_eq t]
/-- Window 12's block is its whole array. -/
theorem iblk12_eq (c : Dev nD) (t : Fin cfg0.N) : (iblk m c 12 t : S1x1024.Idx → EReal) = (V m c main_v28 : S1x1024.Idx → EReal) := by
  funext y
  blk_ext [iblk, index_eq t]

/-- The output's array after the run. -/
def res (c : Dev nD) : S32768x1024.Idx → EReal := fun y =>
  whole (rows m c) (outcome m c) (V m c main_v19) (V m c main_v21) (V m c main_v22) (V m c main_v23) (V m c main_v24) (V m c main_v17) (V m c main_v14) (V m c main_v25) (V m c main_v26) (V m c main_v27) (V m c main_v28) ⟨(y 0).val, (y 0).isLt⟩ ⟨(y 1).val, (y 1).isLt⟩

/-- The run leaves `res` in the output's array. -/
theorem final (c : Dev nD) : (dats m 0 c).arrAt 13 cfg0.N = res m c := by
  refine (dats m 0 c).arrAt_eq_of_covers 13 _ (by decide +kernel) fun t hf y => ?_
  blk_simp
  rw [after0_13]
  unfold outsAt0
  rw [out_A, iblk2_eq, iblk3_eq, iblk4_eq, iblk5_eq, iblk6_eq, iblk7_eq, iblk8_eq, iblk9_eq, iblk10_eq, iblk11_eq, iblk12_eq]
  show block _ _ _ _ _ _ _ _ _ _ _ _ _ y = res m c (((cfg0.win 13).blk t).view.emb y)
  have e0 : ((((cfg0.win 13).blk t).view.emb y) 0).val = 1024 * t.val + (y 0).val := by blk_simp [index_eq t]; try omega
  have e1 : ((((cfg0.win 13).blk t).view.emb y) 1).val = (y 1).val := by blk_simp [index_eq t]; try omega
  unfold res
  exact block_eq t.val (point_lt t) _ _ _ _ _ _ _ _ _ _ _ _ _ _ _ (iblk0_apply m c t) (iblk1_apply m c t) y _ _ e0 e1

end Cert.Tail
end
-- ==== Proof.TailReal.lean ====
/- Real numbers among the extended reals: the group mean as a product with the group matrix is the plain mean where the
   values are real, and the values are real where the rows and the weights are. -/
module

public import proofs.«01_k».proof.Proof.TailPieces

@[expose] public section
set_option maxHeartbeats 1000000
set_option maxRecDepth 16384
noncomputable section
namespace Cert.Tail
open Idealize.ShloMosaic

/-- A real number among the extended reals. -/
def IsReal (x : EReal) : Prop := ∃ r : ℝ, x = (r : EReal)

/-- A number that leaves nothing when taken from itself is real. -/
theorem isReal_of_sub {x : EReal} (h : x - x = 0) : IsReal x := by
  induction x using EReal.rec with
  | bot => simp at h
  | top => simp at h
  | coe r => exact ⟨r, rfl⟩

/-- A real number leaves nothing when taken from itself. -/
theorem IsReal.sub_self {x : EReal} (h : IsReal x) : x - x = 0 := by
  obtain ⟨r, rfl⟩ := h
  rw [← EReal.coe_sub, _root_.sub_self, EReal.coe_zero]

/-- The sum of two real numbers is real. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- The difference of two real numbers is real. -/
theorem IsReal.sub {x y : EReal} (hx : IsReal x) (hy : IsReal y) : IsReal (x - y) := by
  obtain ⟨r, rfl⟩ := hx
  obtain ⟨s, rfl⟩ := hy
  exact ⟨r - s, (EReal.coe_sub r s).symm⟩

/-- The product of two real numbers is real. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A sum of real numbers taken among the extended reals is their real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of real numbers is real. -/
theorem isReal_sum {ι : Type} [Fintype ι] {f : ι → EReal} (h : ∀ i, IsReal (f i)) : IsReal (∑ i, f i) := by
  choose r hr using h
  simp only [hr]
  exact ⟨_, coe_sum _ r⟩

/-- The hyperbolic tangent of a real number is real. -/
theorem IsReal.tanh {x : EReal} (h : IsReal x) : IsReal (Ideal.tanh x) := by
  obtain ⟨r, rfl⟩ := h
  exact ⟨Real.tanh r, rfl⟩

/-- The number 64. -/
theorem word_64 : Ideal.ofBits FTy.f32 1115684864#32 = ((64 : ℝ) : EReal) := by
  simp [Ideal.ofBits, Ideal.ieee, -EReal.coe_mul]; norm_num

/-- The number 1024. -/
theorem word_1024 : Ideal.ofBits FTy.f32 1149239296#32 = ((1024 : ℝ) : EReal) := by
  simp [Ideal.ofBits, Ideal.ieee, -EReal.coe_mul]; norm_num

/-- The small number added to a variance is a positive real. -/
theorem word_eps : ∃ e : ℝ, 0 < e ∧ Ideal.ofBits FTy.f32 897988541#32 = (e : EReal) := by
  refine ⟨_, ?_, by simp [Ideal.ofBits, Ideal.ieee, -EReal.coe_mul]; rfl⟩
  norm_num

/-- One half is real. -/
theorem real_half : IsReal (Ideal.ofBits FTy.f32 1056964608#32) := ⟨_, by simp [Ideal.ofBits, Ideal.ieee, -EReal.coe_mul]; rfl⟩
/-- The Gaussian unit's first constant is real. -/
theorem real_c1 : IsReal (Ideal.ofBits FTy.f32 1061962282#32) := ⟨_, by simp [Ideal.ofBits, Ideal.ieee, -EReal.coe_mul]; rfl⟩
/-- The Gaussian unit's second constant is real. -/
theorem real_c2 : IsReal (Ideal.ofBits FTy.f32 1027024659#32) := ⟨_, by simp [Ideal.ofBits, Ideal.ieee, -EReal.coe_mul]; rfl⟩

/-- One is real. -/
theorem real_one : IsReal 1 := ⟨1, rfl⟩

/-- The Gaussian unit of a real number is real. -/
theorem real_gelu {z : EReal} (h : IsReal z) : IsReal (gelu z) :=
  h.mul (real_half.mul (real_one.add (real_c1.mul (h.add (real_c2.mul (h.mul (h.mul h))))).tanh))

/-- A quotient of reals by a real that is not zero. -/
theorem div_coe (r s : ℝ) (hs : s ≠ 0) : Ideal.div (r : EReal) (s : EReal) = ((r / s : ℝ) : EReal) := by
  unfold Ideal.div
  rw [if_neg (by exact_mod_cast hs), ← EReal.coe_inv, ← EReal.coe_mul, div_eq_mul_inv]

/-- The reciprocal root of a positive real is real. -/
theorem real_rsqrt {r : ℝ} (h : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (by linarith), if_neg (by linarith)]

/-- A normalised row of real numbers is real. -/
theorem real_rms {X g : Fin 1024 → EReal} (hX : ∀ k, IsReal (X k)) (hg : ∀ k, IsReal (g k)) (k : Fin 1024) : IsReal (rms X g k) := by
  unfold rms
  refine ((hX k).mul ?_).mul (hg k)
  choose r hr using hX
  obtain ⟨e, he, hw⟩ := word_eps
  have h : ∑ j, X j * X j = ((∑ j, r j * r j : ℝ) : EReal) := by
    rw [← coe_sum]
    exact Finset.sum_congr rfl fun j _ => by rw [hr j, EReal.coe_mul]
  rw [h, word_1024, hw, div_coe _ _ (by norm_num), ← EReal.coe_add]
  exact real_rsqrt (by have : 0 ≤ ∑ j, r j * r j := Finset.sum_nonneg fun j _ => mul_self_nonneg _
                       positivity)

/-- A product with real factors is real. -/
theorem real_prj {n k m : Nat} {H : Fin n → Fin k → EReal} {W : Fin k → Fin m → EReal} (hH : ∀ a x, IsReal (H a x)) (hW : ∀ x j, IsReal (W x j))
    (a : Fin n) (j : Fin m) : IsReal (prj H W a j) :=
  isReal_sum fun x => (hH a x).mul (hW x j)

/-- The product of real numbers with one column of the group matrix is the mean over the column's group. -/
theorem group_mean (f G : Fin 512 → EReal) (q : Fin 8) (hf : ∀ x, IsReal (f x))
    (hG : ∀ x, G x = if x.val / 64 = q.val then ((1 / 64 : ℝ) : EReal) else 0) :
    ∑ x, f x * G x = Ideal.div (∑ l : Fin 64, f ⟨64 * q.val + l.val, by omega⟩) (Ideal.ofBits FTy.f32 1115684864#32) := by
  choose r hr using hf
  have h1 : ∀ x, f x * G x = ((if x.val / 64 = q.val then r x * (1 / 64) else 0 : ℝ) : EReal) := by
    intro x
    rw [hr x, hG x]
    split
    · rw [EReal.coe_mul]
    · simp
  simp only [h1]
  simp only [hr]
  rw [coe_sum, coe_sum, word_64, div_coe _ _ (by norm_num)]
  refine congrArg _ ?_
  rw [← (finProdFinEquiv : Fin 8 × Fin 64 ≃ Fin 512).sum_comp, Fintype.sum_prod_type, Finset.sum_eq_single q]
  · rw [Finset.sum_div]
    refine Finset.sum_congr rfl fun l _ => ?_
    have e : (finProdFinEquiv (q, l) : Fin 512) = ⟨64 * q.val + l.val, by omega⟩ := Fin.ext (by simp [finProdFinEquiv]; omega)
    rw [e, if_pos (show (64 * q.val + l.val) / 64 = q.val by omega)]
    ring
  · intro b _ hb
    refine Finset.sum_eq_zero fun l _ => ?_
    have e : (finProdFinEquiv (b, l) : Fin 512) = ⟨64 * b.val + l.val, by omega⟩ := Fin.ext (by simp [finProdFinEquiv]; omega)
    rw [e, if_neg]
    show ¬ (64 * b.val + l.val) / 64 = q.val
    have : b.val ≠ q.val := fun h => hb (Fin.ext h)
    omega
  · intro h
    exact absurd (Finset.mem_univ q) h

/-- The plain deviation from the mean of a group of 64 columns. -/
def pdev (V : Fin 512 → Fin 512 → EReal) (a j : Fin 512) : EReal :=
  V a j - Ideal.div (∑ l : Fin 64, V a ⟨64 * (j.val / 64) + l.val, by omega⟩) (Ideal.ofBits FTy.f32 1115684864#32)

/-- The plain normalisation: deviations over the root of their mean square in the group. -/
def pnrm (V : Fin 512 → Fin 512 → EReal) (s b : Fin 512 → EReal) (a j : Fin 512) : EReal :=
  pdev V a j * Ideal.rsqrt (Ideal.div (∑ l : Fin 64, pdev V a ⟨64 * (j.val / 64) + l.val, by omega⟩ * pdev V a ⟨64 * (j.val / 64) + l.val, by omega⟩)
    (Ideal.ofBits FTy.f32 1115684864#32) + Ideal.ofBits FTy.f32 897988541#32) * s j + b j

/-- The group matrix: a 64th where the row's group is the column's. -/
def IsGroup {n : Nat} (G : Fin n → Fin 128 → EReal) : Prop :=
  ∀ (x : Fin n) (l : Fin 128), l.val < 8 → G x l = if x.val % 512 / 64 = l.val then ((1 / 64 : ℝ) : EReal) else 0

/-- Where the values are real the normalisation through the group matrix is the plain one. -/
theorem nrm_eq (V : Fin 512 → Fin 512 → EReal) (hV : ∀ a j, IsReal (V a j)) (G : Fin 1024 → Fin 128 → EReal) (G' : Fin 512 → Fin 128 → EReal)
    (hG : IsGroup G) (hG' : IsGroup G') (s b : Fin 512 → EReal) : nrm (dev V G) G' s b = pnrm V s b := by
  have hd : dev V G = pdev V := by
    funext a j
    unfold dev pdev both
    refine congrArg (V a j - ·) ?_
    rw [group_mean (fun x => V a x) (fun x => G ⟨x.val, by omega⟩ ⟨j.val / 64, by omega⟩) ⟨j.val / 64, by omega⟩ (hV a) (fun x => by
      rw [hG _ _ (show j.val / 64 < 8 by omega)]
      show (if x.val % 512 / 64 = j.val / 64 then _ else _) = _
      rw [Nat.mod_eq_of_lt x.isLt])]
    rw [Finset.sum_eq_zero (f := fun x : Fin 512 => (V a x - V a x) * G ⟨512 + x.val, by omega⟩ ⟨j.val / 64, by omega⟩) fun x _ => by rw [(hV a x).sub_self, zero_mul], add_zero]
  have hr : ∀ a j, IsReal (pdev V a j) := by
    intro a j
    refine (hV a j).sub ?_
    obtain ⟨r, hr⟩ := isReal_sum fun l : Fin 64 => hV a ⟨64 * (j.val / 64) + l.val, by omega⟩
    rw [hr, word_64, div_coe _ _ (by norm_num)]
    exact ⟨_, rfl⟩
  funext a j
  unfold nrm pnrm spr
  rw [hd]
  rw [group_mean (fun x => pdev V a x * pdev V a x) (fun x => G' x ⟨j.val / 64, by omega⟩) ⟨j.val / 64, by omega⟩ (fun x => (hr a x).mul (hr a x)) (fun x => by
      rw [hG' _ _ (show j.val / 64 < 8 by omega)]
      show (if x.val % 512 / 64 = j.val / 64 then _ else _) = _
      rw [Nat.mod_eq_of_lt x.isLt])]

end Cert.Tail
end
-- ==== Proof.TailInputs.lean ====
/- The arrays handed to the call that follows the attention, entry by entry. -/
module

public import proofs.«01_k».proof.Proof.TailReal
public import proofs.«01_k».proof.Proof.Gen.KernelTailIdeal.Value
public import Idealize.ShloMosaic.Lib.Pipeline.ValueKit
public import Idealize.ShloMosaic.Lib.Claim

@[expose] public section
set_option maxHeartbeats 1000000
set_option maxRecDepth 16384
noncomputable section
namespace Cert.Tail
open Cert.KernelTailIdeal Cert.KernelTailIdeal.Gen Idealize.ShloMosaic Idealize.ShloMosaic.TcCoe Idealize.SL.Sem

local notation "𝕀" => Idealize.ShloMosaic.Ideal
variable (m : (ℓ : Loc nD τ sig) → Buf (Elt Idealize.ShloMosaic.Ideal) ℓ)

/-- The activations, one row per position. -/
theorem in0 (c : Dev nD) (R : Fin 32768) (k : Fin 1024) : (V m c main_v0 : S32768x1024.Idx → EReal) (ix2 R k) = (m ((c : Thread nD τ).loc main_arg0) : S8x4096x1024.Idx → EReal) (ix3 (⟨R.val / 4096, by omega⟩ : Fin 8) (⟨R.val % 4096, by omega⟩ : Fin 4096) k) := by
  have e : V m c main_v0 = shapeCast S32768x1024 (m ((c : Thread nD τ).loc main_arg0)) shapeCasts_S8x4096x1024_S32768x1024 := by
    simp only [V, hostOps0, hostOps0_1, hostOps0_2, hostOps0_3, hostOps0_4, List.flatten_cons, List.flatten_nil, List.append_nil, List.cons_append, List.nil_append]
    after_results_simp <;> rfl
  rw [e]
  generalize m ((c : Thread nD τ).loc main_arg0) = A at *
  clear e
  change S8x4096x1024.Idx → EReal at A
  have h : (shapeCast S32768x1024 A shapeCasts_S8x4096x1024_S32768x1024 : S32768x1024.Idx → EReal) (ix2 R k) = A (ix3 (⟨R.val / 4096, by omega⟩ : Fin 8) (⟨R.val % 4096, by omega⟩ : Fin 4096) k) := by
    pointwise
  exact h

/-- The attention's output, one row per position. -/
theorem in18 (c : Dev nD) (R : Fin 32768) (k : Fin 512) : (V m c main_v18 : S32768x512.Idx → EReal) (ix2 R k) = (m ((c : Thread nD τ).loc main_arg1) : S8x4096x512.Idx → EReal) (ix3 (⟨R.val / 4096, by omega⟩ : Fin 8) (⟨R.val % 4096, by omega⟩ : Fin 4096) k) := by
  have e : V m c main_v18 = shapeCast S32768x512 (m ((c : Thread nD τ).loc main_arg1)) shapeCasts_S8x4096x512_S32768x512 := by
    simp only [V, hostOps0, hostOps0_1, hostOps0_2, hostOps0_3, hostOps0_4, List.flatten_cons, List.flatten_nil, List.append_nil, List.cons_append, List.nil_append]
    after_results_simp <;> rfl
  rw [e]
  generalize m ((c : Thread nD τ).loc main_arg1) = A at *
  clear e
  change S8x4096x512.Idx → EReal at A
  have h : (shapeCast S32768x512 A shapeCasts_S8x4096x512_S32768x512 : S32768x512.Idx → EReal) (ix2 R k) = A (ix3 (⟨R.val / 4096, by omega⟩ : Fin 8) (⟨R.val % 4096, by omega⟩ : Fin 4096) k) := by
    pointwise
  exact h

/-- The first normalisation's gain. -/
theorem in19 (c : Dev nD) (k : Fin 1024) : (V m c main_v19 : S1x1024.Idx → EReal) (ix2 0 k) = (m ((c : Thread nD τ).loc main_arg2) : S1024.Idx → EReal) (ix1 k) := by
  have e : V m c main_v19 = shapeCast S1x1024 (m ((c : Thread nD τ).loc main_arg2)) shapeCasts_S1024_S1x1024 := by
    simp only [V, hostOps0, hostOps0_1, hostOps0_2, hostOps0_3, hostOps0_4, List.flatten_cons, List.flatten_nil, List.append_nil, List.cons_append, List.nil_append]
    after_results_simp <;> rfl
  rw [e]
  generalize m ((c : Thread nD τ).loc main_arg2) = A at *
  clear e
  change S1024.Idx → EReal at A
  have h : (shapeCast S1x1024 A shapeCasts_S1024_S1x1024 : S1x1024.Idx → EReal) (ix2 0 k) = A (ix1 k) := by
    pointwise
  exact h

/-- The group normalisation's gain. -/
theorem in22 (c : Dev nD) (k : Fin 512) : (V m c main_v22 : S1x512.Idx → EReal) (ix2 0 k) = (m ((c : Thread nD τ).loc main_arg4) : S8x64.Idx → EReal) (ix2 (⟨k.val / 64, by omega⟩ : Fin 8) (⟨k.val % 64, by omega⟩ : Fin 64)) := by
  have e : V m c main_v22 = shapeCast S1x512 (m ((c : Thread nD τ).loc main_arg4)) shapeCasts_S8x64_S1x512 := by
    simp only [V, hostOps0, hostOps0_1, hostOps0_2, hostOps0_3, hostOps0_4, List.flatten_cons, List.flatten_nil, List.append_nil, List.cons_append, List.nil_append]
    after_results_simp <;> rfl
  rw [e]
  generalize m ((c : Thread nD τ).loc main_arg4) = A at *
  clear e
  change S8x64.Idx → EReal at A
  have h : (shapeCast S1x512 A shapeCasts_S8x64_S1x512 : S1x512.Idx → EReal) (ix2 0 k) = A (ix2 (⟨k.val / 64, by omega⟩ : Fin 8) (⟨k.val % 64, by omega⟩ : Fin 64)) := by
    pointwise
  exact h

/-- The group normalisation's bias. -/
theorem in23 (c : Dev nD) (k : Fin 512) : (V m c main_v23 : S1x512.Idx → EReal) (ix2 0 k) = (m ((c : Thread nD τ).loc main_arg5) : S8x64.Idx → EReal) (ix2 (⟨k.val / 64, by omega⟩ : Fin 8) (⟨k.val % 64, by omega⟩ : Fin 64)) := by
  have e : V m c main_v23 = shapeCast S1x512 (m ((c : Thread nD τ).loc main_arg5)) shapeCasts_S8x64_S1x512 := by
    simp only [V, hostOps0, hostOps0_1, hostOps0_2, hostOps0_3, hostOps0_4, List.flatten_cons, List.flatten_nil, List.append_nil, List.cons_append, List.nil_append]
    after_results_simp <;> rfl
  rw [e]
  generalize m ((c : Thread nD τ).loc main_arg5) = A at *
  clear e
  change S8x64.Idx → EReal at A
  have h : (shapeCast S1x512 A shapeCasts_S8x64_S1x512 : S1x512.Idx → EReal) (ix2 0 k) = A (ix2 (⟨k.val / 64, by omega⟩ : Fin 8) (⟨k.val % 64, by omega⟩ : Fin 64)) := by
    pointwise
  exact h

/-- The mixing matrices, two heads to a page. -/
theorem in24 (c : Dev nD) (p : Fin 4) (t : Fin 256) (s : Fin 128) : (V m c main_v24 : S4x256x128.Idx → EReal) (ix3 p t s) = (m ((c : Thread nD τ).loc main_arg6) : S8x128x128.Idx → EReal) (ix3 (⟨p.val * 2 + t.val / 128, by omega⟩ : Fin 8) (⟨t.val % 128, by omega⟩ : Fin 128) s) := by
  have e : V m c main_v24 = shapeCast S4x256x128 (m ((c : Thread nD τ).loc main_arg6)) shapeCasts_S8x128x128_S4x256x128 := by
    simp only [V, hostOps0, hostOps0_1, hostOps0_2, hostOps0_3, hostOps0_4, List.flatten_cons, List.flatten_nil, List.append_nil, List.cons_append, List.nil_append]
    after_results_simp <;> rfl
  rw [e]
  generalize m ((c : Thread nD τ).loc main_arg6) = A at *
  clear e
  change S8x128x128.Idx → EReal at A
  have h : (shapeCast S4x256x128 A shapeCasts_S8x128x128_S4x256x128 : S4x256x128.Idx → EReal) (ix3 p t s) = A (ix3 (⟨p.val * 2 + t.val / 128, by omega⟩ : Fin 8) (⟨t.val % 128, by omega⟩ : Fin 128) s) := by
    pointwise
  exact h

/-- The last normalisation's gain. -/
theorem in28 (c : Dev nD) (k : Fin 1024) : (V m c main_v28 : S1x1024.Idx → EReal) (ix2 0 k) = (m ((c : Thread nD τ).loc main_arg11) : S1024.Idx → EReal) (ix1 k) := by
  have e : V m c main_v28 = shapeCast S1x1024 (m ((c : Thread nD τ).loc main_arg11)) shapeCasts_S1024_S1x1024 := by
    simp only [V, hostOps0, hostOps0_1, hostOps0_2, hostOps0_3, hostOps0_4, List.flatten_cons, List.flatten_nil, List.append_nil, List.cons_append, List.nil_append]
    after_results_simp <;> rfl
  rw [e]
  generalize m ((c : Thread nD τ).loc main_arg11) = A at *
  clear e
  change S1024.Idx → EReal at A
  have h : (shapeCast S1x1024 A shapeCasts_S1024_S1x1024 : S1x1024.Idx → EReal) (ix2 0 k) = A (ix1 k) := by
    pointwise
  exact h

/-- The last 4096 columns of the weights. -/
theorem in21 (c : Dev nD) (x : Fin 1024) (j : Fin 4096) : (V m c main_v21 : S1024x4096.Idx → EReal) (ix2 x j) = (m ((c : Thread nD τ).loc main_arg3) : S1024x5632.Idx → EReal) (ix2 x (⟨1536 + j.val, by omega⟩ : Fin 5632)) := by
  have e : V m c main_v21 = truncf (F := 𝕀) .bf16 (extractStridedSlice S1024x4096 ![0, 1536] (m ((c : Thread nD τ).loc main_arg3)) slices_S1024x5632_S1024x4096_0_1536) bitsLt_bf16_f32 := by
    simp only [V, hostOps0, hostOps0_1, hostOps0_2, hostOps0_3, hostOps0_4, List.flatten_cons, List.flatten_nil, List.append_nil, List.cons_append, List.nil_append]
    after_results_simp <;> rfl
  rw [e]
  generalize m ((c : Thread nD τ).loc main_arg3) = A at *
  clear e
  change S1024x5632.Idx → EReal at A
  have h : (truncf (F := 𝕀) .bf16 (extractStridedSlice S1024x4096 ![0, 1536] A slices_S1024x5632_S1024x4096_0_1536) bitsLt_bf16_f32 : S1024x4096.Idx → EReal) (ix2 x j) = A (ix2 x (⟨1536 + j.val, by omega⟩ : Fin 5632)) := by
    pointwise
  exact h

/-- A matrix of the outputs, as it is. -/
theorem in25 (c : Dev nD) (x : Fin 512) (j : Fin 1024) : (V m c main_v25 : S512x1024.Idx → EReal) (ix2 x j) = (m ((c : Thread nD τ).loc main_arg8) : S512x1024.Idx → EReal) (ix2 x j) := by
  have e : V m c main_v25 = truncf (F := 𝕀) .bf16 (m ((c : Thread nD τ).loc main_arg8)) bitsLt_bf16_f32 := by
    simp only [V, hostOps0, hostOps0_1, hostOps0_2, hostOps0_3, hostOps0_4, List.flatten_cons, List.flatten_nil, List.append_nil, List.cons_append, List.nil_append]
    after_results_simp <;> rfl
  rw [e]
  generalize m ((c : Thread nD τ).loc main_arg8) = A at *
  clear e
  change S512x1024.Idx → EReal at A
  have h : (truncf (F := 𝕀) .bf16 A bitsLt_bf16_f32 : S512x1024.Idx → EReal) (ix2 x j) = A (ix2 x j) := by
    pointwise
  exact h

/-- A matrix of the outputs, as it is. -/
theorem in26 (c : Dev nD) (x : Fin 512) (j : Fin 1024) : (V m c main_v26 : S512x1024.Idx → EReal) (ix2 x j) = (m ((c : Thread nD τ).loc main_arg9) : S512x1024.Idx → EReal) (ix2 x j) := by
  have e : V m c main_v26 = truncf (F := 𝕀) .bf16 (m ((c : Thread nD τ).loc main_arg9)) bitsLt_bf16_f32 := by
    simp only [V, hostOps0, hostOps0_1, hostOps0_2, hostOps0_3, hostOps0_4, List.flatten_cons, List.flatten_nil, List.append_nil, List.cons_append, List.nil_append]
    after_results_simp <;> rfl
  rw [e]
  generalize m ((c : Thread nD τ).loc main_arg9) = A at *
  clear e
  change S512x1024.Idx → EReal at A
  have h : (truncf (F := 𝕀) .bf16 A bitsLt_bf16_f32 : S512x1024.Idx → EReal) (ix2 x j) = A (ix2 x j) := by
    pointwise
  exact h

/-- A matrix of the outputs, as it is. -/
theorem in27 (c : Dev nD) (x : Fin 1024) (j : Fin 1024) : (V m c main_v27 : S1024x1024.Idx → EReal) (ix2 x j) = (m ((c : Thread nD τ).loc main_arg10) : S1024x1024.Idx → EReal) (ix2 x j) := by
  have e : V m c main_v27 = truncf (F := 𝕀) .bf16 (m ((c : Thread nD τ).loc main_arg10)) bitsLt_bf16_f32 := by
    simp only [V, hostOps0, hostOps0_1, hostOps0_2, hostOps0_3, hostOps0_4, List.flatten_cons, List.flatten_nil, List.append_nil, List.cons_append, List.nil_append]
    after_results_simp <;> rfl
  rw [e]
  generalize m ((c : Thread nD τ).loc main_arg10) = A at *
  clear e
  change S1024x1024.Idx → EReal at A
  have h : (truncf (F := 𝕀) .bf16 A bitsLt_bf16_f32 : S1024x1024.Idx → EReal) (ix2 x j) = A (ix2 x j) := by
    pointwise
  exact h

/-- The mixing's bias, a row per position in the chunk. -/
theorem in17 (c : Dev nD) (t : Fin 128) (j : Fin 512) : (V m c main_v17 : S128x512.Idx → EReal) (ix2 t j) = (m ((c : Thread nD τ).loc main_arg7) : S8x128.Idx → EReal) (ix2 (⟨j.val / 64, by omega⟩ : Fin 8) t) := by
  have e : V m c main_v17 = shapeCast S128x512 (broadcastInDim S128x8x64 ![0, 1] bcast_S128x8_S128x8x64_0_1 (transpose S128x8 [1, 0] (m ((c : Thread nD τ).loc main_arg7)) transposes_S8x128_S128x8_1_0)) shapeCasts_S128x8x64_S128x512 := by
    simp only [V, hostOps0, hostOps0_1, hostOps0_2, hostOps0_3, hostOps0_4, List.flatten_cons, List.flatten_nil, List.append_nil, List.cons_append, List.nil_append]
    after_results_simp <;> rfl
  rw [e]
  generalize m ((c : Thread nD τ).loc main_arg7) = A at *
  clear e
  change S8x128.Idx → EReal at A
  have h : (shapeCast S128x512 (broadcastInDim S128x8x64 ![0, 1] bcast_S128x8_S128x8x64_0_1 (transpose S128x8 [1, 0] A transposes_S8x128_S128x8_1_0)) shapeCasts_S128x8x64_S128x512 : S128x512.Idx → EReal) (ix2 t j) = A (ix2 (⟨j.val / 64, by omega⟩ : Fin 8) t) := by
    pointwise
  exact h

/-- The floored quotient by 64 as the words compute it. -/
theorem word_quo (x : Fin 512) : Scalar.select (IntOp.andi
      (IntOp.cmpi CmpIPredicate.ne (if BitVec.ofNat 32 x.val = 0 then (0 : BitVec 32) else if (BitVec.ofNat 32 x.val).msb = true then -1 else 1)
        (if (64#32) = 0 then 0 else if (64#32).msb = true then -1 else 1))
      (IntOp.cmpi CmpIPredicate.ne (IntOp.remsi ArithUnit.host (BitVec.ofNat 32 x.val) 64#32) 0#32))
    (IntOp.subi (IntOp.divsi ArithUnit.host (BitVec.ofNat 32 x.val) 64#32) 1#32) (IntOp.divsi ArithUnit.host (BitVec.ofNat 32 x.val) 64#32)
    = BitVec.ofNat 32 (x.val / 64) := by
  revert x
  decide +kernel

/-- The remainder by 8 as the words compute it. -/
theorem word_rem (l : Fin 128) : Scalar.select
      (IntOp.andi
        (IntOp.cmpi CmpIPredicate.ne
          (IntOp.cmpi CmpIPredicate.slt
            (IntOp.remsi ArithUnit.host (BitVec.ofNat 32 l.val)
              (Scalar.select (IntOp.cmpi CmpIPredicate.eq 8#32 0#32) 1#32 8#32))
            0#32)
          (IntOp.cmpi CmpIPredicate.slt (Scalar.select (IntOp.cmpi CmpIPredicate.eq 8#32 0#32) 1#32 8#32) 0#32))
        (IntOp.cmpi CmpIPredicate.ne
          (IntOp.remsi ArithUnit.host (BitVec.ofNat 32 l.val)
            (Scalar.select (IntOp.cmpi CmpIPredicate.eq 8#32 0#32) 1#32 8#32))
          0#32))
      (IntOp.addi
        (IntOp.remsi ArithUnit.host (BitVec.ofNat 32 l.val)
          (Scalar.select (IntOp.cmpi CmpIPredicate.eq 8#32 0#32) 1#32 8#32))
        (Scalar.select (IntOp.cmpi CmpIPredicate.eq 8#32 0#32) 1#32 8#32))
      (IntOp.remsi ArithUnit.host (BitVec.ofNat 32 l.val)
        (Scalar.select (IntOp.cmpi CmpIPredicate.eq 8#32 0#32) 1#32 8#32))
    = BitVec.ofNat 32 (l.val % 8) := by
  revert l
  decide +kernel

/-- The bit that says a column's group is a lane's, as a number over 64. -/
theorem word_group (x : Fin 512) (l : Fin 128) : Ideal.div (FloatOps.uitofp (F := 𝕀) FTy.f32
      (IntOp.cmpi CmpIPredicate.eq (BitVec.ofNat 32 (x.val / 64)) (BitVec.ofNat 32 (l.val % 8)))) (Ideal.ofBits FTy.f32 1115684864#32)
    = if x.val / 64 = l.val % 8 then ((1 / 64 : ℝ) : EReal) else 0 := by
  have h : ∀ a b : Fin 8, IntOp.cmpi CmpIPredicate.eq (BitVec.ofNat 32 a.val) (BitVec.ofNat 32 b.val) = if a.val = b.val then 1#1 else 0#1 := by decide +kernel
  rw [show IntOp.cmpi CmpIPredicate.eq (BitVec.ofNat 32 (x.val / 64)) (BitVec.ofNat 32 (l.val % 8)) = _ from
    h ⟨x.val / 64, by omega⟩ ⟨l.val % 8, by omega⟩, word_64]
  dsimp only
  split
  · rw [show FloatOps.uitofp (F := 𝕀) FTy.f32 1#1 = ((1 : ℝ) : EReal) by simp [FloatOps.uitofp], div_coe _ _ (by norm_num)]
  · rw [show FloatOps.uitofp (F := 𝕀) FTy.f32 0#1 = ((0 : ℝ) : EReal) by simp [FloatOps.uitofp], div_coe _ _ (by norm_num)]
    simp

/-- The group matrix: a 64th where the row's group is the lane's. -/
theorem in14 (c : Dev nD) (x : Fin 1024) (l : Fin 128) : (V m c main_v14 : S1024x128.Idx → EReal) (ix2 x l)
    = if x.val % 512 / 64 = l.val % 8 then ((1 / 64 : ℝ) : EReal) else 0 := by
  simp only [V, hostOps0, hostOps0_1, hostOps0_2, hostOps0_3, hostOps0_4, List.flatten_cons, List.flatten_nil, List.append_nil, List.cons_append, List.nil_append]
  after_results_simp
  simp only [StableHlo.TRef.ofBuf, StableHlo.TRef.toBuf, cast_eq, id]
  pointwise
  rw [word_rem l]
  split
  · rename_i h
    have q := word_quo ⟨x.val, h⟩
    have g := word_group ⟨x.val, h⟩ l
    dsimp only at q g
    refine (congrArg (fun w => Ideal.div (FloatOps.uitofp (F := 𝕀) FTy.f32 (IntOp.cmpi CmpIPredicate.eq w (BitVec.ofNat 32 (l.val % 8))))
      (Ideal.ofBits FTy.f32 1115684864#32)) q).trans (g.trans ?_)
    rw [Nat.mod_eq_of_lt h]
  · rename_i h
    have q := word_quo ⟨x.val - 512, by omega⟩
    have g := word_group ⟨x.val - 512, by omega⟩ l
    dsimp only at q g
    refine (congrArg (fun w => Ideal.div (FloatOps.uitofp (F := 𝕀) FTy.f32 (IntOp.cmpi CmpIPredicate.eq w (BitVec.ofNat 32 (l.val % 8))))
      (Ideal.ofBits FTy.f32 1115684864#32)) q).trans (g.trans ?_)
    rw [show x.val % 512 = x.val - 512 by omega]

end Cert.Tail
end
-- ==== Proof.TailRef.lean ====
/- The plain reading of the call after the attention: what the reference's result holds at a row and a column. -/
module

public import proofs.«01_k».proof.Proof.TailPieces
public import proofs.«01_k».proof.Proof.Gen.ReferenceTailIdeal.Run

@[expose] public section
set_option maxHeartbeats 2000000
set_option maxRecDepth 16384
noncomputable section
namespace Cert.Tail
open Cert.ReferenceTailIdeal Cert.ReferenceTailIdeal.Gen Cert.ReferenceTailIdeal.Value Idealize.ShloMosaic Idealize.ShloMosaic.TcCoe Idealize.SL.Sem

local notation "𝕀" => Idealize.ShloMosaic.Ideal

/-- The projections of one row at a column of the last 4096. -/
def row (X : FVec 𝕀 S8x4096x1024 .f32) (g : FVec 𝕀 S1024 .f32) (W : FVec 𝕀 S1024x5632 .f32) (b : Fin 8) (t : Fin 4096) (j : Fin 4096) : EReal :=
  ∑ x, rms (fun k => X (ix3 b t k)) (fun k => g (ix1 k)) x * W (ix2 x ⟨1536 + j.val, by omega⟩)

/-- The staged projections at a row and a column. -/
theorem ref14 (V0 : Valuation τ sig (Elt 𝕀)) (X : FVec 𝕀 S8x4096x1024 .f32) (g : FVec 𝕀 S1024 .f32) (W : FVec 𝕀 S1024x5632 .f32)
    (hX : V0 (Proc.devRef .tc main_arg0) = X) (hg : V0 (Proc.devRef .tc main_arg2) = g) (hW : V0 (Proc.devRef .tc main_arg3) = W)
    (b : Fin 8) (t j : Fin 4096) : res_main_v14 V0 (ix3 b t j) = row X g W b t j := by
  unfold res_main_v14
  rw [hX, hg, hW]
  pointwise
  rfl

/-- The Gaussian unit as the reference writes it. -/
theorem gelu_eq (z : EReal) : z * (Ideal.ofBits FTy.f32 1056964608#32 * (1 + Ideal.tanh (Ideal.ofBits FTy.f32 1061962282#32 *
    (z + Ideal.ofBits FTy.f32 1027024659#32 * (z * z * z))))) = gelu z := by
  unfold gelu
  rw [mul_assoc z z z]

/-- A number times its logistic as the reference writes it. -/
theorem silu_eq (z : EReal) : z * Ideal.div 1 (1 + Ideal.exp (-z)) = silu z := rfl

/-- The unit of a group's column. -/
def unitV (p : Fin 4096 → EReal) (q : Fin 8) (l : Fin 64) : EReal := gelu (p ⟨1024 + (q.val * 64 + l.val), by omega⟩)

/-- The deviation of a group's column from the group's mean. -/
def devV (p : Fin 4096 → EReal) (q : Fin 8) (l : Fin 64) : EReal :=
  unitV p q l - Ideal.div (∑ x, unitV p q x) (Ideal.ofBits FTy.f32 1115684864#32)

/-- The staged unit of the third projection at a group and a place. -/
theorem ref50 (V0 : Valuation τ sig (Elt 𝕀)) (p : Fin 8 → Fin 4096 → Fin 4096 → EReal) (hp : ∀ b t j, res_main_v14 V0 (ix3 b t j) = p b t j)
    (b : Fin 8) (t : Fin 4096) (q : Fin 8) (l : Fin 64) : res_main_v50 V0 (ix4 b t q l) = unitV (p b t) q l := by
  pointwise [res_main_v50, res_main_v17]
  rw [gelu_eq, hp]
  rfl

/-- The staged mean of a group. -/
theorem ref54 (V0 : Valuation τ sig (Elt 𝕀)) (p : Fin 8 → Fin 4096 → Fin 4096 → EReal) (hp : ∀ b t j, res_main_v14 V0 (ix3 b t j) = p b t j)
    (b : Fin 8) (t : Fin 4096) (q : Fin 8) : res_main_v54 V0 (ix4 b t q 0) = Ideal.div (∑ x, unitV (p b t) q x) (Ideal.ofBits FTy.f32 1115684864#32) := by
  pointwise [res_main_v54]
  simp only [ref50 V0 p hp]

/-- The staged deviation from the group's mean. -/
theorem ref56 (V0 : Valuation τ sig (Elt 𝕀)) (p : Fin 8 → Fin 4096 → Fin 4096 → EReal) (hp : ∀ b t j, res_main_v14 V0 (ix3 b t j) = p b t j)
    (b : Fin 8) (t : Fin 4096) (q : Fin 8) (l : Fin 64) : res_main_v56 V0 (ix4 b t q l) = devV (p b t) q l := by
  pointwise [res_main_v56]
  rw [ref50 V0 p hp, ref54 V0 p hp]
  rfl

/-- The mask's column counter. -/
theorem mask77 (V0 : Valuation τ sig (Elt 𝕀)) (x : Fin 128) : res_main_v77 V0 (ix2 0 x) = BitVec.ofNat 32 x.val := by
  pointwise [res_main_v77, res_main_v76]
  try rfl
/-- The mask's row counter. -/
theorem mask79 (V0 : Valuation τ sig (Elt 𝕀)) (x : Fin 128) : res_main_v79 V0 (ix2 x 0) = BitVec.ofNat 32 x.val := by
  pointwise [res_main_v79, res_main_v76]
  try rfl
/-- The divisor of the column counter. -/
theorem c64 (V0 : Valuation τ sig (Elt 𝕀)) : res_main_call1_v0 V0 ix0 = 64#32 := by
  pointwise [res_main_call1_v0]
  try rfl
/-- The divisor of the row counter. -/
theorem c64' (V0 : Valuation τ sig (Elt 𝕀)) : res_main_call2_v0 V0 ix0 = 64#32 := by
  pointwise [res_main_call2_v0]
  try rfl
/-- The column counter's quotient, before it is rounded down. -/
theorem q77 (V0 : Valuation τ sig (Elt 𝕀)) (x : Fin 128) : res_main_call1_v2 V0 (ix2 0 x) = IntOp.divsi ArithUnit.host (BitVec.ofNat 32 x.val) 64#32 := by
  pointwise [res_main_call1_v2]
  rw [mask77, c64]
/-- The row counter's quotient, before it is rounded down. -/
theorem q79 (V0 : Valuation τ sig (Elt 𝕀)) (x : Fin 128) : res_main_call2_v2 V0 (ix2 x 0) = IntOp.divsi ArithUnit.host (BitVec.ofNat 32 x.val) 64#32 := by
  pointwise [res_main_call2_v2]
  rw [mask79, c64']

/-- Division by 64 rounded down. -/
theorem floor64 (x : Fin 128) : Scalar.select (IntOp.andi
      (IntOp.cmpi CmpIPredicate.ne (if BitVec.ofNat 32 x.val = 0 then (0 : BitVec 32) else if BitVec.msb (BitVec.ofNat 32 x.val) = true then -1 else 1)
        (if (64#32) = 0 then 0 else if BitVec.msb (64#32) = true then -1 else 1))
      (IntOp.cmpi CmpIPredicate.ne (IntOp.remsi ArithUnit.host (BitVec.ofNat 32 x.val) 64#32) 0#32))
    (IntOp.subi (IntOp.divsi ArithUnit.host (BitVec.ofNat 32 x.val) 64#32) 1#32) (IntOp.divsi ArithUnit.host (BitVec.ofNat 32 x.val) 64#32)
    = BitVec.ofNat 32 (x.val / 64) := by
  revert x
  decide +kernel

/-- The comparison of two blocks of 64 as a bit. -/
theorem floor_le (t x : Fin 128) : IntOp.cmpi CmpIPredicate.sle (BitVec.ofNat 32 (x.val / 64)) (BitVec.ofNat 32 (t.val / 64)) = if x.val / 64 ≤ t.val / 64 then 1#1 else 0#1 := by
  have h : ∀ a b : Fin 2, IntOp.cmpi CmpIPredicate.sle (BitVec.ofNat 32 a.val) (BitVec.ofNat 32 b.val) = if a.val ≤ b.val then 1#1 else 0#1 := by decide +kernel
  exact h ⟨x.val / 64, by omega⟩ ⟨t.val / 64, by omega⟩

/-- The reference's normalised unit of a group's column. -/
def normV (p : Fin 4096 → EReal) (s b : S8x64.Idx → EReal) (q : Fin 8) (l : Fin 64) : EReal :=
  devV p q l * Ideal.rsqrt (Ideal.div (∑ x, devV p q x * devV p q x) (Ideal.ofBits FTy.f32 1115684864#32) + Ideal.ofBits FTy.f32 897988541#32)
    * s (ix2 q l) + b (ix2 q l)

/-- A choice on a bit that says whether a number is at most another. -/
theorem pick (a b : Nat) (w : EReal) : Scalar.select (if a ≤ b then 1#1 else 0#1) w 0 = if a ≤ b then w else 0 := by
  unfold Scalar.select
  by_cases h : a ≤ b <;> simp [h]

/-- The reference's mixed unit at a position and a column. -/
def mixV (p : Fin 4096 → Fin 4096 → EReal) (s bb : S8x64.Idx → EReal) (ws : S8x128x128.Idx → EReal) (bs : S8x128.Idx → EReal) (t : Fin 4096) (x : Fin 512) : EReal :=
  ∑ r : Fin 128, normV (p ⟨t.val / 128 * 128 + r.val, by omega⟩) s bb ⟨x.val / 64, by omega⟩ ⟨x.val % 64, by omega⟩
      * (if r.val / 64 ≤ t.val % 128 / 64 then ws (ix3 ⟨x.val / 64, by omega⟩ ⟨t.val % 128, by omega⟩ r) else 0)
    + bs (ix2 ⟨x.val / 64, by omega⟩ ⟨t.val % 128, by omega⟩)

/-- The gated path through the mixing at a row and a column. -/
theorem ref112 (V0 : Valuation τ sig (Elt 𝕀)) (p : Fin 8 → Fin 4096 → Fin 4096 → EReal) (hp : ∀ b t j, res_main_v14 V0 (ix3 b t j) = p b t j)
    (s bb : FVec 𝕀 S8x64 .f32) (ws : FVec 𝕀 S8x128x128 .f32) (bs : FVec 𝕀 S8x128 .f32) (ub : FVec 𝕀 S512x1024 .f32)
    (hs : V0 (Proc.devRef .tc main_arg4) = s) (hbb : V0 (Proc.devRef .tc main_arg5) = bb) (hws : V0 (Proc.devRef .tc main_arg6) = ws)
    (hbs : V0 (Proc.devRef .tc main_arg7) = bs) (hub : V0 (Proc.devRef .tc main_arg9) = ub)
    (b : Fin 8) (t : Fin 4096) (j : Fin 1024) : res_main_v112 V0 (ix3 b t j)
      = Ideal.logistic (p b t ⟨3072 + j.val, by omega⟩) * ∑ x : Fin 512, gelu (p b t ⟨512 + x.val, by omega⟩) * mixV (p b) s bb ws bs t x
          * silu (p b t ⟨1536 + x.val, by omega⟩) * ub (ix2 x j) := by
  unfold res_main_v112
  rw [hs, hbb, hws, hbs, hub]
  have hU : ∀ (b : Fin 8) (t : Fin 4096) (x : Fin 512), res_main_v16 V0 (ix3 b t x) = p b t ⟨512 + x.val, by omega⟩ := fun b t x => by
    pointwise [res_main_v16]
    exact hp _ _ _
  have hZ : ∀ (b : Fin 8) (t : Fin 4096) (x : Fin 512), res_main_v18 V0 (ix3 b t x) = p b t ⟨1536 + x.val, by omega⟩ := fun b t x => by
    pointwise [res_main_v18]
    exact hp _ _ _
  have h50 := ref50 V0 p hp
  have h54 := ref54 V0 p hp
  have h56 := ref56 V0 p hp
  have m77 := mask77 V0
  have m79 := mask79 V0
  have d1 := c64 V0
  have d2 := c64' V0
  have n77 := q77 V0
  have n79 := q79 V0
  generalize res_main_v14 V0 = P at *
  generalize res_main_v16 V0 = U at *
  generalize res_main_v18 V0 = Z at *
  generalize res_main_v50 V0 = V at *
  generalize res_main_v54 V0 = M at *
  generalize res_main_v56 V0 = D at *
  generalize res_main_v77 V0 = I at *
  generalize res_main_v79 V0 = I' at *
  generalize res_main_call1_v0 V0 = K at *
  generalize res_main_call2_v0 V0 = K' at *
  generalize res_main_call1_v2 V0 = Q at *
  generalize res_main_call2_v2 V0 = Q' at *
  change S8x4096x4096.Idx → EReal at P
  change S8x4096x512.Idx → EReal at U
  change S8x4096x512.Idx → EReal at Z
  change S8x4096x8x64.Idx → EReal at V
  change S8x4096x8x64.Idx → EReal at D
  change S8x4096x8x1.Idx → EReal at M
  change S512x1024.Idx → EReal at ub
  change S8x64.Idx → EReal at s
  change S8x64.Idx → EReal at bb
  change S8x128x128.Idx → EReal at ws
  change S8x128.Idx → EReal at bs
  clear hs hbb hws hbs hub
  pointwise
  simp only [hp, hU, hZ, h50, h54, h56, m77, m79, d1, d2, n77, n79]
  have f1 := floor64 ⟨t.val % 128, by omega⟩
  have f2 := fun r : Fin 128 => floor_le ⟨t.val % 128, by omega⟩ r
  have hz : (id (constant (F := 𝕀) S_ FTy.f32 0#32) ix0 : EReal) = 0 := Ideal.ofBits_zero_f32
  dsimp only at f1 f2
  simp only [floor64, f1, f2, hz, pick, gelu_eq, silu_eq]
  rfl

/-- The sum before the last normalisation at a row and a column. -/
theorem ref115 (V0 : Valuation τ sig (Elt 𝕀)) (p : Fin 8 → Fin 4096 → Fin 4096 → EReal) (hp : ∀ b t j, res_main_v14 V0 (ix3 b t j) = p b t j)
    (Q : Fin 8 → Fin 4096 → Fin 1024 → EReal) (hQ : ∀ b t j, res_main_v112 V0 (ix3 b t j) = Q b t j)
    (X : FVec 𝕀 S8x4096x1024 .f32) (O : FVec 𝕀 S8x4096x512 .f32) (ua : FVec 𝕀 S512x1024 .f32) (wo : FVec 𝕀 S1024x1024 .f32)
    (hX : V0 (Proc.devRef .tc main_arg0) = X) (hO : V0 (Proc.devRef .tc main_arg1) = O) (hua : V0 (Proc.devRef .tc main_arg8) = ua)
    (hwo : V0 (Proc.devRef .tc main_arg10) = wo)
    (b : Fin 8) (t : Fin 4096) (k : Fin 1024) : res_main_v115 V0 (ix3 b t k)
      = X (ix3 b t k) + ∑ j : Fin 1024, (Ideal.logistic (p b t ⟨2048 + j.val, by omega⟩)
          * ∑ x : Fin 512, O (ix3 b t x) * silu (p b t ⟨x.val, by omega⟩) * ua (ix2 x j) + Q b t j) * wo (ix2 j k) := by
  unfold res_main_v115 res_main_v15
  rw [hX, hO, hua, hwo]
  generalize res_main_v14 V0 = P at *
  generalize res_main_v112 V0 = Q0 at *
  change S8x4096x4096.Idx → EReal at P
  change S8x4096x1024.Idx → EReal at Q0
  change S8x4096x1024.Idx → EReal at X
  change S8x4096x512.Idx → EReal at O
  change S512x1024.Idx → EReal at ua
  change S1024x1024.Idx → EReal at wo
  clear hX hO hua hwo
  pointwise
  simp only [hp, hQ]
  rfl
end Cert.Tail
end
-- ==== Proof.TailTile.lean ====
/- A tile of 512 rows through the call that follows the attention is the plain formula of each of its rows. -/
module

public import proofs.«01_k».proof.Proof.TailReal
public import proofs.«01_k».proof.Proof.TailRef

@[expose] public section
set_option maxHeartbeats 1000000
set_option maxRecDepth 16384
noncomputable section
namespace Cert.Tail
open Cert.ReferenceTailIdeal Cert.ReferenceTailIdeal.Gen Cert.ReferenceTailIdeal.Value Idealize.ShloMosaic Idealize.ShloMosaic.TcCoe Idealize.SL.Sem

local notation "𝕀" => Idealize.ShloMosaic.Ideal

/-- A column's unit read by group and place. -/
theorem unit_col (p : Fin 4096 → EReal) (q : Fin 8) (l : Fin 64) (j : Fin 4096) (h : j.val = 1024 + (64 * q.val + l.val)) : gelu (p j) = unitV p q l := by
  unfold unitV
  exact congrArg (fun j => gelu (p j)) (Fin.ext (by dsimp only; omega))

/-- The plain normalisation of a tile read by group and place. -/
theorem pnrm_eq (p : Fin 4096 → Fin 4096 → EReal) (T : Fin 512 → Fin 4096) (s' b' : Fin 512 → EReal) (s bb : S8x64.Idx → EReal)
    (hs : ∀ j : Fin 512, s' j = s (ix2 ⟨j.val / 64, by omega⟩ ⟨j.val % 64, by omega⟩))
    (hb : ∀ j : Fin 512, b' j = bb (ix2 ⟨j.val / 64, by omega⟩ ⟨j.val % 64, by omega⟩)) (a j : Fin 512) :
    pnrm (fun a j => gelu (p (T a) ⟨1024 + j.val, by omega⟩)) s' b' a j = normV (p (T a)) s bb ⟨j.val / 64, by omega⟩ ⟨j.val % 64, by omega⟩ := by
  have hd : ∀ (j : Fin 512) (q : Fin 8) (l : Fin 64), j.val = 64 * q.val + l.val →
      pdev (fun a j => gelu (p (T a) ⟨1024 + j.val, by omega⟩)) a j = devV (p (T a)) q l := by
    intro j q l h
    unfold pdev devV
    dsimp only
    rw [unit_col (p (T a)) q l ⟨1024 + j.val, by omega⟩ (by dsimp only; omega)]
    refine congrArg (fun z => unitV (p (T a)) q l - Ideal.div z _) (Finset.sum_congr rfl fun x _ => ?_)
    exact unit_col (p (T a)) q x _ (by dsimp only; omega)
  unfold pnrm normV
  rw [hs, hb, hd j ⟨j.val / 64, by omega⟩ ⟨j.val % 64, by omega⟩ (by dsimp only; omega)]
  rw [Finset.sum_congr rfl fun l _ => by rw [hd ⟨64 * (j.val / 64) + l.val, by omega⟩ ⟨j.val / 64, by omega⟩ l rfl]]

/-- The mixing of a tile is the plain mixing. -/
theorem mixed_eq (p : Fin 4096 → Fin 4096 → EReal) (n : Nat) (T : Fin 512 → Fin 4096) (hT : ∀ a, (T a).val = 512 * n + a.val) (s bb : S8x64.Idx → EReal)
    (ws : S8x128x128.Idx → EReal) (bs : S8x128.Idx → EReal) (ws' : Fin 4 → Fin 256 → Fin 128 → EReal) (bias : Fin 128 → Fin 512 → EReal)
    (V : Fin 512 → Fin 512 → EReal)
    (hV : ∀ a j : Fin 512, V a j = normV (p (T a)) s bb ⟨j.val / 64, by omega⟩ ⟨j.val % 64, by omega⟩)
    (hws : ∀ (q : Fin 4) (t : Fin 256) (r : Fin 128), ws' q t r = ws (ix3 ⟨q.val * 2 + t.val / 128, by omega⟩ ⟨t.val % 128, by omega⟩ r))
    (hbias : ∀ (a : Fin 128) (x : Fin 512), bias a x = bs (ix2 ⟨x.val / 64, by omega⟩ a)) (a x : Fin 512) :
    mixed ws' V a x + bias ⟨a.val % 128, by omega⟩ x = mixV p s bb ws bs (T a) x := by
  have ha := hT a
  have e1 : (⟨(T a).val % 128, by omega⟩ : Fin 128) = ⟨a.val % 128, by omega⟩ := Fin.ext (by dsimp only; omega)
  unfold mixed piece mixV
  rw [hbias, e1]
  refine congrArg (· + _) (Finset.sum_congr rfl fun r _ => ?_)
  have e2 : T ⟨128 * (a.val / 128) + r.val, by omega⟩ = ⟨(T a).val / 128 * 128 + r.val, by omega⟩ := by
    refine Fin.ext ((hT _).trans ?_)
    dsimp only
    omega
  have e3 : (⟨128 * (x.val / 128) + x.val % 128, by omega⟩ : Fin 512) = x := Fin.ext (by dsimp only; omega)
  dsimp only
  rw [e3, hV, e2, hws, show (T a).val % 128 = a.val % 128 by omega]
  rw [show ix3 (⟨x.val / 128 * 2 + (128 * (x.val % 128 / 64) + a.val % 128) / 128, by omega⟩ : Fin 8) (⟨(128 * (x.val % 128 / 64) + a.val % 128) % 128, by omega⟩ : Fin 128) r
    = ix3 (⟨x.val / 64, by omega⟩ : Fin 8) (⟨a.val % 128, by omega⟩ : Fin 128) r from
    congrArg₂ (fun u v => ix3 u v r) (Fin.ext (by dsimp only; omega)) (Fin.ext (by dsimp only; omega))]
  split
  · rw [mul_comm]
  · rw [mul_zero]

/-- A tile's row by the plain formula. -/
theorem tile_eq (p : Fin 4096 → Fin 4096 → EReal) (hp : ∀ t j, IsReal (p t j)) (n : Nat) (T : Fin 512 → Fin 4096) (hT : ∀ a, (T a).val = 512 * n + a.val)
    (X : Fin 512 → Fin 1024 → EReal) (O : Fin 512 → Fin 512 → EReal) (g : Fin 1024 → EReal) (Wz Wu Wv Wy : Fin 1024 → Fin 512 → EReal)
    (Wa Wb : Fin 1024 → Fin 1024 → EReal) (s' b' : Fin 512 → EReal) (ws' : Fin 4 → Fin 256 → Fin 128 → EReal) (bias : Fin 128 → Fin 512 → EReal)
    (G : Fin 1024 → Fin 128 → EReal) (G' : Fin 512 → Fin 128 → EReal) (ua ub : Fin 512 → Fin 1024 → EReal) (wo : Fin 1024 → Fin 1024 → EReal)
    (fg : Fin 1024 → EReal) (s bb : S8x64.Idx → EReal) (ws : S8x128x128.Idx → EReal) (bs : S8x128.Idx → EReal)
    (hz : ∀ (a : Fin 512) (j : Fin 512), prj (fun a => rms (X a) g) Wz a j = p (T a) ⟨j.val, by omega⟩)
    (hu : ∀ (a : Fin 512) (j : Fin 512), prj (fun a => rms (X a) g) Wu a j = p (T a) ⟨512 + j.val, by omega⟩)
    (hv : ∀ (a : Fin 512) (j : Fin 512), prj (fun a => rms (X a) g) Wv a j = p (T a) ⟨1024 + j.val, by omega⟩)
    (hy : ∀ (a : Fin 512) (j : Fin 512), prj (fun a => rms (X a) g) Wy a j = p (T a) ⟨1536 + j.val, by omega⟩)
    (ha : ∀ (a : Fin 512) (j : Fin 1024), prj (fun a => rms (X a) g) Wa a j = p (T a) ⟨2048 + j.val, by omega⟩)
    (hb : ∀ (a : Fin 512) (j : Fin 1024), prj (fun a => rms (X a) g) Wb a j = p (T a) ⟨3072 + j.val, by omega⟩)
    (hs : ∀ j : Fin 512, s' j = s (ix2 ⟨j.val / 64, by omega⟩ ⟨j.val % 64, by omega⟩))
    (hbb : ∀ j : Fin 512, b' j = bb (ix2 ⟨j.val / 64, by omega⟩ ⟨j.val % 64, by omega⟩))
    (hws : ∀ (q : Fin 4) (t : Fin 256) (r : Fin 128), ws' q t r = ws (ix3 ⟨q.val * 2 + t.val / 128, by omega⟩ ⟨t.val % 128, by omega⟩ r))
    (hbias : ∀ (a : Fin 128) (x : Fin 512), bias a x = bs (ix2 ⟨x.val / 64, by omega⟩ a)) (hG : IsGroup G) (hG' : IsGroup G')
    (a : Fin 512) (k : Fin 1024) :
    tile X O g Wz Wu Wv Wy Wa Wb s' b' ws' bias G G' ua ub wo fg a k
      = rms (fun k => X a k + ∑ j : Fin 1024, (Ideal.logistic (p (T a) ⟨2048 + j.val, by omega⟩)
            * ∑ x : Fin 512, O a x * silu (p (T a) ⟨x.val, by omega⟩) * ua x j
          + Ideal.logistic (p (T a) ⟨3072 + j.val, by omega⟩) * ∑ x : Fin 512, gelu (p (T a) ⟨512 + x.val, by omega⟩) * mixV p s bb ws bs (T a) x
            * silu (p (T a) ⟨1536 + x.val, by omega⟩) * ub x j) * wo j k) fg k := by
  have hn : vnorm (fun a => rms (X a) g) Wv G G' s' b' = pnrm (fun a j => gelu (p (T a) ⟨1024 + j.val, by omega⟩)) s' b' := by
    unfold vnorm
    simp only [hv]
    exact nrm_eq _ (fun a j => real_gelu (hp _ _)) G G' hG hG' s' b'
  have hm := mixed_eq p n T hT s bb ws bs ws' bias (pnrm (fun a j => gelu (p (T a) ⟨1024 + j.val, by omega⟩)) s' b')
    (pnrm_eq p T s' b' s bb hs hbb) hws hbias
  unfold tile path
  rw [hn]
  simp only [hz, hu, hy, ha, hb, hm]
  rfl

/-- One row of the result by the plain formula. -/
def plain (X : S8x4096x1024.Idx → EReal) (O : S8x4096x512.Idx → EReal) (g : S1024.Idx → EReal) (W : S1024x5632.Idx → EReal) (s bb : S8x64.Idx → EReal)
    (ws : S8x128x128.Idx → EReal) (bs : S8x128.Idx → EReal) (ua ub : S512x1024.Idx → EReal) (wo : S1024x1024.Idx → EReal) (fg : S1024.Idx → EReal)
    (b : Fin 8) (t : Fin 4096) (k : Fin 1024) : EReal :=
  rms (fun k => X (ix3 b t k) + ∑ j : Fin 1024, (Ideal.logistic (row X g W b t ⟨2048 + j.val, by omega⟩)
            * ∑ x : Fin 512, O (ix3 b t x) * silu (row X g W b t ⟨x.val, by omega⟩) * ua (ix2 x j)
          + Ideal.logistic (row X g W b t ⟨3072 + j.val, by omega⟩) * ∑ x : Fin 512, gelu (row X g W b t ⟨512 + x.val, by omega⟩)
            * mixV (row X g W b) s bb ws bs t x * silu (row X g W b t ⟨1536 + x.val, by omega⟩) * ub (ix2 x j)) * wo (ix2 j k)) (fun k => fg (ix1 k)) k

/-- The projections of finite rows through finite weights are real. -/
theorem real_row (X : S8x4096x1024.Idx → EReal) (g : S1024.Idx → EReal) (W : S1024x5632.Idx → EReal) (hX : ∀ i, IsReal (X i)) (hg : ∀ i, IsReal (g i))
    (hW : ∀ i, IsReal (W i)) (b : Fin 8) (t j : Fin 4096) : IsReal (row X g W b t j) :=
  isReal_sum fun x => (real_rms (fun k => hX _) (fun k => hg _) x).mul (hW _)

/-- The reference's result at a row is the plain formula. -/
theorem ref_out (V0 : Valuation τ sig (Elt 𝕀)) (X : FVec 𝕀 S8x4096x1024 .f32) (O : FVec 𝕀 S8x4096x512 .f32) (g : FVec 𝕀 S1024 .f32) (W : FVec 𝕀 S1024x5632 .f32) (s : FVec 𝕀 S8x64 .f32) (bb : FVec 𝕀 S8x64 .f32) (ws : FVec 𝕀 S8x128x128 .f32) (bs : FVec 𝕀 S8x128 .f32) (ua : FVec 𝕀 S512x1024 .f32) (ub : FVec 𝕀 S512x1024 .f32) (wo : FVec 𝕀 S1024x1024 .f32) (fg : FVec 𝕀 S1024 .f32)
    (h0 : V0 (Proc.devRef .tc main_arg0) = X) (h1 : V0 (Proc.devRef .tc main_arg1) = O) (h2 : V0 (Proc.devRef .tc main_arg2) = g) (h3 : V0 (Proc.devRef .tc main_arg3) = W) (h4 : V0 (Proc.devRef .tc main_arg4) = s) (h5 : V0 (Proc.devRef .tc main_arg5) = bb) (h6 : V0 (Proc.devRef .tc main_arg6) = ws) (h7 : V0 (Proc.devRef .tc main_arg7) = bs) (h8 : V0 (Proc.devRef .tc main_arg8) = ua) (h9 : V0 (Proc.devRef .tc main_arg9) = ub) (h10 : V0 (Proc.devRef .tc main_arg10) = wo) (h11 : V0 (Proc.devRef .tc main_arg11) = fg)
    (R : Fin 32768) (k : Fin 1024) :
    (shapeCast S32768x1024 (mulf (mulf (res_main_v115 V0) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v115 V0) (res_main_v115 V0)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (V0 (Proc.devRef .tc main_arg11))))) shapeCasts_S8x4096x1024_S32768x1024 : FVec 𝕀 S32768x1024 .f32) (ix2 R k)
      = plain X O g W s bb ws bs ua ub wo fg ⟨R.val / 4096, by omega⟩ ⟨R.val % 4096, by omega⟩ k := by
  have e := ref115 V0 (row X g W) (ref14 V0 X g W h0 h2 h3) _ (ref112 V0 (row X g W) (ref14 V0 X g W h0 h2 h3) s bb ws bs ub h4 h5 h6 h7 h9) X O ua wo h0 h1 h8 h10
  rw [h11]
  clear h0 h1 h2 h3 h4 h5 h6 h7 h8 h9 h10 h11
  generalize res_main_v115 V0 = Y at *
  change S8x4096x1024.Idx → EReal at Y
  change S1024.Idx → EReal at fg
  pointwise
  unfold plain rms
  simp only [e]

end Cert.Tail
end
-- ==== Proof.TailClose.lean ====
/- The call that follows the attention over the reals: where the rows, the first gain and the weights are finite the run
   leaves the reference's result. -/
module

public import proofs.«01_k».proof.Proof.TailValue
public import proofs.«01_k».proof.Proof.TailInputs
public import proofs.«01_k».proof.Proof.TailTile
public import proofs.«01_k».proof.Defs
public import Idealize.ShloMosaic.Lib.Claim

@[expose] public section
set_option maxHeartbeats 2000000
set_option maxRecDepth 16384
noncomputable section
namespace Cert.Tail
open Cert.ReferenceTailIdeal (S8x4096x1024 S8x4096x512 S1024 S1024x5632 S8x64 S8x128x128 S8x128 S512x1024 S1024x1024 S32768x1024)
open Cert.KernelTailIdeal (S32768x512 S1x1024 S1024x4096 S1x512 S4x256x128 S128x512 S1024x128)
open Idealize.ShloMosaic Idealize.ShloMosaic.TcCoe Idealize.SL.Sem

local notation "𝕀" => Idealize.ShloMosaic.Ideal

/-- The side conditions of the finiteness predicate. -/
theorem facts : Cert.Pre_finite_rows.Facts where
  bcast_S_S8x4096x1024 := by decide +kernel
  bcast_S_S1024 := by decide +kernel
  bcast_S_S1024x5632 := by decide +kernel

/-- An array of which every entry leaves nothing when taken from itself holds reals. -/
theorem reals_of_ones {s : Shape} (A Z : FVec 𝕀 s .f32) (hZ : ∀ i, Z i = 0) (h : cmpf .oeq (subf A A) Z = fun _ => 1#1) (i : s.Idx) : IsReal (A i) := by
  refine isReal_of_sub ?_
  have e : (cmpf .oeq (subf A A) Z) i = 1#1 := congrFun h i
  have e' : BitVec.ofBool (decide (A i - A i = Z i)) = 1#1 := e
  rw [hZ] at e'
  by_contra hn
  rw [decide_eq_false hn] at e'
  exact absurd e' (by decide)

/-- A row's output from the arrays as the call takes them is the plain formula on the arguments. -/
theorem whole_eq (X : S8x4096x1024.Idx → EReal) (O : S8x4096x512.Idx → EReal) (g : S1024.Idx → EReal) (W : S1024x5632.Idx → EReal) (s bb : S8x64.Idx → EReal)
    (ws : S8x128x128.Idx → EReal) (bs : S8x128.Idx → EReal) (ua ub : S512x1024.Idx → EReal) (wo : S1024x1024.Idx → EReal) (fg : S1024.Idx → EReal)
    (hX : ∀ i, IsReal (X i)) (hg : ∀ i, IsReal (g i)) (hW : ∀ i, IsReal (W i))
    (Xr : S32768x1024.Idx → EReal) (Or : S32768x512.Idx → EReal) (x2 : S1x1024.Idx → EReal) (x3 : S1024x4096.Idx → EReal) (x4 x5 : S1x512.Idx → EReal)
    (x6 : S4x256x128.Idx → EReal) (x7 : S128x512.Idx → EReal) (x8 : S1024x128.Idx → EReal) (x9 x10 : S512x1024.Idx → EReal) (x11 : S1024x1024.Idx → EReal)
    (x12 : S1x1024.Idx → EReal)
    (h0 : ∀ (R : Fin 32768) (k : Fin 1024), Xr (ix2 R k) = X (ix3 ⟨R.val / 4096, by omega⟩ ⟨R.val % 4096, by omega⟩ k))
    (h1 : ∀ (R : Fin 32768) (k : Fin 512), Or (ix2 R k) = O (ix3 ⟨R.val / 4096, by omega⟩ ⟨R.val % 4096, by omega⟩ k))
    (h2 : ∀ k : Fin 1024, x2 (ix2 0 k) = g (ix1 k))
    (h3 : ∀ (x : Fin 1024) (j : Fin 4096), x3 (ix2 x j) = W (ix2 x ⟨1536 + j.val, by omega⟩))
    (h4 : ∀ k : Fin 512, x4 (ix2 0 k) = s (ix2 ⟨k.val / 64, by omega⟩ ⟨k.val % 64, by omega⟩))
    (h5 : ∀ k : Fin 512, x5 (ix2 0 k) = bb (ix2 ⟨k.val / 64, by omega⟩ ⟨k.val % 64, by omega⟩))
    (h6 : ∀ (p : Fin 4) (t : Fin 256) (r : Fin 128), x6 (ix3 p t r) = ws (ix3 ⟨p.val * 2 + t.val / 128, by omega⟩ ⟨t.val % 128, by omega⟩ r))
    (h7 : ∀ (t : Fin 128) (j : Fin 512), x7 (ix2 t j) = bs (ix2 ⟨j.val / 64, by omega⟩ t))
    (h8 : ∀ (x : Fin 1024) (l : Fin 128), x8 (ix2 x l) = if x.val % 512 / 64 = l.val % 8 then ((1 / 64 : ℝ) : EReal) else 0)
    (h9 : ∀ (x : Fin 512) (j : Fin 1024), x9 (ix2 x j) = ua (ix2 x j)) (h10 : ∀ (x : Fin 512) (j : Fin 1024), x10 (ix2 x j) = ub (ix2 x j))
    (h11 : ∀ (x : Fin 1024) (j : Fin 1024), x11 (ix2 x j) = wo (ix2 x j)) (h12 : ∀ k : Fin 1024, x12 (ix2 0 k) = fg (ix1 k))
    (R : Fin 32768) (k : Fin 1024) :
    whole Xr Or x2 x3 x4 x5 x6 x7 x8 x9 x10 x11 x12 R k
      = plain X O g W s bb ws bs ua ub wo fg ⟨R.val / 4096, by omega⟩ ⟨R.val % 4096, by omega⟩ k := by
  have z1 : ∀ (n : Nat) (x : Fin n) (h : 0 + x.val < n), (⟨0 + x.val, h⟩ : Fin n) = x := fun n x h => Fin.ext (Nat.zero_add _)
  let T : Fin 512 → Fin 4096 := fun a => ⟨512 * (R.val % 4096 / 512) + a.val, by omega⟩
  have hrow : ∀ a : Fin 512, (⟨(512 * (R.val / 512) + a.val) / 4096, by omega⟩ : Fin 8) = ⟨R.val / 4096, by omega⟩
      ∧ (⟨(512 * (R.val / 512) + a.val) % 4096, by omega⟩ : Fin 4096) = T a := fun a =>
    ⟨Fin.ext (by dsimp only; omega), Fin.ext (by show _ = 512 * (R.val % 4096 / 512) + a.val; dsimp only; omega)⟩
  have eX : (fun (a : Fin 512) (k : Fin 1024) => Xr (ix2 ⟨512 * (R.val / 512) + a.val, by omega⟩ k)) = fun a k => X (ix3 ⟨R.val / 4096, by omega⟩ (T a) k) := by
    funext a k
    rw [h0]
    dsimp only
    rw [(hrow a).1, (hrow a).2]
  have eO : (fun (a : Fin 512) (k : Fin 512) => Or (ix2 ⟨512 * (R.val / 512) + a.val, by omega⟩ k)) = fun a k => O (ix3 ⟨R.val / 4096, by omega⟩ (T a) k) := by
    funext a k
    rw [h1]
    dsimp only
    rw [(hrow a).1, (hrow a).2]
  have e2 : sub 1 1024 x2 0 0 (by decide) (by decide) 0 = fun k => g (ix1 k) := by
    funext k
    unfold sub
    rw [z1, z1, h2]
  have e12 : sub 1 1024 x12 0 0 (by decide) (by decide) 0 = fun k => fg (ix1 k) := by
    funext k
    unfold sub
    rw [z1, z1, h12]
  have e9 : sub 512 1024 x9 0 0 (by decide) (by decide) = fun x j => ua (ix2 x j) := by
    funext x j
    unfold sub
    rw [z1, z1, h9]
  have e10 : sub 512 1024 x10 0 0 (by decide) (by decide) = fun x j => ub (ix2 x j) := by
    funext x j
    unfold sub
    rw [z1, z1, h10]
  have e11 : sub 1024 1024 x11 0 0 (by decide) (by decide) = fun x j => wo (ix2 x j) := by
    funext x j
    unfold sub
    rw [z1, z1, h11]
  have hprj : ∀ (n o : Nat) (ho : o + n ≤ 4096) (a : Fin 512) (j : Fin n),
      prj (fun a => rms ((fun a k => X (ix3 ⟨R.val / 4096, by omega⟩ (T a) k)) a) (fun k => g (ix1 k))) (sub 1024 n x3 0 o (by decide) ho) a j
        = row X g W ⟨R.val / 4096, by omega⟩ (T a) ⟨o + j.val, by omega⟩ := by
    intro n o ho a j
    unfold prj row sub
    refine Finset.sum_congr rfl fun x _ => ?_
    rw [z1, h3]
  unfold whole
  rw [eX, eO, e2, e12, e9, e10, e11]
  have ht : T ⟨R.val % 512, by omega⟩ = ⟨R.val % 4096, by omega⟩ := Fin.ext (by show 512 * (R.val % 4096 / 512) + R.val % 512 = R.val % 4096; omega)
  rw [tile_eq (row X g W ⟨R.val / 4096, by omega⟩) (fun t j => real_row X g W hX hg hW _ t j) (R.val % 4096 / 512) T (fun a => rfl) _ _ _ _ _ _ _ _ _ _ _ _ _ _ _ _ _ _ _
    s bb ws bs (fun a j => (hprj 512 0 (by decide) a j).trans (congrArg _ (Fin.ext (Nat.zero_add _)))) (hprj 512 512 (by decide)) (hprj 512 1024 (by decide))
    (hprj 512 1536 (by decide)) (hprj 1024 2048 (by decide)) (hprj 1024 3072 (by decide))
    (fun j => by unfold sub; rw [z1, z1, h4]) (fun j => by unfold sub; rw [z1, z1, h5]) h6 (fun a x => by unfold sub; rw [z1, z1, h7])
    (fun x l hl => by unfold sub; rw [z1, z1, h8, Nat.mod_eq_of_lt hl])
    (fun x l hl => by unfold sub; rw [z1, h8, Nat.mod_eq_of_lt hl]; simp only [Nat.zero_add])]
  rw [ht]
  rfl

/-- The closing step: the two programs over arguments that agree leave the same array. -/
theorem algebraic : Cert.algebraic_KernelTailIdeal_ReferenceTailIdeal_pre_finite_rows (hKernelTailIdeal := Cert.KernelTailIdeal.Gen.facts)
    (hReferenceTailIdeal := Cert.ReferenceTailIdeal.Gen.facts) (hPre_finite_rows := facts) := by
  intro m ρ m' ρ' hpre hagree
  refine ⟨fun c => res m c, ?_, ?_⟩
  · refine (θ_run Cert.KernelTailIdeal.defs _ _).mono (fun _ h c => ?_) (Cert.KernelTailIdeal.Value.run_blocks (F := Idealize.ShloMosaic.Ideal) m ρ)
    exact ⟨(h c).1.trans (final m c), (h c).2⟩
  · refine (θ_run Cert.ReferenceTailIdeal.defs _ _).mono (fun _ h c => ?_) (Cert.ReferenceTailIdeal.Value.run (F := Idealize.ShloMosaic.Ideal) m' ρ')
    refine ⟨(h c).1.trans ?_, (h c).2⟩
    obtain ⟨p0, p2, p3⟩ := hpre c
    have r0 := reals_of_ones (m ((c : Thread Cert.KernelTailIdeal.nD Cert.KernelTailIdeal.τ).loc Cert.KernelTailIdeal.main_arg0)) _ (fun _ => Ideal.ofBits_zero_f32) p0
    have r2 := reals_of_ones (m ((c : Thread Cert.KernelTailIdeal.nD Cert.KernelTailIdeal.τ).loc Cert.KernelTailIdeal.main_arg2)) _ (fun _ => Ideal.ofBits_zero_f32) p2
    have r3 := reals_of_ones (m ((c : Thread Cert.KernelTailIdeal.nD Cert.KernelTailIdeal.τ).loc Cert.KernelTailIdeal.main_arg3)) _ (fun _ => Ideal.ofBits_zero_f32) p3
    funext y
    idx_vars y
    refine (ref_out (StableHlo.launchContents m' c) (m ((c : Thread Cert.KernelTailIdeal.nD Cert.KernelTailIdeal.τ).loc Cert.KernelTailIdeal.main_arg0)) (m ((c : Thread Cert.KernelTailIdeal.nD Cert.KernelTailIdeal.τ).loc Cert.KernelTailIdeal.main_arg1)) (m ((c : Thread Cert.KernelTailIdeal.nD Cert.KernelTailIdeal.τ).loc Cert.KernelTailIdeal.main_arg2)) (m ((c : Thread Cert.KernelTailIdeal.nD Cert.KernelTailIdeal.τ).loc Cert.KernelTailIdeal.main_arg3)) (m ((c : Thread Cert.KernelTailIdeal.nD Cert.KernelTailIdeal.τ).loc Cert.KernelTailIdeal.main_arg4)) (m ((c : Thread Cert.KernelTailIdeal.nD Cert.KernelTailIdeal.τ).loc Cert.KernelTailIdeal.main_arg5)) (m ((c : Thread Cert.KernelTailIdeal.nD Cert.KernelTailIdeal.τ).loc Cert.KernelTailIdeal.main_arg6)) (m ((c : Thread Cert.KernelTailIdeal.nD Cert.KernelTailIdeal.τ).loc Cert.KernelTailIdeal.main_arg7)) (m ((c : Thread Cert.KernelTailIdeal.nD Cert.KernelTailIdeal.τ).loc Cert.KernelTailIdeal.main_arg8)) (m ((c : Thread Cert.KernelTailIdeal.nD Cert.KernelTailIdeal.τ).loc Cert.KernelTailIdeal.main_arg9)) (m ((c : Thread Cert.KernelTailIdeal.nD Cert.KernelTailIdeal.τ).loc Cert.KernelTailIdeal.main_arg10)) (m ((c : Thread Cert.KernelTailIdeal.nD Cert.KernelTailIdeal.τ).loc Cert.KernelTailIdeal.main_arg11))
      ((hagree c).1) ((hagree c).2.1) ((hagree c).2.2.1) ((hagree c).2.2.2.1) ((hagree c).2.2.2.2.1) ((hagree c).2.2.2.2.2.1) ((hagree c).2.2.2.2.2.2.1) ((hagree c).2.2.2.2.2.2.2.1) ((hagree c).2.2.2.2.2.2.2.2.1) ((hagree c).2.2.2.2.2.2.2.2.2.1) ((hagree c).2.2.2.2.2.2.2.2.2.2.1) ((hagree c).2.2.2.2.2.2.2.2.2.2.2) y0 y1).trans ?_
    exact (whole_eq (m ((c : Thread Cert.KernelTailIdeal.nD Cert.KernelTailIdeal.τ).loc Cert.KernelTailIdeal.main_arg0)) (m ((c : Thread Cert.KernelTailIdeal.nD Cert.KernelTailIdeal.τ).loc Cert.KernelTailIdeal.main_arg1)) (m ((c : Thread Cert.KernelTailIdeal.nD Cert.KernelTailIdeal.τ).loc Cert.KernelTailIdeal.main_arg2)) (m ((c : Thread Cert.KernelTailIdeal.nD Cert.KernelTailIdeal.τ).loc Cert.KernelTailIdeal.main_arg3)) (m ((c : Thread Cert.KernelTailIdeal.nD Cert.KernelTailIdeal.τ).loc Cert.KernelTailIdeal.main_arg4)) (m ((c : Thread Cert.KernelTailIdeal.nD Cert.KernelTailIdeal.τ).loc Cert.KernelTailIdeal.main_arg5)) (m ((c : Thread Cert.KernelTailIdeal.nD Cert.KernelTailIdeal.τ).loc Cert.KernelTailIdeal.main_arg6)) (m ((c : Thread Cert.KernelTailIdeal.nD Cert.KernelTailIdeal.τ).loc Cert.KernelTailIdeal.main_arg7)) (m ((c : Thread Cert.KernelTailIdeal.nD Cert.KernelTailIdeal.τ).loc Cert.KernelTailIdeal.main_arg8)) (m ((c : Thread Cert.KernelTailIdeal.nD Cert.KernelTailIdeal.τ).loc Cert.KernelTailIdeal.main_arg9)) (m ((c : Thread Cert.KernelTailIdeal.nD Cert.KernelTailIdeal.τ).loc Cert.KernelTailIdeal.main_arg10)) (m ((c : Thread Cert.KernelTailIdeal.nD Cert.KernelTailIdeal.τ).loc Cert.KernelTailIdeal.main_arg11)) r0 r2 r3
      _ _ _ _ _ _ _ _ _ _ _ _ _ (in0 m c) (in18 m c) (in19 m c) (in21 m c) (in22 m c) (in23 m c) (in24 m c) (in17 m c) (in14 m c)
      (in25 m c) (in26 m c) (in27 m c) (in28 m c) y0 y1).symm

end Cert.Tail
end
-- ==== Proof.lean ====
/- What this directory claims of the three calls of the layer, and where each claim is proved: the attention call
   (Kernel), the call after it (KernelTail) and the call before it (KernelQkv). -/
module

public import proofs.«01_k».proof.Defs
public import proofs.«01_k».proof.Proof.AttnFrame
public import proofs.«01_k».proof.Proof.AttnIdealFrame
public import proofs.«01_k».proof.Proof.Gen.Kernel
public import proofs.«01_k».proof.Proof.Gen.KernelIdeal
public import proofs.«01_k».proof.Proof.Gen.KernelTail
public import proofs.«01_k».proof.Proof.Gen.KernelTail.Frame
public import proofs.«01_k».proof.Proof.Gen.KernelTailIdeal
public import proofs.«01_k».proof.Proof.Gen.KernelTailIdeal.Frame
public import proofs.«01_k».proof.Proof.Gen.KernelQkv
public import proofs.«01_k».proof.Proof.Gen.KernelQkv.Frame
public import proofs.«01_k».proof.Proof.Gen.KernelQkvIdeal
public import proofs.«01_k».proof.Proof.Gen.KernelQkvIdeal.Frame
public import proofs.«01_k».proof.Proof.Gen.ReferenceIdeal
public import proofs.«01_k».proof.Proof.Gen.ReferenceIdeal.Run
public import proofs.«01_k».proof.Proof.Gen.ReferenceTailIdeal
public import proofs.«01_k».proof.Proof.Gen.ReferenceTailIdeal.Run
public import proofs.«01_k».proof.Proof.Gen.ReferenceQkvIdeal
public import proofs.«01_k».proof.Proof.Gen.ReferenceQkvIdeal.Run
public import proofs.«01_k».proof.Proof.QkvValue
public import proofs.«01_k».proof.Proof.TailClose
public import Idealize.ShloMosaic.Init

@[expose] public section

noncomputable section

namespace Cert.Proof

open Idealize.ShloMosaic Idealize.SL.Sem

/-- The attention call runs, and leaves its arguments and every semaphore as it found them. -/
theorem frame_Kernel : Cert.quiescent_Kernel (hKernel := Cert.Kernel.Gen.facts) := fun m ρ _ => Cert.Kernel.Attn.frame m ρ

/-- The attention call over the reals runs, and leaves its arguments and every semaphore as it found them. -/
theorem frame_KernelIdeal : Cert.quiescent_KernelIdeal (hKernelIdeal := Cert.KernelIdeal.Gen.facts) := fun m ρ _ => Cert.KernelIdeal.Attn.frame m ρ

/-- The reference of the attention call runs, and leaves its arguments as it found them; it has no semaphore. -/
theorem frame_ReferenceIdeal : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2.2.2, sem_eq_zero_of_no_sems (by decide) r.2⟩)
    (Cert.ReferenceIdeal.Value.run (F := Ideal) m ρ)

/-- The tail call runs, and leaves its arguments and every semaphore as it found them. -/
theorem frame_KernelTail : Cert.quiescent_KernelTail (hKernelTail := Cert.KernelTail.Gen.facts) := fun m ρ _ => Cert.KernelTail.Gen.frame m ρ

/-- The tail call over the reals runs, and leaves its arguments and every semaphore as it found them. -/
theorem frame_KernelTailIdeal : Cert.quiescent_KernelTailIdeal (hKernelTailIdeal := Cert.KernelTailIdeal.Gen.facts) := fun m ρ _ => Cert.KernelTailIdeal.Gen.frame m ρ

/-- The reference of the tail call runs, and leaves its arguments as it found them; it has no semaphore. -/
theorem frame_ReferenceTailIdeal : Cert.quiescent_ReferenceTailIdeal (hReferenceTailIdeal := Cert.ReferenceTailIdeal.Gen.facts) := fun m ρ _ =>
  (θ_run (Cert.ReferenceTailIdeal.defs (F := Ideal)) _ _).mono
    (fun r h => ⟨fun c => (h c).2, sem_eq_zero_of_no_sems (by decide) r.2⟩)
    (Cert.ReferenceTailIdeal.Value.run (F := Ideal) m ρ)

/-- The projection call runs, and leaves its arguments and every semaphore as it found them. -/
theorem frame_KernelQkv : Cert.quiescent_KernelQkv (hKernelQkv := Cert.KernelQkv.Gen.facts) := fun m ρ _ => Cert.KernelQkv.Gen.frame m ρ

/-- The projection call over the reals runs, and leaves its arguments and every semaphore as it found them. -/
theorem frame_KernelQkvIdeal : Cert.quiescent_KernelQkvIdeal (hKernelQkvIdeal := Cert.KernelQkvIdeal.Gen.facts) := fun m ρ _ => Cert.KernelQkvIdeal.Gen.frame m ρ

/-- The reference of the projection call runs, and leaves its arguments as it found them; it has no semaphore. -/
theorem frame_ReferenceQkvIdeal : Cert.quiescent_ReferenceQkvIdeal (hReferenceQkvIdeal := Cert.ReferenceQkvIdeal.Gen.facts) := fun m ρ _ =>
  (θ_run (Cert.ReferenceQkvIdeal.defs (F := Ideal)) _ _).mono
    (fun r h => ⟨fun c => (h c).2.2.2, sem_eq_zero_of_no_sems (by decide) r.2⟩)
    (Cert.ReferenceQkvIdeal.Value.run (F := Ideal) m ρ)

/-- The three words of the attention call that are read as infinities. -/
theorem preserves_Kernel : Cert.preserves_Kernel_KernelIdeal :=
  ⟨IdealRules.named_const.statement Cert.KernelIdeal.κ "masked" .f32 0xF149F2CA#32 ⊥ rfl,
    IdealRules.named_const.statement Cert.KernelIdeal.κ "clamp" .f32 0x42200000#32 ⊤ rfl,
    IdealRules.named_const.statement Cert.KernelIdeal.κ "gone" .f32 0x42B00000#32 ⊤ rfl⟩

/-- All the claims. -/
theorem claim : Cert.Claim := ⟨Cert.Kernel.Gen.facts, Cert.KernelIdeal.Gen.facts, Cert.ReferenceIdeal.Gen.facts, Cert.KernelTail.Gen.facts, Cert.KernelTailIdeal.Gen.facts, Cert.ReferenceTailIdeal.Gen.facts, Cert.KernelQkv.Gen.facts, Cert.KernelQkvIdeal.Gen.facts, Cert.ReferenceQkvIdeal.Gen.facts, Cert.Tail.facts,
  frame_Kernel, frame_KernelIdeal, frame_ReferenceIdeal, frame_KernelTail, frame_KernelTailIdeal, fun m ρ _ => frame_KernelTailIdeal m ρ trivial, frame_ReferenceTailIdeal, fun m ρ _ => frame_ReferenceTailIdeal m ρ trivial, frame_KernelQkv, frame_KernelQkvIdeal, frame_ReferenceQkvIdeal, preserves_Kernel, trivial, Cert.Tail.algebraic, trivial, Cert.Projection.algebraic⟩

end Cert.Proof

end
